-- ==== Defs.lean ====
def Pre_Kernel2 (m : (ℓ : Loc Cert.Kernel2.nD Cert.Kernel2.τ Cert.Kernel2.sig) → Buf (Elt Bits) ℓ) : Prop :=
  True

def Pre_Kernel2_finite_attn [hPre_finite_attn : Cert.Pre_finite_attn.Facts] (m : (ℓ : Loc Cert.Kernel2.nD Cert.Kernel2.τ Cert.Kernel2.sig) → Buf (Elt Bits) ℓ) : Prop :=
  ∀ c : Dev Cert.Kernel2.nD,
    (Cert.Pre_finite_attn.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal (m : (ℓ : Loc Cert.Kernel2Ideal.nD Cert.Kernel2Ideal.τ Cert.Kernel2Ideal.sig) → Buf (Elt Ideal) ℓ) : Prop :=
  True

def Pre_Kernel2Ideal_finite_attn [hPre_finite_attn : Cert.Pre_finite_attn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attn [hPre_finite_attn : Cert.Pre_finite_attn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3_finite_dact [hPre_finite_dact : Cert.Pre_finite_dact.Facts] (m : (ℓ : Loc Cert.Kernel3.nD Cert.Kernel3.τ Cert.Kernel3.sig) → Buf (Elt Bits) ℓ) : Prop :=
  ∀ c : Dev Cert.Kernel3.nD,
    (Cert.Pre_finite_dact.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal (m : (ℓ : Loc Cert.Kernel3Ideal.nD Cert.Kernel3Ideal.τ Cert.Kernel3Ideal.sig) → Buf (Elt Ideal) ℓ) : Prop :=
  True

def Pre_Kernel3Ideal_finite_dact [hPre_finite_dact : Cert.Pre_finite_dact.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_dact.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_dact [hPre_finite_dact : Cert.Pre_finite_dact.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_dact.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4_finite_dn [hPre_finite_dn : Cert.Pre_finite_dn.Facts] (m : (ℓ : Loc Cert.Kernel4.nD Cert.Kernel4.τ Cert.Kernel4.sig) → Buf (Elt Bits) ℓ) : Prop :=
  ∀ c : Dev Cert.Kernel4.nD,
    (Cert.Pre_finite_dn.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal (m : (ℓ : Loc Cert.Kernel4Ideal.nD Cert.Kernel4Ideal.τ Cert.Kernel4Ideal.sig) → Buf (Elt Ideal) ℓ) : Prop :=
  True

def Pre_Kernel4Ideal_finite_dn [hPre_finite_dn : Cert.Pre_finite_dn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_dn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_dn [hPre_finite_dn : Cert.Pre_finite_dn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_dn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel9 (m : (ℓ : Loc Cert.Kernel9.nD Cert.Kernel9.τ Cert.Kernel9.sig) → Buf (Elt Bits) ℓ) : Prop :=
  True

def Pre_Kernel9_finite_dnx [hPre_finite_dnx : Cert.Pre_finite_dnx.Facts] (m : (ℓ : Loc Cert.Kernel9.nD Cert.Kernel9.τ Cert.Kernel9.sig) → Buf (Elt Bits) ℓ) : Prop :=
  ∀ c : Dev Cert.Kernel9.nD,
    (Cert.Pre_finite_dnx.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6)) (m ((c.tc : Thread Cert.Kernel9.nD Cert.Kernel9.τ).loc Cert.Kernel9.main_arg7)) (m ((c.tc : Thread Cert.Kernel9.nD Cert.Kernel9.τ).loc Cert.Kernel9.main_arg8))) = (fun _ => 1#1)

def Pre_Kernel9Ideal (m : (ℓ : Loc Cert.Kernel9Ideal.nD Cert.Kernel9Ideal.τ Cert.Kernel9Ideal.sig) → Buf (Elt Ideal) ℓ) : Prop :=
  True

def Pre_Kernel9Ideal_finite_dnx [hPre_finite_dnx : Cert.Pre_finite_dnx.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_dnx.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_dnx [hPre_finite_dnx : Cert.Pre_finite_dnx.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_dnx.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))) = (fun _ => 1#1)

def Pre_Kernel10 (m : (ℓ : Loc Cert.Kernel10.nD Cert.Kernel10.τ Cert.Kernel10.sig) → Buf (Elt Bits) ℓ) : Prop :=
  True

def Pre_Kernel10_finite_dnt [hPre_finite_dnt : Cert.Pre_finite_dnt.Facts] (m : (ℓ : Loc Cert.Kernel10.nD Cert.Kernel10.τ Cert.Kernel10.sig) → Buf (Elt Bits) ℓ) : Prop :=
  ∀ c : Dev Cert.Kernel10.nD,
    (Cert.Pre_finite_dnt.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5)) (m ((c.tc : Thread Cert.Kernel10.nD Cert.Kernel10.τ).loc Cert.Kernel10.main_arg6)) (m ((c.tc : Thread Cert.Kernel10.nD Cert.Kernel10.τ).loc Cert.Kernel10.main_arg7)) (m ((c.tc : Thread Cert.Kernel10.nD Cert.Kernel10.τ).loc Cert.Kernel10.main_arg8))) = (fun _ => 1#1)

def Pre_Kernel10Ideal (m : (ℓ : Loc Cert.Kernel10Ideal.nD Cert.Kernel10Ideal.τ Cert.Kernel10Ideal.sig) → Buf (Elt Ideal) ℓ) : Prop :=
  True

def Pre_Kernel10Ideal_finite_dnt [hPre_finite_dnt : Cert.Pre_finite_dnt.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_dnt.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_dnt [hPre_finite_dnt : Cert.Pre_finite_dnt.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_dnt.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20_finite_mix [hPre_finite_mix : Cert.Pre_finite_mix.Facts] (m : (ℓ : Loc Cert.Kernel20.nD Cert.Kernel20.τ Cert.Kernel20.sig) → Buf (Elt Bits) ℓ) : Prop :=
  ∀ c : Dev Cert.Kernel20.nD,
    (Cert.Pre_finite_mix.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2)) (m ((c.tc : Thread Cert.Kernel20.nD Cert.Kernel20.τ).loc Cert.Kernel20.main_arg3)) (m ((c.tc : Thread Cert.Kernel20.nD Cert.Kernel20.τ).loc Cert.Kernel20.main_arg4))) = (fun _ => 1#1)

def Pre_Kernel20Ideal (m : (ℓ : Loc Cert.Kernel20Ideal.nD Cert.Kernel20Ideal.τ Cert.Kernel20Ideal.sig) → Buf (Elt Ideal) ℓ) : Prop :=
  True

def Pre_Kernel20Ideal_finite_mix [hPre_finite_mix : Cert.Pre_finite_mix.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_mix.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_mix [hPre_finite_mix : Cert.Pre_finite_mix.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_mix.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2_pre_finite_attn [hKernel2 : Cert.Kernel2.Facts] [hPre_finite_attn : Cert.Pre_finite_attn.Facts] : Prop :=
  ∀ (m : (ℓ : Loc Cert.Kernel2.nD Cert.Kernel2.τ Cert.Kernel2.sig) → Buf (Elt Bits) ℓ) (g : Dev Cert.Kernel2.nD → PrngReg), Pre_Kernel2_finite_attn m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_attn [hKernel2Ideal : Cert.Kernel2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_attn [hReference2Ideal : Cert.Reference2Ideal.Facts] [hPre_finite_attn : Cert.Pre_finite_attn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3_pre_finite_dact [hKernel3 : Cert.Kernel3.Facts] [hPre_finite_dact : Cert.Pre_finite_dact.Facts] : Prop :=
  ∀ (m : (ℓ : Loc Cert.Kernel3.nD Cert.Kernel3.τ Cert.Kernel3.sig) → Buf (Elt Bits) ℓ) (g : Dev Cert.Kernel3.nD → PrngReg), Pre_Kernel3_finite_dact m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_dact [hKernel3Ideal : Cert.Kernel3Ideal.Facts] [hPre_finite_dact : Cert.Pre_finite_dact.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_dact m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_dact [hReference3Ideal : Cert.Reference3Ideal.Facts] [hPre_finite_dact : Cert.Pre_finite_dact.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_dact m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4_pre_finite_dn [hKernel4 : Cert.Kernel4.Facts] [hPre_finite_dn : Cert.Pre_finite_dn.Facts] : Prop :=
  ∀ (m : (ℓ : Loc Cert.Kernel4.nD Cert.Kernel4.τ Cert.Kernel4.sig) → Buf (Elt Bits) ℓ) (g : Dev Cert.Kernel4.nD → PrngReg), Pre_Kernel4_finite_dn m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_dn [hKernel4Ideal : Cert.Kernel4Ideal.Facts] [hPre_finite_dn : Cert.Pre_finite_dn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_dn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_dn [hReference4Ideal : Cert.Reference4Ideal.Facts] [hPre_finite_dn : Cert.Pre_finite_dn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_dn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9_pre_finite_dnx [hKernel9 : Cert.Kernel9.Facts] [hPre_finite_dnx : Cert.Pre_finite_dnx.Facts] : Prop :=
  ∀ (m : (ℓ : Loc Cert.Kernel9.nD Cert.Kernel9.τ Cert.Kernel9.sig) → Buf (Elt Bits) ℓ) (g : Dev Cert.Kernel9.nD → PrngReg), Pre_Kernel9_finite_dnx m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Kernel9Ideal_pre_finite_dnx [hKernel9Ideal : Cert.Kernel9Ideal.Facts] [hPre_finite_dnx : Cert.Pre_finite_dnx.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_dnx m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Reference9Ideal_pre_finite_dnx [hReference9Ideal : Cert.Reference9Ideal.Facts] [hPre_finite_dnx : Cert.Pre_finite_dnx.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_dnx m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10_pre_finite_dnt [hKernel10 : Cert.Kernel10.Facts] [hPre_finite_dnt : Cert.Pre_finite_dnt.Facts] : Prop :=
  ∀ (m : (ℓ : Loc Cert.Kernel10.nD Cert.Kernel10.τ Cert.Kernel10.sig) → Buf (Elt Bits) ℓ) (g : Dev Cert.Kernel10.nD → PrngReg), Pre_Kernel10_finite_dnt m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel10Ideal_pre_finite_dnt [hKernel10Ideal : Cert.Kernel10Ideal.Facts] [hPre_finite_dnt : Cert.Pre_finite_dnt.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_dnt m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_finite_dnt [hReference10Ideal : Cert.Reference10Ideal.Facts] [hPre_finite_dnt : Cert.Pre_finite_dnt.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_dnt m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20_pre_finite_mix [hKernel20 : Cert.Kernel20.Facts] [hPre_finite_mix : Cert.Pre_finite_mix.Facts] : Prop :=
  ∀ (m : (ℓ : Loc Cert.Kernel20.nD Cert.Kernel20.τ Cert.Kernel20.sig) → Buf (Elt Bits) ℓ) (g : Dev Cert.Kernel20.nD → PrngReg), Pre_Kernel20_finite_mix m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite_mix [hKernel20Ideal : Cert.Kernel20Ideal.Facts] [hPre_finite_mix : Cert.Pre_finite_mix.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_mix m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite_mix [hReference20Ideal : Cert.Reference20Ideal.Facts] [hPre_finite_mix : Cert.Pre_finite_mix.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_mix m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel2_Kernel2Ideal : Prop :=
  IdealRules.named_const.Statement Cert.Kernel2Ideal.κ "mask" .f32 0xF149F2CA#32 ⊥

def algebraic_Kernel2Ideal_Reference2Ideal_pre_finite_attn [hKernel2Ideal : Cert.Kernel2Ideal.Facts] [hReference2Ideal : Cert.Reference2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)) (v4 : (c : Dev Cert.Kernel2Ideal.nD) → Buf (Elt Ideal) ((c.tc : Thread Cert.Kernel2Ideal.nD Cert.Kernel2Ideal.τ).loc Cert.Kernel2Ideal.main_v38_4)) (v5 : (c : Dev Cert.Kernel2Ideal.nD) → Buf (Elt Ideal) ((c.tc : Thread Cert.Kernel2Ideal.nD Cert.Kernel2Ideal.τ).loc Cert.Kernel2Ideal.main_v38_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_v38_4) = v4 c
          ∧ r.2.mem ((c.tc : Thread Cert.Kernel2Ideal.nD Cert.Kernel2Ideal.τ).loc Cert.Kernel2Ideal.main_v38_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_v88) = v4 c
          ∧ r.2.mem ((c.tc : Thread Cert.Reference2Ideal.nD Cert.Reference2Ideal.τ).loc Cert.Reference2Ideal.main_v89) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_dact [hKernel3Ideal : Cert.Kernel3Ideal.Facts] [hReference3Ideal : Cert.Reference3Ideal.Facts] [hPre_finite_dact : Cert.Pre_finite_dact.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_dact m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_dn [hKernel4Ideal : Cert.Kernel4Ideal.Facts] [hReference4Ideal : Cert.Reference4Ideal.Facts] [hPre_finite_dn : Cert.Pre_finite_dn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_dn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel9_Kernel9Ideal : Prop :=
  True

def algebraic_Kernel9Ideal_Reference9Ideal_pre_finite_dnx [hKernel9Ideal : Cert.Kernel9Ideal.Facts] [hReference9Ideal : Cert.Reference9Ideal.Facts] [hPre_finite_dnx : Cert.Pre_finite_dnx.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_dnx m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v14_0)) (v1 : (c : Dev Cert.Kernel9Ideal.nD) → Buf (Elt Ideal) ((c.tc : Thread Cert.Kernel9Ideal.nD Cert.Kernel9Ideal.τ).loc Cert.Kernel9Ideal.main_v14_1)) (v2 : (c : Dev Cert.Kernel9Ideal.nD) → Buf (Elt Ideal) ((c.tc : Thread Cert.Kernel9Ideal.nD Cert.Kernel9Ideal.τ).loc Cert.Kernel9Ideal.main_v14_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_0) = v0 c
          ∧ r.2.mem ((c.tc : Thread Cert.Kernel9Ideal.nD Cert.Kernel9Ideal.τ).loc Cert.Kernel9Ideal.main_v14_1) = v1 c
          ∧ r.2.mem ((c.tc : Thread Cert.Kernel9Ideal.nD Cert.Kernel9Ideal.τ).loc Cert.Kernel9Ideal.main_v14_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v78) = v0 c
          ∧ r.2.mem ((c.tc : Thread Cert.Reference9Ideal.nD Cert.Reference9Ideal.τ).loc Cert.Reference9Ideal.main_v79) = v1 c
          ∧ r.2.mem ((c.tc : Thread Cert.Reference9Ideal.nD Cert.Reference9Ideal.τ).loc Cert.Reference9Ideal.main_v80) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal_pre_finite_dnt [hKernel10Ideal : Cert.Kernel10Ideal.Facts] [hReference10Ideal : Cert.Reference10Ideal.Facts] [hPre_finite_dnt : Cert.Pre_finite_dnt.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_dnt m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v14_0)) (v1 : (c : Dev Cert.Kernel10Ideal.nD) → Buf (Elt Ideal) ((c.tc : Thread Cert.Kernel10Ideal.nD Cert.Kernel10Ideal.τ).loc Cert.Kernel10Ideal.main_v14_1)) (v2 : (c : Dev Cert.Kernel10Ideal.nD) → Buf (Elt Ideal) ((c.tc : Thread Cert.Kernel10Ideal.nD Cert.Kernel10Ideal.τ).loc Cert.Kernel10Ideal.main_v14_2)) (v3 : (c : Dev Cert.Kernel10Ideal.nD) → Buf (Elt Ideal) ((c.tc : Thread Cert.Kernel10Ideal.nD Cert.Kernel10Ideal.τ).loc Cert.Kernel10Ideal.main_v14_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14_0) = v0 c
          ∧ r.2.mem ((c.tc : Thread Cert.Kernel10Ideal.nD Cert.Kernel10Ideal.τ).loc Cert.Kernel10Ideal.main_v14_1) = v1 c
          ∧ r.2.mem ((c.tc : Thread Cert.Kernel10Ideal.nD Cert.Kernel10Ideal.τ).loc Cert.Kernel10Ideal.main_v14_2) = v2 c
          ∧ r.2.mem ((c.tc : Thread Cert.Kernel10Ideal.nD Cert.Kernel10Ideal.τ).loc Cert.Kernel10Ideal.main_v14_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v78) = v1 c
          ∧ r.2.mem ((c.tc : Thread Cert.Reference10Ideal.nD Cert.Reference10Ideal.τ).loc Cert.Reference10Ideal.main_v79) = v2 c
          ∧ r.2.mem ((c.tc : Thread Cert.Reference10Ideal.nD Cert.Reference10Ideal.τ).loc Cert.Reference10Ideal.main_v80) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)) (v3 : (c : Dev Cert.Kernel11Ideal.nD) → Buf (Elt Ideal) ((c.tc : Thread Cert.Kernel11Ideal.nD Cert.Kernel11Ideal.τ).loc Cert.Kernel11Ideal.main_v9_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_v9_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_v44) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)) (v3 : (c : Dev Cert.Kernel12Ideal.nD) → Buf (Elt Ideal) ((c.tc : Thread Cert.Kernel12Ideal.nD Cert.Kernel12Ideal.τ).loc Cert.Kernel12Ideal.main_v6_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_v6_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_v31) = v2 c
          ∧ r.2.mem ((c.tc : Thread Cert.Reference12Ideal.nD Cert.Reference12Ideal.τ).loc Cert.Reference12Ideal.main_v32) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_v28) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal_pre_finite_mix [hKernel20Ideal : Cert.Kernel20Ideal.Facts] [hReference20Ideal : Cert.Reference20Ideal.Facts] [hPre_finite_mix : Cert.Pre_finite_mix.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_mix m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v38) = v0 c
          ∧ r.2.mem ((c.tc : Thread Cert.Reference20Ideal.nD Cert.Reference20Ideal.τ).loc Cert.Reference20Ideal.main_v39) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite_attn : Cert.Pre_finite_attn.Facts) (hPre_finite_dact : Cert.Pre_finite_dact.Facts) (hPre_finite_dn : Cert.Pre_finite_dn.Facts) (hPre_finite_dnx : Cert.Pre_finite_dnx.Facts) (hPre_finite_dnt : Cert.Pre_finite_dnt.Facts) (hPre_finite_mix : Cert.Pre_finite_mix.Facts),
    quiescent_Kernel2 (hKernel2 := hKernel2)
    ∧ quiescent_Kernel2_pre_finite_attn (hKernel2 := hKernel2) (hPre_finite_attn := hPre_finite_attn)
    ∧ quiescent_Kernel2Ideal (hKernel2Ideal := hKernel2Ideal)
    ∧ quiescent_Kernel2Ideal_pre_finite_attn (hKernel2Ideal := hKernel2Ideal) (hPre_finite_attn := hPre_finite_attn)
    ∧ quiescent_Reference2Ideal (hReference2Ideal := hReference2Ideal)
    ∧ quiescent_Reference2Ideal_pre_finite_attn (hReference2Ideal := hReference2Ideal) (hPre_finite_attn := hPre_finite_attn)
    ∧ quiescent_Kernel3 (hKernel3 := hKernel3)
    ∧ quiescent_Kernel3_pre_finite_dact (hKernel3 := hKernel3) (hPre_finite_dact := hPre_finite_dact)
    ∧ quiescent_Kernel3Ideal (hKernel3Ideal := hKernel3Ideal)
    ∧ quiescent_Kernel3Ideal_pre_finite_dact (hKernel3Ideal := hKernel3Ideal) (hPre_finite_dact := hPre_finite_dact)
    ∧ quiescent_Reference3Ideal (hReference3Ideal := hReference3Ideal)
    ∧ quiescent_Reference3Ideal_pre_finite_dact (hReference3Ideal := hReference3Ideal) (hPre_finite_dact := hPre_finite_dact)
    ∧ quiescent_Kernel4 (hKernel4 := hKernel4)
    ∧ quiescent_Kernel4_pre_finite_dn (hKernel4 := hKernel4) (hPre_finite_dn := hPre_finite_dn)
    ∧ quiescent_Kernel4Ideal (hKernel4Ideal := hKernel4Ideal)
    ∧ quiescent_Kernel4Ideal_pre_finite_dn (hKernel4Ideal := hKernel4Ideal) (hPre_finite_dn := hPre_finite_dn)
    ∧ quiescent_Reference4Ideal (hReference4Ideal := hReference4Ideal)
    ∧ quiescent_Reference4Ideal_pre_finite_dn (hReference4Ideal := hReference4Ideal) (hPre_finite_dn := hPre_finite_dn)
    ∧ quiescent_Kernel9 (hKernel9 := hKernel9)
    ∧ quiescent_Kernel9_pre_finite_dnx (hKernel9 := hKernel9) (hPre_finite_dnx := hPre_finite_dnx)
    ∧ quiescent_Kernel9Ideal (hKernel9Ideal := hKernel9Ideal)
    ∧ quiescent_Kernel9Ideal_pre_finite_dnx (hKernel9Ideal := hKernel9Ideal) (hPre_finite_dnx := hPre_finite_dnx)
    ∧ quiescent_Reference9Ideal (hReference9Ideal := hReference9Ideal)
    ∧ quiescent_Reference9Ideal_pre_finite_dnx (hReference9Ideal := hReference9Ideal) (hPre_finite_dnx := hPre_finite_dnx)
    ∧ quiescent_Kernel10 (hKernel10 := hKernel10)
    ∧ quiescent_Kernel10_pre_finite_dnt (hKernel10 := hKernel10) (hPre_finite_dnt := hPre_finite_dnt)
    ∧ quiescent_Kernel10Ideal (hKernel10Ideal := hKernel10Ideal)
    ∧ quiescent_Kernel10Ideal_pre_finite_dnt (hKernel10Ideal := hKernel10Ideal) (hPre_finite_dnt := hPre_finite_dnt)
    ∧ quiescent_Reference10Ideal (hReference10Ideal := hReference10Ideal)
    ∧ quiescent_Reference10Ideal_pre_finite_dnt (hReference10Ideal := hReference10Ideal) (hPre_finite_dnt := hPre_finite_dnt)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20_pre_finite_mix (hKernel20 := hKernel20) (hPre_finite_mix := hPre_finite_mix)
    ∧ quiescent_Kernel20Ideal (hKernel20Ideal := hKernel20Ideal)
    ∧ quiescent_Kernel20Ideal_pre_finite_mix (hKernel20Ideal := hKernel20Ideal) (hPre_finite_mix := hPre_finite_mix)
    ∧ quiescent_Reference20Ideal (hReference20Ideal := hReference20Ideal)
    ∧ quiescent_Reference20Ideal_pre_finite_mix (hReference20Ideal := hReference20Ideal) (hPre_finite_mix := hPre_finite_mix)
    ∧ preserves_Kernel2_Kernel2Ideal
    ∧ algebraic_Kernel2Ideal_Reference2Ideal_pre_finite_attn (hKernel2Ideal := hKernel2Ideal) (hReference2Ideal := hReference2Ideal) (hPre_finite_attn := hPre_finite_attn)
    ∧ preserves_Kernel3_Kernel3Ideal
    ∧ algebraic_Kernel3Ideal_Reference3Ideal_pre_finite_dact (hKernel3Ideal := hKernel3Ideal) (hReference3Ideal := hReference3Ideal) (hPre_finite_dact := hPre_finite_dact)
    ∧ preserves_Kernel4_Kernel4Ideal
    ∧ algebraic_Kernel4Ideal_Reference4Ideal_pre_finite_dn (hKernel4Ideal := hKernel4Ideal) (hReference4Ideal := hReference4Ideal) (hPre_finite_dn := hPre_finite_dn)
    ∧ preserves_Kernel9_Kernel9Ideal
    ∧ algebraic_Kernel9Ideal_Reference9Ideal_pre_finite_dnx (hKernel9Ideal := hKernel9Ideal) (hReference9Ideal := hReference9Ideal) (hPre_finite_dnx := hPre_finite_dnx)
    ∧ preserves_Kernel10_Kernel10Ideal
    ∧ algebraic_Kernel10Ideal_Reference10Ideal_pre_finite_dnt (hKernel10Ideal := hKernel10Ideal) (hReference10Ideal := hReference10Ideal) (hPre_finite_dnt := hPre_finite_dnt)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_mix (hKernel20Ideal := hKernel20Ideal) (hReference20Ideal := hReference20Ideal) (hPre_finite_mix := hPre_finite_mix)
-- ==== Pre_finite_attn.lean ====
abbrev S2x2048x8x128 : Shape := ⟨4, ![2, 2048, 8, 128]⟩
abbrev S2x2048x8x64 : Shape := ⟨4, ![2, 2048, 8, 64]⟩
abbrev S2x2048x64 : Shape := ⟨3, ![2, 2048, 64]⟩
abbrev S4096x64 : Shape := ⟨2, ![4096, 64]⟩
abbrev S_ : Shape := ⟨0, ![]⟩

class Facts : Prop where
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_
  h_S_ : 0 < S_.numel
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  bcast_S_S2x2048x64 : S_.BroadcastsInDim S2x2048x64 (![] : Fin 0 → Fin S2x2048x64.rank)
  reducesTo_S2x2048x64_S_d0_1_2 : S2x2048x64.ReducesTo [0, 1, 2] S_

variable [Facts]

def fn_part1 {F : FTy → Type} [FloatOps F] (main_arg4 : FVec F S2x2048x8x128 .f32) (main_arg5 : FVec F S2x2048x8x128 .f32) (main_v3 : IVec S_ 1) (main_v7 : IVec S_ 1) (main_v11 : IVec S_ 1) (main_v15 : IVec S_ 1) : IVec S_ 1 :=
  let main_v16 : FVec F S2x2048x8x128 .f32 := Host.absf main_arg4
  let main_cst_6 : FVec F S_ .f32 := constant S_ .f32 0x7F800000#32
  let main_v17 : FVec F S2x2048x8x128 .f32 := broadcastInDim S2x2048x8x128 ![] bcast_S_S2x2048x8x128 main_cst_6
  let main_v18 : IVec S2x2048x8x128 1 := cmpf .olt main_v16 main_v17
  let main_c_7 : IVec S_ 1 := constantI S_ 1 1#1
  let main_v19 : IVec S_ 1 := (fun x v => Host.reduce IntOp.andi x v reducesTo_S2x2048x8x128_S_d0_1_2_3 h_S_) main_v18 main_c_7
  let main_v20 : FVec F S2x2048x8x128 .f32 := Host.absf main_arg5
  let main_cst_8 : FVec F S_ .f32 := constant S_ .f32 0x7F800000#32
  let main_v21 : FVec F S2x2048x8x128 .f32 := broadcastInDim S2x2048x8x128 ![] bcast_S_S2x2048x8x128 main_cst_8
  let main_v22 : IVec S2x2048x8x128 1 := cmpf .olt main_v20 main_v21
  let main_c_9 : IVec S_ 1 := constantI S_ 1 1#1
  let main_v23 : IVec S_ 1 := (fun x v => Host.reduce IntOp.andi x v reducesTo_S2x2048x8x128_S_d0_1_2_3 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x2048x8x128 .f32) (main_arg1 : FVec F S2x2048x8x64 .f32) (main_arg2 : FVec F S2x2048x8x128 .f32) (main_arg3 : FVec F S2x2048x64 .f32) (main_arg4 : FVec F S2x2048x8x128 .f32) (main_arg5 : FVec F S2x2048x8x128 .f32) (main_arg6 : FVec F S4096x64 .f32) (main_arg7 : FVec F S4096x64 .f32) : IVec S_ 1 :=
  let main_v0 : FVec F S2x2048x8x128 .f32 := Host.absf main_arg0
  let main_cst : FVec F S_ .f32 := constant S_ .f32 0x7F800000#32
  let main_v1 : FVec F S2x2048x8x128 .f32 := broadcastInDim S2x2048x8x128 ![] bcast_S_S2x2048x8x128 main_cst
  let main_v2 : IVec S2x2048x8x128 1 := cmpf .olt main_v0 main_v1
  let main_c : IVec S_ 1 := constantI S_ 1 1#1
  let main_v3 : IVec S_ 1 := (fun x v => Host.reduce IntOp.andi x v reducesTo_S2x2048x8x128_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : FVec F S2x2048x8x128 .f32 := Host.absf main_arg2
  let main_cst_2 : FVec F S_ .f32 := constant S_ .f32 0x7F800000#32
  let main_v9 : FVec F S2x2048x8x128 .f32 := broadcastInDim S2x2048x8x128 ![] bcast_S_S2x2048x8x128 main_cst_2
  let main_v10 : IVec S2x2048x8x128 1 := cmpf .olt main_v8 main_v9
  let main_c_3 : IVec S_ 1 := constantI S_ 1 1#1
  let main_v11 : IVec S_ 1 := (fun x v => Host.reduce IntOp.andi x v reducesTo_S2x2048x8x128_S_d0_1_2_3 h_S_) main_v10 main_c_3
  let main_v12 : FVec F S2x2048x64 .f32 := Host.absf main_arg3
  let main_cst_4 : FVec F S_ .f32 := constant S_ .f32 0x7F800000#32
  let main_v13 : FVec F S2x2048x64 .f32 := broadcastInDim S2x2048x64 ![] bcast_S_S2x2048x64 main_cst_4
  let main_v14 : IVec S2x2048x64 1 := cmpf .olt main_v12 main_v13
  let main_c_5 : IVec S_ 1 := constantI S_ 1 1#1
  let main_v15 : IVec S_ 1 := (fun x v => Host.reduce IntOp.andi x v reducesTo_S2x2048x64_S_d0_1_2 h_S_) main_v14 main_c_5
  fn_part1 (F := F) main_arg4 main_arg5 main_v3 main_v7 main_v11 main_v15
-- ==== Pre_finite_dact.lean ====
abbrev S4096x2816 : Shape := ⟨2, ![4096, 2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x2816 .f32) (main_arg1 : FVec F S4096x2816 .f32) (main_arg2 : FVec F S2816x1024 .f32) (main_arg3 : FVec F S1024 .f32) (main_arg4 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_finite_dn.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg4 : FVec F S4096x2816 .f32) (main_arg5 : FVec F S4096x2816 .f32) (main_arg6 : FVec F S4096x1024 .f32) (main_v3 : IVec S_ 1) (main_v7 : IVec S_ 1) (main_v11 : IVec S_ 1) (main_v15 : IVec S_ 1) : IVec S_ 1 :=
  let main_v16 : FVec F S4096x2816 .f32 := Host.absf main_arg4
  let main_cst_6 : FVec F S_ .f32 := constant S_ .f32 0x7F800000#32
  let main_v17 : FVec F S4096x2816 .f32 := broadcastInDim S4096x2816 ![] bcast_S_S4096x2816 main_cst_6
  let main_v18 : IVec S4096x2816 1 := cmpf .olt main_v16 main_v17
  let main_c_7 : IVec S_ 1 := constantI S_ 1 1#1
  let main_v19 : IVec S_ 1 := (fun x v => Host.reduce IntOp.andi x v reducesTo_S4096x2816_S_d0_1 h_S_) main_v18 main_c_7
  let main_v20 : FVec F S4096x2816 .f32 := Host.absf main_arg5
  let main_cst_8 : FVec F S_ .f32 := constant S_ .f32 0x7F800000#32
  let main_v21 : FVec F S4096x2816 .f32 := broadcastInDim S4096x2816 ![] bcast_S_S4096x2816 main_cst_8
  let main_v22 : IVec S4096x2816 1 := cmpf .olt main_v20 main_v21
  let main_c_9 : IVec S_ 1 := constantI S_ 1 1#1
  let main_v23 : IVec S_ 1 := (fun x v => Host.reduce IntOp.andi x v reducesTo_S4096x2816_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x2816 .f32) (main_arg5 : FVec F S4096x2816 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_finite_dnt.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg8 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024 .f32 := Host.absf main_arg8
  let main_cst_14 : FVec F S_ .f32 := constant S_ .f32 0x7F800000#32
  let main_v33 : FVec F S1024 .f32 := broadcastInDim S1024 ![] bcast_S_S1024 main_cst_14
  let main_v34 : IVec S1024 1 := cmpf .olt main_v32 main_v33
  let main_c_15 : IVec S_ 1 := constantI S_ 1 1#1
  let main_v35 : IVec S_ 1 := (fun x v => Host.reduce IntOp.andi x v reducesTo_S1024_S_d0 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S4096x2816 .f32) (main_arg5 : FVec F S4096x2816 .f32) (main_arg6 : FVec F S4096x1024 .f32) (main_arg7 : FVec F S4096x1024 .f32) (main_arg8 : FVec F S1024 .f32) (main_v3 : IVec S_ 1) (main_v7 : IVec S_ 1) (main_v11 : IVec S_ 1) (main_v15 : IVec S_ 1) : IVec S_ 1 :=
  let main_v16 : FVec F S4096x2816 .f32 := Host.absf main_arg4
  let main_cst_6 : FVec F S_ .f32 := constant S_ .f32 0x7F800000#32
  let main_v17 : FVec F S4096x2816 .f32 := broadcastInDim S4096x2816 ![] bcast_S_S4096x2816 main_cst_6
  let main_v18 : IVec S4096x2816 1 := cmpf .olt main_v16 main_v17
  let main_c_7 : IVec S_ 1 := constantI S_ 1 1#1
  let main_v19 : IVec S_ 1 := (fun x v => Host.reduce IntOp.andi x v reducesTo_S4096x2816_S_d0_1 h_S_) main_v18 main_c_7
  let main_v20 : FVec F S4096x2816 .f32 := Host.absf main_arg5
  let main_cst_8 : FVec F S_ .f32 := constant S_ .f32 0x7F800000#32
  let main_v21 : FVec F S4096x2816 .f32 := broadcastInDim S4096x2816 ![] bcast_S_S4096x2816 main_cst_8
  let main_v22 : IVec S4096x2816 1 := cmpf .olt main_v20 main_v21
  let main_c_9 : IVec S_ 1 := constantI S_ 1 1#1
  let main_v23 : IVec S_ 1 := (fun x v => Host.reduce IntOp.andi x v reducesTo_S4096x2816_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_arg8 main_v3 main_v7 main_v11 main_v15 main_v19 main_v23 main_v27 main_v31

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x2816 .f32) (main_arg5 : FVec F S4096x2816 .f32) (main_arg6 : FVec F S4096x1024 .f32) (main_arg7 : FVec F S4096x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_arg7 main_arg8 main_v3 main_v7 main_v11 main_v15
-- ==== Pre_finite_dnx.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S4096x2816 .f32) (main_arg5 : FVec F S4096x2816 .f32) (main_arg7 : FVec F S1024 .f32) (main_arg8 : FVec F S4096x1024 .f32) (main_v3 : IVec S_ 1) (main_v7 : IVec S_ 1) (main_v11 : IVec S_ 1) (main_v15 : IVec S_ 1) : IVec S_ 1 :=
  let main_v16 : FVec F S4096x2816 .f32 := Host.absf main_arg4
  let main_cst_6 : FVec F S_ .f32 := constant S_ .f32 0x7F800000#32
  let main_v17 : FVec F S4096x2816 .f32 := broadcastInDim S4096x2816 ![] bcast_S_S4096x2816 main_cst_6
  let main_v18 : IVec S4096x2816 1 := cmpf .olt main_v16 main_v17
  let main_c_7 : IVec S_ 1 := constantI S_ 1 1#1
  let main_v19 : IVec S_ 1 := (fun x v => Host.reduce IntOp.andi x v reducesTo_S4096x2816_S_d0_1 h_S_) main_v18 main_c_7
  let main_v20 : FVec F S4096x2816 .f32 := Host.absf main_arg5
  let main_cst_8 : FVec F S_ .f32 := constant S_ .f32 0x7F800000#32
  let main_v21 : FVec F S4096x2816 .f32 := broadcastInDim S4096x2816 ![] bcast_S_S4096x2816 main_cst_8
  let main_v22 : IVec S4096x2816 1 := cmpf .olt main_v20 main_v21
  let main_c_9 : IVec S_ 1 := constantI S_ 1 1#1
  let main_v23 : IVec S_ 1 := (fun x v => Host.reduce IntOp.andi x v reducesTo_S4096x2816_S_d0_1 h_S_) main_v22 main_c_9
  let main_v24 : FVec F S1024 .f32 := Host.absf main_arg7
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S4096x1024 .f32 := Host.absf main_arg8
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_v3 main_v7 main_v11 main_v15 main_v19 main_v23 main_v27 main_v31

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x2816 .f32) (main_arg5 : FVec F S4096x2816 .f32) (main_arg6 : FVec F S4096x1024 .f32) (main_arg7 : FVec F S1024 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg7 main_arg8 main_v3 main_v7 main_v11 main_v15
-- ==== Pre_finite_mix.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S1024 .f32) (main_arg2 : FVec F S1024x4096 .f32) (main_arg3 : FVec F S4096x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S4096x4096 .f32 := Host.absf main_arg3
  let main_cst_4 : FVec F S_ .f32 := constant S_ .f32 0x7F800000#32
  let main_v13 : FVec F S4096x4096 .f32 := broadcastInDim S4096x4096 ![] bcast_S_S4096x4096 main_cst_4
  let main_v14 : IVec S4096x4096 1 := cmpf .olt main_v12 main_v13
  let main_c_5 : IVec S_ 1 := constantI S_ 1 1#1
  let main_v15 : IVec S_ 1 := (fun x v => Host.reduce IntOp.andi x v reducesTo_S4096x4096_S_d0_1 h_S_) main_v14 main_c_5
  fn_part1 (F := F) main_v3 main_v7 main_v11 main_v15
-- ==== Kernel2.lean ====
abbrev S2x2048x8x128 : Shape := ⟨4, ![2, 2048, 8, 128]⟩
abbrev S2x2048x8x64 : Shape := ⟨4, ![2, 2048, 8, 64]⟩
abbrev S2x2048x64 : Shape := ⟨3, ![2, 2048, 64]⟩
abbrev S4096x64 : Shape := ⟨2, ![4096, 64]⟩
abbrev S2x8x2048x2048 : Shape := ⟨4, ![2, 8, 2048, 2048]⟩
abbrev S2x2048x2048x8 : Shape := ⟨4, ![2, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S4096x1024 : Shape := ⟨2, ![4096, 1024]⟩
abbrev S8x2x2048x64 : Shape := ⟨4, ![8, 2, 2048, 64]⟩
abbrev S8x4096x64 : Shape := ⟨3, ![8, 4096, 64]⟩
abbrev S8x2x2048 : Shape := ⟨3, ![8, 2, 2048]⟩
abbrev S8x4096x1 : Shape := ⟨3, ![8, 4096, 1]⟩
abbrev S2048x128 : Shape := ⟨2, ![2048, 128]⟩
abbrev S1x2048x64 : Shape := ⟨3, ![1, 2048, 64]⟩
abbrev S2048x64 : Shape := ⟨2, ![2048, 64]⟩
abbrev S1x2048x1 : Shape := ⟨3, ![1, 2048, 1]⟩
abbrev S512x128 : Shape := ⟨2, ![512, 128]⟩
abbrev S1x512x64 : Shape := ⟨3, ![1, 512, 64]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1024x128 : Shape := ⟨2, ![1024, 128]⟩
abbrev S1024x64 : Shape := ⟨2, ![1024, 64]⟩
abbrev S512x1024 : Shape := ⟨2, ![512, 1024]⟩
abbrev S1536x128 : Shape := ⟨2, ![1536, 128]⟩
abbrev S1536x64 : Shape := ⟨2, ![1536, 64]⟩
abbrev S512x1536 : Shape := ⟨2, ![512, 1536]⟩
abbrev S512x2048 : Shape := ⟨2, ![512, 2048]⟩

abbrev nBuf : Space → Nat
  | .hbm => 56
  | .vmem => 33
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x64, .f32⟩
  | .hbm, ⟨2, _⟩ => ⟨S2x2048x8x128, .f32⟩
  | .hbm, ⟨3, _⟩ => ⟨S2x2048x64, .f32⟩
  | .hbm, ⟨4, _⟩ => ⟨S2x2048x8x128, .f32⟩
  | .hbm, ⟨5, _⟩ => ⟨S2x2048x8x128, .f32⟩
  | .hbm, ⟨6, _⟩ => ⟨S4096x64, .f32⟩
  | .hbm, ⟨7, _⟩ => ⟨S4096x64, .f32⟩
  | .hbm, ⟨8, _⟩ => ⟨S2x8x2048x2048, .f32⟩
  | .hbm, ⟨9, _⟩ => ⟨S2x2048x2048x8, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x8x2048x2048, .i1⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048x1, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S2x8x2048, .f32⟩
  | .hbm, ⟨34, _⟩ => ⟨S2x8x2048, .f32⟩
  | .hbm, ⟨35, _⟩ => ⟨S4096x1024, .f32⟩
  | .hbm, ⟨36, _⟩ => ⟨S4096x1024, .bf16⟩
  | .hbm, ⟨37, _⟩ => ⟨S8x2x2048x64, .f32⟩
  | .hbm, ⟨38, _⟩ => ⟨S8x4096x64, .f32⟩
  | .hbm, ⟨39, _⟩ => ⟨S8x4096x64, .bf16⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S4096x1024, .bf16⟩
  | .hbm, ⟨44, _⟩ => ⟨S4096x64, .f32⟩
  | .hbm, ⟨45, _⟩ => ⟨S4096x64, .bf16⟩
  | .hbm, ⟨46, _⟩ => ⟨S4096x1024, .f32⟩
  | .hbm, ⟨47, _⟩ => ⟨S4096x1024, .bf16⟩
  | .hbm, ⟨48, _⟩ => ⟨S8x2x2048, .f32⟩
  | .hbm, ⟨49, _⟩ => ⟨S8x4096x1, .f32⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S8x4096x64, .bf16⟩
  | .hbm, ⟨54, _⟩ => ⟨S8x4096x64, .bf16⟩
  | .hbm, ⟨55, _⟩ => ⟨S4096x64, .f32⟩
  | .local _ .vmem, ⟨0, _⟩ => ⟨S2048x128, .bf16⟩
  | .local _ .vmem, ⟨1, _⟩ => ⟨S2048x128, .bf16⟩
  | .local _ .vmem, ⟨2, _⟩ => ⟨S1x2048x64, .bf16⟩
  | .local _ .vmem, ⟨3, _⟩ => ⟨S1x2048x64, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x64, .bf16⟩
  | .local _ .vmem, ⟨9, _⟩ => ⟨S2048x64, .bf16⟩
  | .local _ .vmem, ⟨10, _⟩ => ⟨S2048x128, .bf16⟩
  | .local _ .vmem, ⟨11, _⟩ => ⟨S2048x128, .bf16⟩
  | .local _ .vmem, ⟨12, _⟩ => ⟨S1x2048x1, .f32⟩
  | .local _ .vmem, ⟨13, _⟩ => ⟨S1x2048x1, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S1x2048x64, .bf16⟩
  | .local _ .vmem, ⟨25, _⟩ => ⟨S1x2048x64, .bf16⟩
  | .local _ .vmem, ⟨26, _⟩ => ⟨S1x2048x64, .bf16⟩
  | .local _ .vmem, ⟨27, _⟩ => ⟨S1x2048x64, .bf16⟩
  | .local _ .vmem, ⟨28, _⟩ => ⟨S2048x64, .f32⟩
  | .local _ .vmem, ⟨29, _⟩ => ⟨S2048x64, .f32⟩
  | .local _ .vmem, ⟨30, _⟩ => ⟨S2048x128, .f32⟩
  | .local _ .vmem, ⟨31, _⟩ => ⟨S2048x128, .f32⟩
  | .local _ .vmem, ⟨32, _⟩ => ⟨S2048x64, .f32⟩
  | _, _ => ⟨S2x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev main_v38_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32_220 : BitVec 32 := 0#32
  let v314 : BitVec 1 := Scalar.cmpi .eq arg1 c0_i32_220
  let v315 : BitVec 32 := Scalar.extui v314
  let c0_i32_221 : BitVec 32 := 0#32
  let v316 : BitVec 1 := Scalar.cmpi .ne v315 c0_i32_221
  v316

def k0_cond2 (i : grid0.Coords) : BitVec 1 :=
  let arg1 : BitVec 32 := BitVec.ofNat 32 (i 1).val
  let c0_i32_222 : BitVec 32 := 0#32
  let v317 : BitVec 1 := Scalar.cmpi .sgt arg1 c0_i32_222
  let v318 : BitVec 32 := Scalar.extui v317
  let c0_i32_223 : BitVec 32 := 0#32
  let v319 : BitVec 1 := Scalar.cmpi .ne v318 c0_i32_223
  v319

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Kernel2Ideal.lean ====
variable {F : FTy → Type} [FloatOps F] [Named F]
def κ : String → Option EReal := fun
  | "mask" => some ⊥
  | _ => none
-- ==== Reference2Ideal.lean ====
abbrev S2x2048x8x128 : Shape := ⟨4, ![2, 2048, 8, 128]⟩
abbrev S2x2048x8x64 : Shape := ⟨4, ![2, 2048, 8, 64]⟩
abbrev S2x2048x64 : Shape := ⟨3, ![2, 2048, 64]⟩
abbrev S4096x64 : Shape := ⟨2, ![4096, 64]⟩
abbrev S2x8x2048x2048 : Shape := ⟨4, ![2, 8, 2048, 2048]⟩
abbrev S2x2048x2048x8 : Shape := ⟨4, ![2, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩
abbrev S8x2x2048x64 : Shape := ⟨4, ![8, 2, 2048, 64]⟩
abbrev S8x4096x64 : Shape := ⟨3, ![8, 4096, 64]⟩
abbrev S4096x1024 : Shape := ⟨2, ![4096, 1024]⟩
abbrev S1x4096x64 : Shape := ⟨3, ![1, 4096, 64]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x64, .f32⟩
  | .hbm, ⟨2, _⟩ => ⟨S2x2048x8x128, .f32⟩
  | .hbm, ⟨3, _⟩ => ⟨S2x2048x64, .f32⟩
  | .hbm, ⟨4, _⟩ => ⟨S2x2048x8x128, .f32⟩
  | .hbm, ⟨5, _⟩ => ⟨S2x2048x8x128, .f32⟩
  | .hbm, ⟨6, _⟩ => ⟨S4096x64, .f32⟩
  | .hbm, ⟨7, _⟩ => ⟨S4096x64, .f32⟩
  | .hbm, ⟨8, _⟩ => ⟨S2x8x2048x2048, .f32⟩
  | .hbm, ⟨9, _⟩ => ⟨S2x2048x2048x8, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x8x2048x2048, .i1⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .i1⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S_, .f32⟩
  | .hbm, ⟨36, _⟩ => ⟨S2x8x2048, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .i1⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S_, .f32⟩
  | .hbm, ⟨49, _⟩ => ⟨S2x8x2048, .f32⟩
  | .hbm, ⟨50, _⟩ => ⟨S2x8x2048, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S_, .f32⟩
  | .hbm, ⟨57, _⟩ => ⟨S2x8x2048, .f32⟩
  | .hbm, ⟨58, _⟩ => ⟨S2x8x2048x1, .f32⟩
  | .hbm, ⟨59, _⟩ => ⟨S2x8x2048x2048, .f32⟩
  | .hbm, ⟨60, _⟩ => ⟨S2x8x2048x2048, .f32⟩
  | .hbm, ⟨61, _⟩ => ⟨S2x8x2048x1, .f32⟩
  | .hbm, ⟨62, _⟩ => ⟨S_, .f32⟩
  | .hbm, ⟨63, _⟩ => ⟨S2x8x2048x1, .f32⟩
  | .hbm, ⟨64, _⟩ => ⟨S2x8x2048x1, .f32⟩
  | .hbm, ⟨65, _⟩ => ⟨S2x8x128x2048, .f32⟩
  | .hbm, ⟨66, _⟩ => ⟨S2x2048x8x128, .f32⟩
  | .hbm, ⟨67, _⟩ => ⟨S2x8x128x2048, .f32⟩
  | .hbm, ⟨68, _⟩ => ⟨S2x8x2048x2048, .f32⟩
  | .hbm, ⟨69, _⟩ => ⟨S2x8x128x2048, .f32⟩
  | .hbm, ⟨70, _⟩ => ⟨S2x2048x8x128, .f32⟩
  | .hbm, ⟨71, _⟩ => ⟨S2x8x2048x2048, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048x1, .f32⟩
  | .hbm, ⟨77, _⟩ => ⟨S2x8x2048x1, .f32⟩
  | .hbm, ⟨78, _⟩ => ⟨S2x8x2048x2048, .f32⟩
  | .hbm, ⟨79, _⟩ => ⟨S2x8x2048x2048, .f32⟩
  | .hbm, ⟨80, _⟩ => ⟨S_, .f32⟩
  | .hbm, ⟨81, _⟩ => ⟨S2x8x2048, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048x2048, .f32⟩
  | .hbm, ⟨87, _⟩ => ⟨S2x8x2048x2048, .f32⟩
  | .hbm, ⟨88, _⟩ => ⟨S_, .f32⟩
  | .hbm, ⟨89, _⟩ => ⟨S2x8x2048x2048, .f32⟩
  | .hbm, ⟨90, _⟩ => ⟨S2x8x2048x2048, .f32⟩
  | .hbm, ⟨91, _⟩ => ⟨S2x2048x2048x8, .f32⟩
  | .hbm, ⟨92, _⟩ => ⟨S2x2048x8x64, .f32⟩
  | .hbm, ⟨93, _⟩ => ⟨S2x2048x64, .f32⟩
  | .hbm, ⟨94, _⟩ => ⟨S2x8x2048x128, .f32⟩
  | .hbm, ⟨95, _⟩ => ⟨S2x2048x8x128, .f32⟩
  | .hbm, ⟨96, _⟩ => ⟨S2x8x2048x128, .f32⟩
  | .hbm, ⟨97, _⟩ => ⟨S2x2048x8x128, .f32⟩
  | .hbm, ⟨98, _⟩ => ⟨S8x2x2048x64, .f32⟩
  | .hbm, ⟨99, _⟩ => ⟨S8x4096x64, .f32⟩
  | .hbm, ⟨100, _⟩ => ⟨S4096x1024, .f32⟩
  | .hbm, ⟨101, _⟩ => ⟨S4096x1024, .bf16⟩
  | .hbm, ⟨102, _⟩ => ⟨S4096x1024, .f32⟩
  | .hbm, ⟨103, _⟩ => ⟨S4096x1024, .bf16⟩
  | .hbm, ⟨104, _⟩ => ⟨S4096x1024, .f32⟩
  | .hbm, ⟨105, _⟩ => ⟨S4096x1024, .bf16⟩
  | .hbm, ⟨106, _⟩ => ⟨S1x4096x64, .f32⟩
  | .hbm, ⟨107, _⟩ => ⟨S8x4096x64, .f32⟩
  | .hbm, ⟨108, _⟩ => ⟨S8x4096x64, .f32⟩
  | .hbm, ⟨109, _⟩ => ⟨S8x4096x64, .bf16⟩
  | .hbm, ⟨110, _⟩ => ⟨S1x4096x64, .f32⟩
  | .hbm, ⟨111, _⟩ => ⟨S8x4096x64, .f32⟩
  | .hbm, ⟨112, _⟩ => ⟨S8x4096x64, .f32⟩
  | .hbm, ⟨113, _⟩ => ⟨S8x4096x64, .bf16⟩
  | .hbm, ⟨114, _⟩ => ⟨S4096x64, .f32⟩
  | _, _ => ⟨S2x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩
abbrev S1x1024 : Shape := ⟨2, ![1, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 29
  | .vmem => 17
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x1024, .f32⟩
  | .hbm, ⟨16, _⟩ => ⟨S1x1024, .f32⟩
  | .hbm, ⟨17, _⟩ => ⟨S4x704x1024, .f32⟩
  | .hbm, ⟨18, _⟩ => ⟨S4x704x1024, .bf16⟩
  | .hbm, ⟨19, _⟩ => ⟨S4096x4x704, .f32⟩
  | .hbm, ⟨20, _⟩ => ⟨S4x4096x704, .f32⟩
  | .hbm, ⟨21, _⟩ => ⟨S4x4096x704, .bf16⟩
  | .hbm, ⟨22, _⟩ => ⟨S4096x4x704, .f32⟩
  | .hbm, ⟨23, _⟩ => ⟨S4x4096x704, .f32⟩
  | .hbm, ⟨24, _⟩ => ⟨S4x4096x704, .bf16⟩
  | .hbm, ⟨25, _⟩ => ⟨S4096x1024, .bf16⟩
  | .hbm, ⟨26, _⟩ => ⟨S4x4096x704, .bf16⟩
  | .hbm, ⟨27, _⟩ => ⟨S4x4096x704, .bf16⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x704x1024, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S256x1024, .bf16⟩
  | .local _ .vmem, ⟨11, _⟩ => ⟨S256x1024, .bf16⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_13 : BitVec 32 := 0#32
  let v40 : BitVec 1 := Scalar.cmpi .ne v39 c0_i32_13
  v40

def k0_cond2 (i : grid0.Coords) : BitVec 1 :=
  let arg0 : BitVec 32 := BitVec.ofNat 32 (i 0).val
  let c0_i32_14 : BitVec 32 := 0#32
  let v41 : BitVec 1 := Scalar.cmpi .sgt arg0 c0_i32_14
  let v42 : BitVec 32 := Scalar.extui v41
  let c0_i32_15 : BitVec 32 := 0#32
  let v43 : BitVec 1 := Scalar.cmpi .ne v42 c0_i32_15
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x2816 : Shape := ⟨2, ![4096, 2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x704 : Shape := ⟨3, ![4096, 4, 704]⟩
abbrev S4x4096x704 : Shape := ⟨3, ![4, 4096, 704]⟩

abbrev nBuf : Space → Nat
  | .hbm => 86
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x2816, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x1024, .bf16⟩
  | .hbm, ⟨79, _⟩ => ⟨S4096x4x704, .f32⟩
  | .hbm, ⟨80, _⟩ => ⟨S4x4096x704, .f32⟩
  | .hbm, ⟨81, _⟩ => ⟨S4x4096x704, .bf16⟩
  | .hbm, ⟨82, _⟩ => ⟨S4096x4x704, .f32⟩
  | .hbm, ⟨83, _⟩ => ⟨S4x4096x704, .f32⟩
  | .hbm, ⟨84, _⟩ => ⟨S4x4096x704, .bf16⟩
  | .hbm, ⟨85, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 22
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S1x1024, .f32⟩
  | .hbm, ⟨20, _⟩ => ⟨S4096x1024, .f32⟩
  | .hbm, ⟨21, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let arg1 : BitVec 32 := BitVec.ofNat 32 (i 1).val
  let c0_i32_65 : BitVec 32 := 0#32
  let v83 : BitVec 1 := Scalar.cmpi .eq arg1 c0_i32_65
  let v84 : BitVec 1 := Scalar.andi v82 v83
  let v85 : BitVec 32 := Scalar.extui v84
  let c0_i32_66 : BitVec 32 := 0#32
  let v86 : BitVec 1 := Scalar.cmpi .ne v85 c0_i32_66
  v86

def k0_cond2 (i : grid0.Coords) : BitVec 1 :=
  let arg0 : BitVec 32 := BitVec.ofNat 32 (i 0).val
  let c0_i32 : BitVec 32 := 0#32
  let v82 : BitVec 1 := Scalar.cmpi .eq arg0 c0_i32
  let arg1 : BitVec 32 := BitVec.ofNat 32 (i 1).val
  let c0_i32_65 : BitVec 32 := 0#32
  let v83 : BitVec 1 := Scalar.cmpi .eq arg1 c0_i32_65
  let v84 : BitVec 1 := Scalar.andi v82 v83
  let v_true : BitVec 1 := 1#1
  let v87 : BitVec 1 := Scalar.xori v84 v_true
  let v88 : BitVec 32 := Scalar.extui v87
  let c0_i32_67 : BitVec 32 := 0#32
  let v89 : BitVec 1 := Scalar.cmpi .ne v88 c0_i32_67
  v89

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference4Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S2816x1024, .f32⟩
  | .hbm, ⟨16, _⟩ => ⟨S4x704x1024, .f32⟩
  | .hbm, ⟨17, _⟩ => ⟨S4x704x1024, .bf16⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S1x1024, .f32⟩
  | .hbm, ⟨25, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v115 : BitVec 1 := Scalar.cmpi .eq arg0 c0_i32
  let arg1 : BitVec 32 := BitVec.ofNat 32 (i 1).val
  let c0_i32_75 : BitVec 32 := 0#32
  let v116 : BitVec 1 := Scalar.cmpi .eq arg1 c0_i32_75
  let v117 : BitVec 1 := Scalar.andi v115 v116
  let v118 : BitVec 32 := Scalar.extui v117
  let c0_i32_76 : BitVec 32 := 0#32
  let v119 : BitVec 1 := Scalar.cmpi .ne v118 c0_i32_76
  v119

def k0_cond2 (i : grid0.Coords) : BitVec 1 :=
  let arg0 : BitVec 32 := BitVec.ofNat 32 (i 0).val
  let c0_i32 : BitVec 32 := 0#32
  let v115 : BitVec 1 := Scalar.cmpi .eq arg0 c0_i32
  let arg1 : BitVec 32 := BitVec.ofNat 32 (i 1).val
  let c0_i32_75 : BitVec 32 := 0#32
  let v116 : BitVec 1 := Scalar.cmpi .eq arg1 c0_i32_75
  let v117 : BitVec 1 := Scalar.andi v115 v116
  let v_true : BitVec 1 := 1#1
  let v120 : BitVec 1 := Scalar.xori v117 v_true
  let v121 : BitVec 32 := Scalar.extui v120
  let c0_i32_77 : BitVec 32 := 0#32
  let v122 : BitVec 1 := Scalar.cmpi .ne v121 c0_i32_77
  v122

def k0_cond3 (i : grid0.Coords) : BitVec 1 :=
  let arg0 : BitVec 32 := BitVec.ofNat 32 (i 0).val
  let c0_i32 : BitVec 32 := 0#32
  let v115 : BitVec 1 := Scalar.cmpi .eq arg0 c0_i32
  let arg1 : BitVec 32 := BitVec.ofNat 32 (i 1).val
  let c0_i32_75 : BitVec 32 := 0#32
  let v116 : BitVec 1 := Scalar.cmpi .eq arg1 c0_i32_75
  let v117 : BitVec 1 := Scalar.andi v115 v116
  let v123 : BitVec 32 := Scalar.extui v117
  let c0_i32_78 : BitVec 32 := 0#32
  let v124 : BitVec 1 := Scalar.cmpi .ne v123 c0_i32_78
  v124

def k0_cond4 (i : grid0.Coords) : BitVec 1 :=
  let arg0 : BitVec 32 := BitVec.ofNat 32 (i 0).val
  let c0_i32 : BitVec 32 := 0#32
  let v115 : BitVec 1 := Scalar.cmpi .eq arg0 c0_i32
  let arg1 : BitVec 32 := BitVec.ofNat 32 (i 1).val
  let c0_i32_75 : BitVec 32 := 0#32
  let v116 : BitVec 1 := Scalar.cmpi .eq arg1 c0_i32_75
  let v117 : BitVec 1 := Scalar.andi v115 v116
  let true_79 : BitVec 1 := 1#1
  let v125 : BitVec 1 := Scalar.xori v117 true_79
  let v126 : BitVec 32 := Scalar.extui v125
  let c0_i32_80 : BitVec 32 := 0#32
  let v127 : BitVec 1 := Scalar.cmpi .ne v126 c0_i32_80
  v127

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== Reference9Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S1x1024, .f32⟩
  | .hbm, ⟨107, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 27
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S2816x1024, .f32⟩
  | .hbm, ⟨16, _⟩ => ⟨S4x704x1024, .f32⟩
  | .hbm, ⟨17, _⟩ => ⟨S4x704x1024, .bf16⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v118 : BitVec 1 := Scalar.cmpi .eq arg0 c0_i32
  let arg1 : BitVec 32 := BitVec.ofNat 32 (i 1).val
  let c0_i32_78 : BitVec 32 := 0#32
  let v119 : BitVec 1 := Scalar.cmpi .eq arg1 c0_i32_78
  let v120 : BitVec 1 := Scalar.andi v118 v119
  let v121 : BitVec 32 := Scalar.extui v120
  let c0_i32_79 : BitVec 32 := 0#32
  let v122 : BitVec 1 := Scalar.cmpi .ne v121 c0_i32_79
  v122

def k0_cond2 (i : grid0.Coords) : BitVec 1 :=
  let arg0 : BitVec 32 := BitVec.ofNat 32 (i 0).val
  let c0_i32 : BitVec 32 := 0#32
  let v118 : BitVec 1 := Scalar.cmpi .eq arg0 c0_i32
  let arg1 : BitVec 32 := BitVec.ofNat 32 (i 1).val
  let c0_i32_78 : BitVec 32 := 0#32
  let v119 : BitVec 1 := Scalar.cmpi .eq arg1 c0_i32_78
  let v120 : BitVec 1 := Scalar.andi v118 v119
  let v_true : BitVec 1 := 1#1
  let v123 : BitVec 1 := Scalar.xori v120 v_true
  let v124 : BitVec 32 := Scalar.extui v123
  let c0_i32_80 : BitVec 32 := 0#32
  let v125 : BitVec 1 := Scalar.cmpi .ne v124 c0_i32_80
  v125

def k0_cond3 (i : grid0.Coords) : BitVec 1 :=
  let arg0 : BitVec 32 := BitVec.ofNat 32 (i 0).val
  let c0_i32 : BitVec 32 := 0#32
  let v118 : BitVec 1 := Scalar.cmpi .eq arg0 c0_i32
  let arg1 : BitVec 32 := BitVec.ofNat 32 (i 1).val
  let c0_i32_78 : BitVec 32 := 0#32
  let v119 : BitVec 1 := Scalar.cmpi .eq arg1 c0_i32_78
  let v120 : BitVec 1 := Scalar.andi v118 v119
  let v126 : BitVec 32 := Scalar.extui v120
  let c0_i32_81 : BitVec 32 := 0#32
  let v127 : BitVec 1 := Scalar.cmpi .ne v126 c0_i32_81
  v127

def k0_cond4 (i : grid0.Coords) : BitVec 1 :=
  let arg0 : BitVec 32 := BitVec.ofNat 32 (i 0).val
  let c0_i32 : BitVec 32 := 0#32
  let v118 : BitVec 1 := Scalar.cmpi .eq arg0 c0_i32
  let arg1 : BitVec 32 := BitVec.ofNat 32 (i 1).val
  let c0_i32_78 : BitVec 32 := 0#32
  let v119 : BitVec 1 := Scalar.cmpi .eq arg1 c0_i32_78
  let v120 : BitVec 1 := Scalar.andi v118 v119
  let true_82 : BitVec 1 := 1#1
  let v128 : BitVec 1 := Scalar.xori v120 true_82
  let v129 : BitVec 32 := Scalar.extui v128
  let c0_i32_83 : BitVec 32 := 0#32
  let v130 : BitVec 1 := Scalar.cmpi .ne v129 c0_i32_83
  v130

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Reference10Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .bf16⟩
  | .hbm, ⟨106, _⟩ => ⟨S1x1024, .f32⟩
  | .hbm, ⟨107, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x1024, .bf16⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4x704x1024, .bf16⟩
  | .hbm, ⟨13, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S2048x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S704x1024, .f32⟩
  | .local _ .vmem, ⟨11, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_13 : BitVec 32 := 0#32
  let v18 : BitVec 1 := Scalar.cmpi .ne v17 c0_i32_13
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference5Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .bf16⟩
  | .hbm, ⟨7, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4x704x1024, .f32⟩
  | .hbm, ⟨7, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S256x1024, .bf16⟩
  | .local _ .vmem, ⟨1, _⟩ => ⟨S256x1024, .bf16⟩
  | .local _ .vmem, ⟨2, _⟩ => ⟨S4x704x1024, .bf16⟩
  | .local _ .vmem, ⟨3, _⟩ => ⟨S4x704x1024, .bf16⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4x704x1024, .f32⟩
  | .hbm, ⟨9, _⟩ => ⟨S4x704x1024, .bf16⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024 : Shape := ⟨2, ![1, 1024]⟩
abbrev S2x1024 : Shape := ⟨2, ![2, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S4x704x1024, .f32⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S2x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4x704x1024, .f32⟩
  | .hbm, ⟨9, _⟩ => ⟨S4x704x1024, .bf16⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x128, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let arg1 : BitVec 32 := BitVec.ofNat 32 (i 1).val
  let c0_i32_43 : BitVec 32 := 0#32
  let v58 : BitVec 1 := Scalar.cmpi .eq arg1 c0_i32_43
  let v59 : BitVec 1 := Scalar.andi v57 v58
  let v60 : BitVec 32 := Scalar.extui v59
  let c0_i32_44 : BitVec 32 := 0#32
  let v61 : BitVec 1 := Scalar.cmpi .ne v60 c0_i32_44
  v61

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let arg1 : BitVec 32 := BitVec.ofNat 32 (i 1).val
  let c0_i32_43 : BitVec 32 := 0#32
  let v58 : BitVec 1 := Scalar.cmpi .eq arg1 c0_i32_43
  let v59 : BitVec 1 := Scalar.andi v57 v58
  let v_true : BitVec 1 := 1#1
  let v62 : BitVec 1 := Scalar.xori v59 v_true
  let v63 : BitVec 32 := Scalar.extui v62
  let c0_i32_45 : BitVec 32 := 0#32
  let v64 : BitVec 1 := Scalar.cmpi .ne v63 c0_i32_45
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel13.lean ====
abbrev S4096x2048 : Shape := ⟨2, ![4096, 2048]⟩
abbrev S2048x1024 : Shape := ⟨2, ![2048, 1024]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S2048x1024, .bf16⟩
  | .hbm, ⟨5, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x4096 : Shape := ⟨2, ![1024, 4096]⟩
abbrev S4096x4096 : Shape := ⟨2, ![4096, 4096]⟩
abbrev S4x1024x1024 : Shape := ⟨3, ![4, 1024, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S4x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2048, .bf16⟩
  | .hbm, ⟨6, _⟩ => ⟨S2048x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference18Ideal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference19Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel20.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1024x4096, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_23 : BitVec 32 := 0#32
  let v50 : BitVec 1 := Scalar.cmpi .eq arg0 c0_i32_23
  let arg1 : BitVec 32 := BitVec.ofNat 32 (i 1).val
  let c0_i32_24 : BitVec 32 := 0#32
  let v51 : BitVec 1 := Scalar.cmpi .eq arg1 c0_i32_24
  let v52 : BitVec 1 := Scalar.andi v50 v51
  let v53 : BitVec 32 := Scalar.extui v52
  let c0_i32_25 : BitVec 32 := 0#32
  let v54 : BitVec 1 := Scalar.cmpi .ne v53 c0_i32_25
  v54

def k0_cond5 (i : grid0.Coords) : BitVec 1 :=
  let arg0 : BitVec 32 := BitVec.ofNat 32 (i 0).val
  let c0_i32_23 : BitVec 32 := 0#32
  let v50 : BitVec 1 := Scalar.cmpi .eq arg0 c0_i32_23
  let arg1 : BitVec 32 := BitVec.ofNat 32 (i 1).val
  let c0_i32_24 : BitVec 32 := 0#32
  let v51 : BitVec 1 := Scalar.cmpi .eq arg1 c0_i32_24
  let v52 : BitVec 1 := Scalar.andi v50 v51
  let v_true : BitVec 1 := 1#1
  let v55 : BitVec 1 := Scalar.xori v52 v_true
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference20Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Finite.lean ====
/- What the preconditions say: every entry of the arrays is a real number; and how the operations at the extended reals act on reals. -/
module

public import Idealize.ShloMosaic.Lib.ReduceAll
public import Idealize.ShloMosaic.Lib.StableHlo
public import Idealize.ShloMosaic.Lib.Pointwise
public import Idealize.ShloMosaic.Lib.ValueIdxCore
public import Idealize.ShloMosaic.PureOps

@[expose] public section

set_option maxRecDepth 16384

noncomputable section

open Idealize.ShloMosaic

namespace Cert.Finite

/-- The f32 word the preconditions compare with is plus infinity. -/
theorem inf_word : Ideal.ofBits .f32 0x7F800000#32 = (⊤ : EReal) := by
  simp [Ideal.ofBits, Ideal.ieee]

/-- An extended real of absolute value below infinity is a real number. -/
theorem real_of_abs_lt {x : EReal} (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- One conjunct of a precondition: every entry of the array is real. -/
theorem all_real {s t : Shape} [Subsingleton t.Idx] {dims : List (Fin s.rank)} (a : FVec Ideal s .f32) (b : FVec Ideal s .f32)
    (hb : ∀ i, b i = (⊤ : EReal)) (init : IVec t 1) (h : s.ReducesTo dims t) (hu : 0 < t.numel) (j : t.Idx)
    (e : Host.reduce IntOp.andi (cmpf .olt (Host.absf a) b) init h hu j = 1#1) (i : s.Idx) : ∃ r : ℝ, a i = (r : EReal) := by
  have := Host.reduce_andi_all _ init h hu j e i
  refine real_of_abs_lt (Eq.trans ?_ this)
  show _ = Ideal.cmp .olt (max (a i) (-(a i))) (b i)
  rw [hb]

/-- A family of real extended reals is a family of reals. -/
theorem choose_real {ι : Type} (f : ι → EReal) (h : ∀ i, ∃ r : ℝ, f i = r) : ∃ g : ι → ℝ, f = fun i => (g i : EReal) := by
  choose g hg using h
  exact ⟨g, funext hg⟩

/-- The sum of reals, taken at the extended reals, is the sum of reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem real_sum {ι : Type} (s : Finset ι) (f : ι → EReal) (h : ∀ i, ∃ r : ℝ, f i = r) : ∃ r : ℝ, ∑ i ∈ s, f i = r := by
  obtain ⟨g, rfl⟩ := choose_real f h
  exact ⟨_, coe_sum s g⟩

theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx; obtain ⟨b, rfl⟩ := hy
  exact ⟨a + b, (EReal.coe_add a b).symm⟩

theorem real_logistic {x : EReal} (hx : ∃ r : ℝ, x = r) : ∃ r : ℝ, Ideal.logistic x = r := by
  obtain ⟨a, rfl⟩ := hx
  exact ⟨_, Ideal.logistic_coe a⟩

/-- Every entry of an array is a real number. -/
def AllReal {s : Shape} (a : FVec Ideal s .f32) : Prop := ∀ i, ∃ r : ℝ, a i = (r : EReal)

end Cert.Finite
-- ==== Proof.AttnRow.lean ====
/- One row of a masked softmax and its gradient over the extended reals. -/
module

public import proofs.«01_k».proof.Proof.Finite

@[expose] public section

noncomputable section

namespace Cert.AttnRow

open Idealize.ShloMosaic

/-- A sum over a prefix is the whole sum when the other terms vanish. -/
theorem sum_prefix {n N : ℕ} (h : n ≤ N) (f : Fin N → EReal) (hz : ∀ k : Fin N, n ≤ k.val → f k = 0) :
    ∑ k : Fin n, f ⟨k.val, k.isLt.trans_le h⟩ = ∑ k, f k := by
  obtain ⟨d, rfl⟩ := Nat.exists_eq_add_of_le h
  rw [Fin.sum_univ_add, Finset.sum_eq_zero (s := Finset.univ) (f := fun i : Fin d => f (Fin.natAdd n i))
    (fun i _ => hz _ (by simp)), add_zero]
  rfl

/-- The largest entry of a row. -/
def mx (s : Fin 2048 → EReal) : EReal := Finset.univ.fold max ⊥ s

/-- The logarithm of the sum of the row's exponentials. -/
def lse (s : Fin 2048 → EReal) : EReal := mx s + Ideal.log (∑ k, Ideal.exp (s k - mx s))

/-- A row of real scores with masked entries, one of them not masked. -/
def Row (s : Fin 2048 → EReal) : Prop := (∀ k, (∃ r : ℝ, s k = r) ∨ s k = ⊥) ∧ ∃ k, ∃ r : ℝ, s k = r

/-- The largest entry of such a row is real. -/
theorem mx_real {s : Fin 2048 → EReal} (h : Row s) : ∃ μ : ℝ, mx s = μ := by
  have ht : mx s < ⊤ := (Finset.fold_max_lt _).2 ⟨bot_lt_top, fun k _ => by
    rcases h.1 k with ⟨r, hr⟩ | hr
    · rw [hr]; exact EReal.coe_lt_top r
    · rw [hr]; exact bot_lt_top⟩
  have hb : ⊥ < mx s := (Finset.lt_fold_max _).2 (Or.inr (by
    obtain ⟨k, r, hr⟩ := h.2
    exact ⟨k, Finset.mem_univ _, by rw [hr]; exact EReal.bot_lt_coe r⟩))
  exact ⟨(mx s).toReal, (EReal.coe_toReal ht.ne hb.ne').symm⟩

/-- The exponentials of a row less its largest entry are reals, none negative, with a positive sum. -/
theorem exps {s : Fin 2048 → EReal} (h : Row s) :
    ∃ (μ : ℝ) (ε : Fin 2048 → ℝ), mx s = μ ∧ (∀ k, Ideal.exp (s k - mx s) = ε k) ∧ 0 < ∑ k, ε k
      ∧ ∀ k, s k = ⊥ ∧ ε k = 0 ∨ ∃ r : ℝ, s k = r ∧ ε k = Real.exp (r - μ) := by
  obtain ⟨μ, hμ⟩ := mx_real h
  have hk : ∀ k, ∃ e : ℝ, Ideal.exp (s k - mx s) = e ∧ 0 ≤ e ∧ (s k = ⊥ ∧ e = 0 ∨ ∃ r : ℝ, s k = r ∧ e = Real.exp (r - μ)) := by
    intro k
    rcases h.1 k with ⟨r, hr⟩ | hr
    · exact ⟨Real.exp (r - μ), by rw [hr, hμ, ← EReal.coe_sub, Ideal.exp_coe], (Real.exp_pos _).le, Or.inr ⟨r, hr, rfl⟩⟩
    · exact ⟨0, by rw [hr, hμ]; simp, le_refl _, Or.inl ⟨hr, rfl⟩⟩
  choose ε h1 h2 h3 using hk
  refine ⟨μ, ε, hμ, h1, ?_, h3⟩
  obtain ⟨k, r, hr⟩ := h.2
  refine Finset.sum_pos' (fun k _ => h2 k) ⟨k, Finset.mem_univ _, ?_⟩
  rcases h3 k with ⟨hb, _⟩ | ⟨r', _, he⟩
  · rw [hr] at hb; exact absurd hb (EReal.coe_ne_bot r)
  · rw [he]; exact Real.exp_pos _

/-- The exponential of a score less the logarithm of the sum is the score's share of the sum. -/
theorem share {s : Fin 2048 → EReal} (h : Row s) (k : Fin 2048) :
    Ideal.exp (s k - lse s) = Ideal.div (Ideal.exp (s k - mx s)) (∑ k, Ideal.exp (s k - mx s)) := by
  obtain ⟨μ, ε, hμ, he, hpos, hs⟩ := exps h
  have hsum : ∑ k, Ideal.exp (s k - mx s) = ((∑ k, ε k : ℝ) : EReal) := by
    rw [← Finite.coe_sum]; exact Finset.sum_congr rfl fun k _ => he k
  rw [lse, hsum, he k, Ideal.div_coe hpos.ne', hμ, Ideal.log_coe, if_neg (not_le.2 hpos), ← EReal.coe_add, ← EReal.coe_mul]
  rcases hs k with ⟨hb, h0⟩ | ⟨r, hr, h1⟩
  · rw [hb, h0]; simp
  · rw [hr, h1, ← EReal.coe_sub, Ideal.exp_coe]
    congr 1
    rw [← sub_sub, Real.exp_sub, Real.exp_log hpos]
    ring

/-- The gradient of a score: the kernel's form and the differentiated form. -/
theorem grad {s g : Fin 2048 → EReal} (h : Row s) (hg : ∀ k, ∃ r : ℝ, g k = r) (k : Fin 2048) :
    Ideal.exp (s k - lse s) * (g k - ∑ k, Ideal.exp (s k - lse s) * g k)
      = (Ideal.div (g k) (∑ k, Ideal.exp (s k - mx s))
          + -∑ i, g i * Ideal.div 1 ((∑ k, Ideal.exp (s k - mx s)) * ∑ k, Ideal.exp (s k - mx s)) * Ideal.exp (s i - mx s))
        * Ideal.exp (s k - mx s) := by
  obtain ⟨μ, ε, hμ, he, hpos, hs⟩ := exps h
  have hsum : ∑ k, Ideal.exp (s k - mx s) = ((∑ k, ε k : ℝ) : EReal) := by
    rw [← Finite.coe_sum]; exact Finset.sum_congr rfl fun k _ => he k
  obtain ⟨γ, rfl⟩ := Finite.choose_real g hg
  have hp : ∀ k, Ideal.exp (s k - lse s) = ((ε k * (1 / ∑ k, ε k) : ℝ) : EReal) := fun k => by
    rw [share h k, hsum, he k, Ideal.div_coe hpos.ne', ← EReal.coe_mul]
  rw [hsum]
  generalize hL : (∑ k, ε k) = L at hp hpos ⊢
  have hne : L ≠ 0 := hpos.ne'
  simp only [hp, he, ← EReal.coe_mul, Ideal.div_coe hne, Ideal.div_coe (mul_ne_zero hne hne), ← EReal.coe_one]
  rw [Finite.coe_sum, Finite.coe_sum, ← EReal.coe_sub, ← EReal.coe_neg, ← EReal.coe_add, ← EReal.coe_mul, ← EReal.coe_mul]
  congr 1
  have hS : ∑ i, γ i * (1 * (1 / (L * L))) * ε i = (∑ i, ε i * (1 / L) * γ i) * (1 / L) := by
    rw [Finset.sum_mul]
    refine Finset.sum_congr rfl fun i _ => ?_
    field_simp
  rw [hS]
  ring

end Cert.AttnRow

end
-- ==== Proof.AttnHead.lean ====
/- One head of the attention's gradient: what its reads of the arrays are, and the quantities its results are made of. -/
module

public import proofs.«01_k».proof.Defs
public import proofs.«01_k».proof.Proof.Gen.Kernel2Ideal.Frame
public import proofs.«01_k».proof.Proof.AttnRow
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attn

/-- The softmax's scale, as the program's word has it. -/
def w : EReal := Ideal.ofBits .f32 0x3D93CD3A#32

/-- The rows one head of one sequence reads: queries, keys, values and the incoming gradient. -/
structure Head where
  qn : Fin 2048 → Fin 128 → EReal
  qr : Fin 2048 → Fin 64 → EReal
  kn : Fin 2048 → Fin 128 → EReal
  kr : Fin 2048 → Fin 64 → EReal
  v : Fin 2048 → Fin 128 → EReal
  o : Fin 2048 → Fin 128 → EReal

namespace Head

variable (H : Head)

/-- A score before the mask. -/
def score (r k : Fin 2048) : EReal := ((∑ d, H.qn r d * H.kn k d) + ∑ d, H.qr r d * H.kr k d) * w

/-- A row of masked scores. -/
def row (r k : Fin 2048) : EReal := if k.val ≤ r.val then H.score r k else ⊥

/-- A probability, from the saved logarithm of the row's sum. -/
def p (r k : Fin 2048) : EReal := Ideal.exp (H.row r k - AttnRow.lse (H.row r))

/-- The gradient of a probability. -/
def dp (r k : Fin 2048) : EReal := ∑ d, H.o r d * H.v k d

/-- The gradient of a score before the scale. -/
def ds (r k : Fin 2048) : EReal := H.p r k * (H.dp r k - ∑ k, H.p r k * H.dp r k) * w

theorem p_masked {r k : Fin 2048} (h : r.val < k.val) : H.p r k = 0 := by
  rw [p, row, if_neg (by omega)]
  simp

theorem ds_masked {r k : Fin 2048} (h : r.val < k.val) : H.ds r k = 0 := by
  rw [ds, p_masked H h, zero_mul, zero_mul]

end Head

/-- The head `h` of the sequence `b` in the arrays. -/
def head (a0 : FVec Ideal Cert.Kernel2Ideal.S2x2048x8x128 .f32) (a1 : FVec Ideal Cert.Kernel2Ideal.S2x2048x8x64 .f32)
    (a2 : FVec Ideal Cert.Kernel2Ideal.S2x2048x8x128 .f32) (a3 : FVec Ideal Cert.Kernel2Ideal.S2x2048x64 .f32)
    (a4 a5 : FVec Ideal Cert.Kernel2Ideal.S2x2048x8x128 .f32) (b : Fin 2) (h : Fin 8) : Head where
  qn r d := a0 (ix4 b r h d)
  qr r d := a1 (ix4 b r h d)
  kn r d := a2 (ix4 b r h d)
  kr r d := a3 (ix3 b r d)
  v r d := a4 (ix4 b r h d)
  o r d := a5 (ix4 b r h d)

section Kernel
open Cert.Kernel2Ideal Cert.Kernel2Ideal.Gen

variable (m : (ℓ : Loc nD τ sig) → Buf (Elt Ideal) ℓ)

theorem idx : ∀ t : Fin cfg0.N, win0_0.index t = ![t.val / 8, t.val % 8]
    ∧ win0_1.index t = ![t.val % 8, t.val / 8, 0]
    ∧ win0_2.index t = ![t.val / 8, t.val % 8]
    ∧ win0_3.index t = ![t.val / 8, t.val % 8]
    ∧ win0_4.index t = ![t.val / 8, 0]
    ∧ win0_5.index t = ![t.val / 8, t.val % 8]
    ∧ win0_6.index t = ![t.val % 8, t.val / 8, 0]
    ∧ win0_7.index t = ![t.val / 8, 0]
    ∧ win0_8.index t = ![t.val / 8, 0]
    ∧ win0_9.index t = ![t.val / 8, t.val % 8]
    ∧ win0_10.index t = ![t.val / 8, t.val % 8]
    ∧ win0_11.index t = ![t.val / 8, t.val % 8]
    ∧ win0_12.index t = ![t.val % 8, t.val / 8, 0]
    ∧ win0_13.index t = ![t.val % 8, t.val / 8, 0]
    ∧ win0_14.index t = ![t.val / 8, 0] :=
  (by decide +kernel : ∀ t : Fin grid0.N, _)

theorem lt_t (t : Fin cfg0.N) : t.val < 16 := lt_of_lt_of_eq t.isLt (show cfg0.N = 16 from N_0)

/-- A point's sequence. -/
def bt (t : Fin cfg0.N) : Fin 2 := ⟨t.val / 8, by have := lt_t t; omega⟩

/-- A point's head. -/
def ht (t : Fin cfg0.N) : Fin 8 := ⟨t.val % 8, by omega⟩

/-- A head of the launch's arrays. -/
abbrev HD (c : Dev nD) (b : Fin 2) (h : Fin 8) : Head :=
  head (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b h

theorem flatR (b : Fin 2) (r : Fin 2048) : b.val * 2048 + r.val < 4096 := by omega
theorem flatC (h : Fin 8) (d : Fin 128) : h.val * 128 + d.val < 1024 := by omega

theorem read0 (c : Dev nD) (t : Fin cfg0.N) (r : Fin 2048) (d : Fin 128) :
    iblk m c 0 t (ix2 r d) = (HD m c (bt t) (ht t)).qn r d := by
  have e : iblk m c 0 t (ix2 r d) = V m c main_v24 (ix2 ⟨(bt t).val * 2048 + r, flatR _ _⟩ ⟨(ht t).val * 128 + d, flatC _ _⟩) := by
    blk_point [iblk, idx t, bt, ht]
  rw [e]
  entry_read
  pointwise []
  refine congrArg _ ?_
  blk_ext []

theorem read2 (c : Dev nD) (t : Fin cfg0.N) (r : Fin 2048) (d : Fin 128) :
    iblk m c 2 t (ix2 r d) = (HD m c (bt t) (ht t)).kn r d := by
  have e : iblk m c 2 t (ix2 r d) = V m c main_v29 (ix2 ⟨(bt t).val * 2048 + r, flatR _ _⟩ ⟨(ht t).val * 128 + d, flatC _ _⟩) := by
    blk_point [iblk, idx t, bt, ht]
  rw [e]
  entry_read
  pointwise []
  refine congrArg _ ?_
  blk_ext []

theorem read3 (c : Dev nD) (t : Fin cfg0.N) (r : Fin 2048) (d : Fin 128) :
    iblk m c 3 t (ix2 r d) = (HD m c (bt t) (ht t)).v r d := by
  have e : iblk m c 3 t (ix2 r d) = V m c main_v31 (ix2 ⟨(bt t).val * 2048 + r, flatR _ _⟩ ⟨(ht t).val * 128 + d, flatC _ _⟩) := by
    blk_point [iblk, idx t, bt, ht]
  rw [e]
  entry_read
  pointwise []
  refine congrArg _ ?_
  blk_ext []

theorem read5 (c : Dev nD) (t : Fin cfg0.N) (r : Fin 2048) (d : Fin 128) :
    iblk m c 5 t (ix2 r d) = (HD m c (bt t) (ht t)).o r d := by
  have e : iblk m c 5 t (ix2 r d) = V m c main_v35 (ix2 ⟨(bt t).val * 2048 + r, flatR _ _⟩ ⟨(ht t).val * 128 + d, flatC _ _⟩) := by
    blk_point [iblk, idx t, bt, ht]
  rw [e]
  entry_read
  pointwise []
  refine congrArg _ ?_
  blk_ext []

theorem read1 (c : Dev nD) (t : Fin cfg0.N) (r : Fin 2048) (d : Fin 64) :
    iblk m c 1 t (ix3 0 r d) = (HD m c (bt t) (ht t)).qr r d := by
  have e : iblk m c 1 t (ix3 0 r d) = V m c main_v27 (ix3 (ht t) ⟨(bt t).val * 2048 + r, flatR _ _⟩ d) := by
    blk_point [iblk, idx t, bt, ht]
  rw [e]
  entry_read
  pointwise []
  refine congrArg _ ?_
  blk_ext []

theorem read4 (c : Dev nD) (t : Fin cfg0.N) (r : Fin 2048) (d : Fin 64) :
    iblk m c 4 t (ix2 r d) = (HD m c (bt t) (ht t)).kr r d := by
  have e : iblk m c 4 t (ix2 r d) = V m c main_v33 (ix2 ⟨(bt t).val * 2048 + r, flatR _ _⟩ d) := by
    blk_point [iblk, idx t, bt, ht]
  rw [e]
  entry_read
  pointwise []
  refine congrArg _ ?_
  blk_ext []

theorem read7 (c : Dev nD) (t : Fin cfg0.N) (r : Fin 2048) (d : Fin 64) :
    iblk m c 7 t (ix2 r d) = m ((c : Thread nD τ).loc main_arg6) (ix2 ⟨(bt t).val * 2048 + r, flatR _ _⟩ d) := by
  have e : iblk m c 7 t (ix2 r d) = V m c main_arg6 (ix2 ⟨(bt t).val * 2048 + r, flatR _ _⟩ d) := by
    blk_point [iblk, idx t, bt, ht]
  rw [e, V_main_arg6 m c]

theorem read8 (c : Dev nD) (t : Fin cfg0.N) (r : Fin 2048) (d : Fin 64) :
    iblk m c 8 t (ix2 r d) = m ((c : Thread nD τ).loc main_arg7) (ix2 ⟨(bt t).val * 2048 + r, flatR _ _⟩ d) := by
  have e : iblk m c 8 t (ix2 r d) = V m c main_arg7 (ix2 ⟨(bt t).val * 2048 + r, flatR _ _⟩ d) := by
    blk_point [iblk, idx t, bt, ht]
  rw [e, V_main_arg7 m c]

end Kernel

end Cert.Attn

end
-- ==== Proof.AttnScratch.lean ====
/- The attention's gradient accumulates what it owes to the keys in a scratch that it stores prefix by prefix: what such a list of stores leaves. -/
module

public import proofs.«01_k».proof.Proof.AttnHead

@[expose] public section

set_option maxRecDepth 16384

noncomputable section

open Idealize.ShloMosaic Idealize.ShloMosaic.TcCoe Idealize.SL.Sem
open Idealize.ShloMosaic.Pipeline (Dat)

namespace Cert.Attn

/-- A row of a slice that starts at `o`. -/
def ro {n : ℕ} (o : ℕ) (h : o + n ≤ 2048) (x : Fin n) : Fin 2048 := ⟨o + x.val, by omega⟩

section Scratch

variable {W n : ℕ} (hn : n ≤ 2048) (inb : ∀ a, (![0, 0] : Fin 2 → ℕ) a + (![n, W] : Fin 2 → ℕ) a ≤ (![2048, W] : Fin 2 → ℕ) a)

theorem emb_prefix (k : Fin n) (d : Fin W) :
    (Rect.unit (s := ⟨2, ![2048, W]⟩) ![0, 0] ![n, W] inb).emb (ix2 k d) = ix2 (Fin.castLE hn k) d := by
  refine funext fun a => Fin.ext ?_
  rw [ValueKit.rect_emb_unit_val]
  revert a
  exact (Fin.forall_fin_succ (n := 1)).2 ⟨Nat.zero_add _, (Fin.forall_fin_succ (n := 0)).2 ⟨Nat.zero_add _, fun a => a.elim0⟩⟩

theorem step (L : List (View.Piece (Elt Ideal) ⟨2, ![2048, W]⟩ .f32)) (A A' : Fin 2048 → Fin W → EReal)
    (P : (Rect.unit (s := ⟨2, ![2048, W]⟩) ![0, 0] ![n, W] inb).shape.Idx → Elt Ideal .f32)
    (hL : ∀ k d, n ≤ k.val → View.canon L (ix2 k d) = A k d) (hP : ∀ (k : Fin n) (d : Fin W), P (ix2 k d) = A' (Fin.castLE hn k) d)
    (hz : ∀ (k : Fin 2048) d, n ≤ k.val → A' k d = A k d) (k : Fin 2048) (d : Fin W) :
    View.canon (⟨Rect.unit ![0, 0] ![n, W] inb, P⟩ :: L) (ix2 k d) = A' k d := by
  by_cases h : k.val < n
  · have e := emb_prefix (W := W) hn inb ⟨k.val, h⟩ d
    rw [show (ix2 k d : (⟨2, ![2048, W]⟩ : Shape).Idx) = _ from e.symm, View.canon_cons_emb]
    exact hP ⟨k.val, h⟩ d
  · rw [View.canon_cons_of_not_mem, hL k d (by omega), hz k d (by omega)]
    exact Rect.not_mem_set_of_axis _ _ 0 0 n rfl rfl rfl (by right; show 0 + n ≤ k.val; omega)

theorem back {sig : RefSig} {κ : Kind} {sp : Space} (v : View sig κ sp ⟨2, ![2048, W]⟩ .f32)
    (L : List (View.Piece (Elt Ideal) ⟨2, ![2048, W]⟩ .f32)) (A : Fin 2048 → Fin W → EReal)
    (hL : ∀ k d, View.canon L (ix2 k d) = A k d) (k : Fin n) (d : Fin W) :
    v.readCov L (Rect.unit (s := ⟨2, ![2048, W]⟩) ![0, 0] ![n, W] inb).toLoadRect (ix2 k d) = A (Fin.castLE hn k) d := by
  rw [View.readCov_eq_canon']
  exact (congrArg (View.canon L) (emb_prefix hn inb k d)).trans (hL _ d)

end Scratch

end Cert.Attn

end
-- ==== Proof.AttnProb.lean ====
/- What one probability of the attention is, and the sum over the keys of a masked row. -/
module

public import proofs.«01_k».proof.Proof.AttnScratch

@[expose] public section

set_option maxRecDepth 16384

noncomputable section

open Idealize.ShloMosaic Idealize.ShloMosaic.TcCoe Idealize.SL.Sem
open Idealize.ShloMosaic.Pipeline (Dat)

namespace Cert.Attn

open Cert.Kernel2Ideal Cert.Kernel2Ideal.Gen

/-- What a masked, scaled score less the row's logarithm is, however the slice counts its rows. -/
theorem prob (H : Head) (r k : Fin 2048) (x : ℕ) (o : ℕ) (hr : r.val = o + x) (A B L : EReal)
    (hA : A = ∑ d, H.qn r d * H.kn k d) (hB : B = ∑ d, H.qr r d * H.kr k d) (hL : L = AttnRow.lse (H.row r)) :
    Ideal.exp (Scalar.select (IntOp.cmpi .sle (BitVec.ofNat 32 k.val) (IntOp.addi (BitVec.ofNat 32 o) (BitVec.ofNat 32 x)))
      ((A + B) * Ideal.ofBits FTy.f32 0x3D93CD3A#32) (Named.named (F := Ideal) κ "mask" 4048155338#32 : Ideal .f32) - L) = H.p r k := by
  subst hA hB hL
  have hadd : IntOp.addi (BitVec.ofNat 32 o) (BitVec.ofNat 32 x) = BitVec.ofNat 32 r.val := by
    rw [hr, BitVec.ofNat_add]; rfl
  have hm : (Named.named (F := Ideal) κ "mask" 4048155338#32 : Ideal .f32) = (⊥ : EReal) := rfl
  rw [hadd, hm]
  unfold Head.p Head.row Head.score w
  refine congrArg (fun s : EReal => Ideal.exp (s - _)) ?_
  have hk := k.isLt
  have hr' := r.isLt
  by_cases h : k.val ≤ r.val
  · rw [(WordCmp.cmpi_sle_ofNat_eq_one_iff (w := 32) (by omega) (by omega)).2 h, if_pos h]; rfl
  · rw [(WordCmp.cmpi_sle_ofNat_eq_zero_iff (w := 32) (by omega) (by omega)).2 (by omega), if_neg h]; rfl

/-- A slice's part of the sum over the keys is the whole sum, the rest being masked. -/
theorem keys {n : ℕ} (hn : n ≤ 2048) (f : Fin 2048 → EReal) (hz : ∀ k : Fin 2048, n ≤ k.val → f k = 0) :
    ∑ y : Fin n, f (Fin.castLE hn y) = ∑ k, f k := AttnRow.sum_prefix hn f hz

end Cert.Attn

end
-- ==== Proof.AttnSlice1.lean ====
/- Slice 1 of the attention's gradient: queries 0 to 511 against keys 0 to 511. -/
module

public import proofs.«01_k».proof.Proof.AttnProb

@[expose] public section

set_option maxRecDepth 16384

noncomputable section

open Idealize.ShloMosaic Idealize.ShloMosaic.TcCoe Idealize.SL.Sem
open Idealize.ShloMosaic.Pipeline (Dat)

namespace Cert.Attn.S1

open Cert.Attn Cert.Kernel2Ideal Cert.Kernel2Ideal.Gen

/-- The slice's operands are the head's rows. -/
structure In (H : Head) (q : Vec Ideal S512x128 .bf16) (qr : Vec Ideal S1x512x64 .bf16) (k : Vec Ideal S512x128 .bf16)
    (kr : Vec Ideal S512x64 .bf16) (v : Vec Ideal S512x128 .bf16) (g : Vec Ideal S512x128 .bf16) (l : Vec Ideal S1x512x1 .f32) : Prop where
  q : ∀ (x : Fin 512) d, q (ix2 x d) = H.qn (ro 0 (by omega) x) d
  qr : ∀ (x : Fin 512) d, qr (ix3 0 x d) = H.qr (ro 0 (by omega) x) d
  k : ∀ (y : Fin 512) d, k (ix2 y d) = H.kn (Fin.castLE (by omega) y) d
  kr : ∀ (y : Fin 512) d, kr (ix2 y d) = H.kr (Fin.castLE (by omega) y) d
  v : ∀ (y : Fin 512) d, v (ix2 y d) = H.v (Fin.castLE (by omega) y) d
  g : ∀ (x : Fin 512) d, g (ix2 x d) = H.o (ro 0 (by omega) x) d
  l : ∀ (x : Fin 512) (z : Fin 1), l (ix3 0 x z) = AttnRow.lse (H.row (ro 0 (by omega) x))

variable {H : Head} {q : Vec Ideal S512x128 .bf16} {qr : Vec Ideal S1x512x64 .bf16} {k : Vec Ideal S512x128 .bf16}
    {kr : Vec Ideal S512x64 .bf16} {v : Vec Ideal S512x128 .bf16} {g : Vec Ideal S512x128 .bf16} {l : Vec Ideal S1x512x1 .f32}

theorem prob (h : In H q qr k kr v g l) (x : Fin 512) (y : Fin 512) :
    k0_pay16 (F := Ideal) (k0_pay14 (F := Ideal) q qr k kr) k0_pay15 (iota .tc S512x512 32 [1] iota_S512x512_d1_w32) l (ix2 x y) = H.p (ro 0 (by omega) x) (Fin.castLE (by omega) y) := by
  pointwise [k0_pay16, k0_pay14, k0_pay15, k0_pay9, k0_pay10, k0_pay12, k0_pay13]
  exact Attn.prob H (ro 0 (by omega) x) (Fin.castLE (by omega) y) x.val 0 rfl _ _ _
    (Finset.sum_congr rfl fun d _ => congr (congrArg HMul.hMul (h.q x d)) (h.k y d))
    (Finset.sum_congr rfl fun d _ => congr (congrArg HMul.hMul (h.qr x d)) (h.kr y d)) (h.l x 0)

theorem score (h : In H q qr k kr v g l) (x : Fin 512) (y : Fin 512) :
    k0_pay17 (F := Ideal) (k0_pay11 (F := Ideal) g) (k0_pay14 (F := Ideal) q qr k kr) k0_pay15 (iota .tc S512x512 32 [1] iota_S512x512_d1_w32) l v (ix2 x y) = H.ds (ro 0 (by omega) x) (Fin.castLE (by omega) y) := by
  have hP := prob h
  generalize hp : k0_pay16 (F := Ideal) (k0_pay14 (F := Ideal) q qr k kr) k0_pay15 (iota .tc S512x512 32 [1] iota_S512x512_d1_w32) l = P at hP
  pointwise [k0_pay17, k0_pay11]
  simp only [hp, hP, h.g, h.v]
  rw [Head.ds, ← keys (n := 512) (by omega) _ fun k hk => by rw [Head.p_masked H (show 0 + x.val < k.val by omega), zero_mul]]
  rfl

theorem qn (h : In H q qr k kr v g l) (x : Fin 512) (d : Fin 128) :
    k0_pay18 (F := Ideal) (k0_pay11 (F := Ideal) g) (k0_pay12 (F := Ideal) k) (k0_pay14 (F := Ideal) q qr k kr) k0_pay15 (iota .tc S512x512 32 [1] iota_S512x512_d1_w32) l v (ix2 x d) = (∑ y, H.ds (ro 0 (by omega) x) y * H.kn y d) := by
  have hD := score h
  generalize hd : k0_pay17 (F := Ideal) (k0_pay11 (F := Ideal) g) (k0_pay14 (F := Ideal) q qr k kr) k0_pay15 (iota .tc S512x512 32 [1] iota_S512x512_d1_w32) l v = D at hD
  pointwise [k0_pay18, k0_pay12]
  simp only [hd, hD, h.k]
  exact keys (n := 512) (by omega) (fun y => H.ds (ro 0 (by omega) x) y * H.kn y d) fun k hk => by rw [Head.ds_masked H (show 0 + x.val < k.val by omega), zero_mul]

theorem qc (h : In H q qr k kr v g l) (c : Vec Ideal S512x64 .f32) (x : Fin 512) (d : Fin 64) :
    k0_pay20 (F := Ideal) (k0_pay11 (F := Ideal) g) (k0_pay13 (F := Ideal) kr) (k0_pay14 (F := Ideal) q qr k kr) k0_pay15 (iota .tc S512x512 32 [1] iota_S512x512_d1_w32) l v c (ix3 0 x d) = (∑ y, H.ds (ro 0 (by omega) x) y * H.kr y d) * c (ix2 x d) := by
  have hD := score h
  generalize hd : k0_pay17 (F := Ideal) (k0_pay11 (F := Ideal) g) (k0_pay14 (F := Ideal) q qr k kr) k0_pay15 (iota .tc S512x512 32 [1] iota_S512x512_d1_w32) l v = D at hD
  pointwise [k0_pay20, k0_pay19, k0_pay13]
  simp only [hd, hD, h.kr]
  exact congrArg (fun s : EReal => s * (c (ix2 x d) : EReal)) (keys (n := 512) (by omega) (fun y => H.ds (ro 0 (by omega) x) y * H.kr y d) fun k hk => by rw [Head.ds_masked H (show 0 + x.val < k.val by omega), zero_mul])

theorem qs (h : In H q qr k kr v g l) (c : Vec Ideal S512x64 .f32) (x : Fin 512) (d : Fin 64) :
    k0_pay22 (F := Ideal) (k0_pay21 (F := Ideal) (k0_pay11 (F := Ideal) g) (k0_pay13 (F := Ideal) kr) (k0_pay14 (F := Ideal) q qr k kr) k0_pay15 (iota .tc S512x512 32 [1] iota_S512x512_d1_w32) l v c) (ix3 0 x d) = (∑ y, H.ds (ro 0 (by omega) x) y * H.kr y d) * c (ix2 x d) := by
  have hD := score h
  generalize hd : k0_pay17 (F := Ideal) (k0_pay11 (F := Ideal) g) (k0_pay14 (F := Ideal) q qr k kr) k0_pay15 (iota .tc S512x512 32 [1] iota_S512x512_d1_w32) l v = D at hD
  pointwise [k0_pay22, k0_pay21, k0_pay19, k0_pay13]
  simp only [hd, hD, h.kr]
  exact congrArg (fun s : EReal => s * (c (ix2 x d) : EReal)) (keys (n := 512) (by omega) (fun y => H.ds (ro 0 (by omega) x) y * H.kr y d) fun k hk => by rw [Head.ds_masked H (show 0 + x.val < k.val by omega), zero_mul])

theorem dk (h : In H q qr k kr v g l) (a : Vec Ideal S512x128 .f32) (y : Fin 512) (d : Fin 128) :
    k0_pay23 (F := Ideal) (k0_pay9 (F := Ideal) q) (k0_pay17 (F := Ideal) (k0_pay11 (F := Ideal) g) (k0_pay14 (F := Ideal) q qr k kr) k0_pay15 (iota .tc S512x512 32 [1] iota_S512x512_d1_w32) l v) a (ix2 y d) = (a (ix2 y d) : EReal) + ∑ x : Fin 512, H.ds (ro 0 (by omega) x) (Fin.castLE (by omega) y) * H.qn (ro 0 (by omega) x) d := by
  have hD := score h
  generalize hd : k0_pay17 (F := Ideal) (k0_pay11 (F := Ideal) g) (k0_pay14 (F := Ideal) q qr k kr) k0_pay15 (iota .tc S512x512 32 [1] iota_S512x512_d1_w32) l v = D at hD
  pointwise [k0_pay23, k0_pay9]
  simp only [hd, hD, h.q]

theorem dr (h : In H q qr k kr v g l) (a : Vec Ideal S512x64 .f32) (y : Fin 512) (d : Fin 64) :
    k0_pay24 (F := Ideal) (k0_pay10 (F := Ideal) qr) (k0_pay17 (F := Ideal) (k0_pay11 (F := Ideal) g) (k0_pay14 (F := Ideal) q qr k kr) k0_pay15 (iota .tc S512x512 32 [1] iota_S512x512_d1_w32) l v) a (ix2 y d) = (a (ix2 y d) : EReal) + ∑ x : Fin 512, H.ds (ro 0 (by omega) x) (Fin.castLE (by omega) y) * H.qr (ro 0 (by omega) x) d := by
  have hD := score h
  generalize hd : k0_pay17 (F := Ideal) (k0_pay11 (F := Ideal) g) (k0_pay14 (F := Ideal) q qr k kr) k0_pay15 (iota .tc S512x512 32 [1] iota_S512x512_d1_w32) l v = D at hD
  pointwise [k0_pay24, k0_pay10]
  simp only [hd, hD, h.qr]

theorem dv (h : In H q qr k kr v g l) (a : Vec Ideal S512x128 .f32) (y : Fin 512) (d : Fin 128) :
    k0_pay25 (F := Ideal) (k0_pay11 (F := Ideal) g) (k0_pay16 (F := Ideal) (k0_pay14 (F := Ideal) q qr k kr) k0_pay15 (iota .tc S512x512 32 [1] iota_S512x512_d1_w32) l) a (ix2 y d) = (a (ix2 y d) : EReal) + ∑ x : Fin 512, H.p (ro 0 (by omega) x) (Fin.castLE (by omega) y) * H.o (ro 0 (by omega) x) d := by
  have hD := prob h
  generalize hd : k0_pay16 (F := Ideal) (k0_pay14 (F := Ideal) q qr k kr) k0_pay15 (iota .tc S512x512 32 [1] iota_S512x512_d1_w32) l = D at hD
  pointwise [k0_pay25, k0_pay11]
  simp only [hd, hD, h.g]

end Cert.Attn.S1

end
-- ==== Proof.AttnSlice2.lean ====
/- Slice 2 of the attention's gradient: queries 512 to 1023 against keys 0 to 1023. -/
module

public import proofs.«01_k».proof.Proof.AttnProb

@[expose] public section

set_option maxRecDepth 16384

noncomputable section

open Idealize.ShloMosaic Idealize.ShloMosaic.TcCoe Idealize.SL.Sem
open Idealize.ShloMosaic.Pipeline (Dat)

namespace Cert.Attn.S2

open Cert.Attn Cert.Kernel2Ideal Cert.Kernel2Ideal.Gen

/-- The slice's operands are the head's rows. -/
structure In (H : Head) (q : Vec Ideal S512x128 .bf16) (qr : Vec Ideal S1x512x64 .bf16) (k : Vec Ideal S1024x128 .bf16)
    (kr : Vec Ideal S1024x64 .bf16) (v : Vec Ideal S1024x128 .bf16) (g : Vec Ideal S512x128 .bf16) (l : Vec Ideal S1x512x1 .f32) : Prop where
  q : ∀ (x : Fin 512) d, q (ix2 x d) = H.qn (ro 512 (by omega) x) d
  qr : ∀ (x : Fin 512) d, qr (ix3 0 x d) = H.qr (ro 512 (by omega) x) d
  k : ∀ (y : Fin 1024) d, k (ix2 y d) = H.kn (Fin.castLE (by omega) y) d
  kr : ∀ (y : Fin 1024) d, kr (ix2 y d) = H.kr (Fin.castLE (by omega) y) d
  v : ∀ (y : Fin 1024) d, v (ix2 y d) = H.v (Fin.castLE (by omega) y) d
  g : ∀ (x : Fin 512) d, g (ix2 x d) = H.o (ro 512 (by omega) x) d
  l : ∀ (x : Fin 512) (z : Fin 1), l (ix3 0 x z) = AttnRow.lse (H.row (ro 512 (by omega) x))

variable {H : Head} {q : Vec Ideal S512x128 .bf16} {qr : Vec Ideal S1x512x64 .bf16} {k : Vec Ideal S1024x128 .bf16}
    {kr : Vec Ideal S1024x64 .bf16} {v : Vec Ideal S1024x128 .bf16} {g : Vec Ideal S512x128 .bf16} {l : Vec Ideal S1x512x1 .f32}

theorem prob (h : In H q qr k kr v g l) (x : Fin 512) (y : Fin 1024) :
    k0_pay31 (F := Ideal) (k0_pay26 (F := Ideal) q) (k0_pay27 (F := Ideal) qr) (k0_pay29 (F := Ideal) k) (k0_pay30 (F := Ideal) kr) l (ix2 x y) = H.p (ro 512 (by omega) x) (Fin.castLE (by omega) y) := by
  pointwise [k0_pay31, k0_pay26, k0_pay27, k0_pay29, k0_pay30]
  exact Attn.prob H (ro 512 (by omega) x) (Fin.castLE (by omega) y) x.val 512 rfl _ _ _
    (Finset.sum_congr rfl fun d _ => congr (congrArg HMul.hMul (h.q x d)) (h.k y d))
    (Finset.sum_congr rfl fun d _ => congr (congrArg HMul.hMul (h.qr x d)) (h.kr y d)) (h.l x 0)

theorem score (h : In H q qr k kr v g l) (x : Fin 512) (y : Fin 1024) :
    k0_pay32 (F := Ideal) (k0_pay26 (F := Ideal) q) (k0_pay27 (F := Ideal) qr) (k0_pay28 (F := Ideal) g) (k0_pay29 (F := Ideal) k) (k0_pay30 (F := Ideal) kr) l v (ix2 x y) = H.ds (ro 512 (by omega) x) (Fin.castLE (by omega) y) := by
  have hP := prob h
  generalize hp : k0_pay31 (F := Ideal) (k0_pay26 (F := Ideal) q) (k0_pay27 (F := Ideal) qr) (k0_pay29 (F := Ideal) k) (k0_pay30 (F := Ideal) kr) l = P at hP
  pointwise [k0_pay32, k0_pay28]
  simp only [hp, hP, h.g, h.v]
  rw [Head.ds, ← keys (n := 1024) (by omega) _ fun k hk => by rw [Head.p_masked H (show 512 + x.val < k.val by omega), zero_mul]]
  rfl

theorem qn (h : In H q qr k kr v g l) (x : Fin 512) (d : Fin 128) :
    k0_pay33 (F := Ideal) (k0_pay26 (F := Ideal) q) (k0_pay27 (F := Ideal) qr) (k0_pay28 (F := Ideal) g) (k0_pay29 (F := Ideal) k) (k0_pay30 (F := Ideal) kr) l v (ix2 x d) = (∑ y, H.ds (ro 512 (by omega) x) y * H.kn y d) := by
  have hD := score h
  generalize hd : k0_pay32 (F := Ideal) (k0_pay26 (F := Ideal) q) (k0_pay27 (F := Ideal) qr) (k0_pay28 (F := Ideal) g) (k0_pay29 (F := Ideal) k) (k0_pay30 (F := Ideal) kr) l v = D at hD
  unfold k0_pay33
  rw [hd]
  pointwise [k0_pay33, k0_pay29]
  simp only [hd, hD, h.k]
  exact keys (n := 1024) (by omega) (fun y => H.ds (ro 512 (by omega) x) y * H.kn y d) fun k hk => by rw [Head.ds_masked H (show 512 + x.val < k.val by omega), zero_mul]

theorem qc (h : In H q qr k kr v g l) (c : Vec Ideal S512x64 .f32) (x : Fin 512) (d : Fin 64) :
    k0_pay36 (F := Ideal) (k0_pay35 (F := Ideal) (k0_pay26 (F := Ideal) q) (k0_pay27 (F := Ideal) qr) (k0_pay28 (F := Ideal) g) (k0_pay29 (F := Ideal) k) (k0_pay30 (F := Ideal) kr) l v c) (ix3 0 x d) = (∑ y, H.ds (ro 512 (by omega) x) y * H.kr y d) * c (ix2 x d) := by
  have hD := score h
  generalize hd : k0_pay32 (F := Ideal) (k0_pay26 (F := Ideal) q) (k0_pay27 (F := Ideal) qr) (k0_pay28 (F := Ideal) g) (k0_pay29 (F := Ideal) k) (k0_pay30 (F := Ideal) kr) l v = D at hD
  unfold k0_pay36 k0_pay35 k0_pay34
  rw [hd]
  pointwise [k0_pay36, k0_pay35, k0_pay34, k0_pay30]
  simp only [hd, hD, h.kr]
  exact congrArg (fun s : EReal => s * (c (ix2 x d) : EReal)) (keys (n := 1024) (by omega) (fun y => H.ds (ro 512 (by omega) x) y * H.kr y d) fun k hk => by rw [Head.ds_masked H (show 512 + x.val < k.val by omega), zero_mul])

theorem qs (h : In H q qr k kr v g l) (c : Vec Ideal S512x64 .f32) (x : Fin 512) (d : Fin 64) :
    k0_pay37 (F := Ideal) (k0_pay34 (F := Ideal) (k0_pay26 (F := Ideal) q) (k0_pay27 (F := Ideal) qr) (k0_pay28 (F := Ideal) g) (k0_pay29 (F := Ideal) k) (k0_pay30 (F := Ideal) kr) l v) c (ix3 0 x d) = (∑ y, H.ds (ro 512 (by omega) x) y * H.kr y d) * c (ix2 x d) := by
  have hD := score h
  generalize hd : k0_pay32 (F := Ideal) (k0_pay26 (F := Ideal) q) (k0_pay27 (F := Ideal) qr) (k0_pay28 (F := Ideal) g) (k0_pay29 (F := Ideal) k) (k0_pay30 (F := Ideal) kr) l v = D at hD
  unfold k0_pay37 k0_pay34
  rw [hd]
  pointwise [k0_pay37, k0_pay34, k0_pay30]
  simp only [hd, hD, h.kr]
  exact congrArg (fun s : EReal => s * (c (ix2 x d) : EReal)) (keys (n := 1024) (by omega) (fun y => H.ds (ro 512 (by omega) x) y * H.kr y d) fun k hk => by rw [Head.ds_masked H (show 512 + x.val < k.val by omega), zero_mul])

theorem dk (h : In H q qr k kr v g l) (a : Vec Ideal S1024x128 .f32) (y : Fin 1024) (d : Fin 128) :
    k0_pay38 (F := Ideal) (k0_pay26 (F := Ideal) q) (k0_pay32 (F := Ideal) (k0_pay26 (F := Ideal) q) (k0_pay27 (F := Ideal) qr) (k0_pay28 (F := Ideal) g) (k0_pay29 (F := Ideal) k) (k0_pay30 (F := Ideal) kr) l v) a (ix2 y d) = (a (ix2 y d) : EReal) + ∑ x : Fin 512, H.ds (ro 512 (by omega) x) (Fin.castLE (by omega) y) * H.qn (ro 512 (by omega) x) d := by
  have hD := score h
  generalize hd : k0_pay32 (F := Ideal) (k0_pay26 (F := Ideal) q) (k0_pay27 (F := Ideal) qr) (k0_pay28 (F := Ideal) g) (k0_pay29 (F := Ideal) k) (k0_pay30 (F := Ideal) kr) l v = D at hD
  pointwise [k0_pay38, k0_pay26]
  simp only [hd, hD, h.q]

theorem dr (h : In H q qr k kr v g l) (a : Vec Ideal S1024x64 .f32) (y : Fin 1024) (d : Fin 64) :
    k0_pay39 (F := Ideal) (k0_pay27 (F := Ideal) qr) (k0_pay32 (F := Ideal) (k0_pay26 (F := Ideal) q) (k0_pay27 (F := Ideal) qr) (k0_pay28 (F := Ideal) g) (k0_pay29 (F := Ideal) k) (k0_pay30 (F := Ideal) kr) l v) a (ix2 y d) = (a (ix2 y d) : EReal) + ∑ x : Fin 512, H.ds (ro 512 (by omega) x) (Fin.castLE (by omega) y) * H.qr (ro 512 (by omega) x) d := by
  have hD := score h
  generalize hd : k0_pay32 (F := Ideal) (k0_pay26 (F := Ideal) q) (k0_pay27 (F := Ideal) qr) (k0_pay28 (F := Ideal) g) (k0_pay29 (F := Ideal) k) (k0_pay30 (F := Ideal) kr) l v = D at hD
  pointwise [k0_pay39, k0_pay27]
  simp only [hd, hD, h.qr]

theorem dv (h : In H q qr k kr v g l) (a : Vec Ideal S1024x128 .f32) (y : Fin 1024) (d : Fin 128) :
    k0_pay40 (F := Ideal) (k0_pay28 (F := Ideal) g) (k0_pay31 (F := Ideal) (k0_pay26 (F := Ideal) q) (k0_pay27 (F := Ideal) qr) (k0_pay29 (F := Ideal) k) (k0_pay30 (F := Ideal) kr) l) a (ix2 y d) = (a (ix2 y d) : EReal) + ∑ x : Fin 512, H.p (ro 512 (by omega) x) (Fin.castLE (by omega) y) * H.o (ro 512 (by omega) x) d := by
  have hD := prob h
  generalize hd : k0_pay31 (F := Ideal) (k0_pay26 (F := Ideal) q) (k0_pay27 (F := Ideal) qr) (k0_pay29 (F := Ideal) k) (k0_pay30 (F := Ideal) kr) l = D at hD
  pointwise [k0_pay40, k0_pay28]
  simp only [hd, hD, h.g]

end Cert.Attn.S2

end
-- ==== Proof.AttnSlice3.lean ====
/- Slice 3 of the attention's gradient: queries 1024 to 1535 against keys 0 to 1535. -/
module

public import proofs.«01_k».proof.Proof.AttnProb

@[expose] public section

set_option maxRecDepth 16384

noncomputable section

open Idealize.ShloMosaic Idealize.ShloMosaic.TcCoe Idealize.SL.Sem
open Idealize.ShloMosaic.Pipeline (Dat)

namespace Cert.Attn.S3

open Cert.Attn Cert.Kernel2Ideal Cert.Kernel2Ideal.Gen

/-- The slice's operands are the head's rows. -/
structure In (H : Head) (q : Vec Ideal S512x128 .bf16) (qr : Vec Ideal S1x512x64 .bf16) (k : Vec Ideal S1536x128 .bf16)
    (kr : Vec Ideal S1536x64 .bf16) (v : Vec Ideal S1536x128 .bf16) (g : Vec Ideal S512x128 .bf16) (l : Vec Ideal S1x512x1 .f32) : Prop where
  q : ∀ (x : Fin 512) d, q (ix2 x d) = H.qn (ro 1024 (by omega) x) d
  qr : ∀ (x : Fin 512) d, qr (ix3 0 x d) = H.qr (ro 1024 (by omega) x) d
  k : ∀ (y : Fin 1536) d, k (ix2 y d) = H.kn (Fin.castLE (by omega) y) d
  kr : ∀ (y : Fin 1536) d, kr (ix2 y d) = H.kr (Fin.castLE (by omega) y) d
  v : ∀ (y : Fin 1536) d, v (ix2 y d) = H.v (Fin.castLE (by omega) y) d
  g : ∀ (x : Fin 512) d, g (ix2 x d) = H.o (ro 1024 (by omega) x) d
  l : ∀ (x : Fin 512) (z : Fin 1), l (ix3 0 x z) = AttnRow.lse (H.row (ro 1024 (by omega) x))

variable {H : Head} {q : Vec Ideal S512x128 .bf16} {qr : Vec Ideal S1x512x64 .bf16} {k : Vec Ideal S1536x128 .bf16}
    {kr : Vec Ideal S1536x64 .bf16} {v : Vec Ideal S1536x128 .bf16} {g : Vec Ideal S512x128 .bf16} {l : Vec Ideal S1x512x1 .f32}

theorem prob (h : In H q qr k kr v g l) (x : Fin 512) (y : Fin 1536) :
    k0_pay46 (F := Ideal) (k0_pay41 (F := Ideal) q) qr k kr l (ix2 x y) = H.p (ro 1024 (by omega) x) (Fin.castLE (by omega) y) := by
  pointwise [k0_pay46, k0_pay41, k0_pay42, k0_pay44, k0_pay45]
  exact Attn.prob H (ro 1024 (by omega) x) (Fin.castLE (by omega) y) x.val 1024 rfl _ _ _
    (Finset.sum_congr rfl fun d _ => congr (congrArg HMul.hMul (h.q x d)) (h.k y d))
    (Finset.sum_congr rfl fun d _ => congr (congrArg HMul.hMul (h.qr x d)) (h.kr y d)) (h.l x 0)

theorem score (h : In H q qr k kr v g l) (x : Fin 512) (y : Fin 1536) :
    k0_pay47 (F := Ideal) (k0_pay41 (F := Ideal) q) qr g k kr l v (ix2 x y) = H.ds (ro 1024 (by omega) x) (Fin.castLE (by omega) y) := by
  have hP := prob h
  generalize hp : k0_pay46 (F := Ideal) (k0_pay41 (F := Ideal) q) qr k kr l = P at hP
  pointwise [k0_pay47, k0_pay43]
  simp only [hp, hP, h.g, h.v]
  rw [Head.ds, ← keys (n := 1536) (by omega) _ fun k hk => by rw [Head.p_masked H (show 1024 + x.val < k.val by omega), zero_mul]]
  rfl

theorem qn (h : In H q qr k kr v g l) (x : Fin 512) (d : Fin 128) :
    k0_pay48 (F := Ideal) (k0_pay41 (F := Ideal) q) qr g k kr l v (ix2 x d) = (∑ y, H.ds (ro 1024 (by omega) x) y * H.kn y d) := by
  have hD := score h
  generalize hd : k0_pay47 (F := Ideal) (k0_pay41 (F := Ideal) q) qr g k kr l v = D at hD
  pointwise [k0_pay48, k0_pay44]
  simp only [hd, hD, h.k]
  exact keys (n := 1536) (by omega) (fun y => H.ds (ro 1024 (by omega) x) y * H.kn y d) fun k hk => by rw [Head.ds_masked H (show 1024 + x.val < k.val by omega), zero_mul]

theorem qc (h : In H q qr k kr v g l) (c : Vec Ideal S512x64 .f32) (x : Fin 512) (d : Fin 64) :
    k0_pay50 (F := Ideal) (k0_pay45 (F := Ideal) kr) (k0_pay47 (F := Ideal) (k0_pay41 (F := Ideal) q) qr g k kr l v) c (ix3 0 x d) = (∑ y, H.ds (ro 1024 (by omega) x) y * H.kr y d) * c (ix2 x d) := by
  have hD := score h
  generalize hd : k0_pay47 (F := Ideal) (k0_pay41 (F := Ideal) q) qr g k kr l v = D at hD
  pointwise [k0_pay50, k0_pay49, k0_pay45]
  simp only [hd, hD, h.kr]
  exact congrArg (fun s : EReal => s * (c (ix2 x d) : EReal)) (keys (n := 1536) (by omega) (fun y => H.ds (ro 1024 (by omega) x) y * H.kr y d) fun k hk => by rw [Head.ds_masked H (show 1024 + x.val < k.val by omega), zero_mul])

theorem qs (h : In H q qr k kr v g l) (c : Vec Ideal S512x64 .f32) (x : Fin 512) (d : Fin 64) :
    k0_pay51 (F := Ideal) (k0_pay45 (F := Ideal) kr) (k0_pay47 (F := Ideal) (k0_pay41 (F := Ideal) q) qr g k kr l v) c (ix3 0 x d) = (∑ y, H.ds (ro 1024 (by omega) x) y * H.kr y d) * c (ix2 x d) := by
  have hD := score h
  generalize hd : k0_pay47 (F := Ideal) (k0_pay41 (F := Ideal) q) qr g k kr l v = D at hD
  pointwise [k0_pay51, k0_pay49, k0_pay45]
  simp only [hd, hD, h.kr]
  exact congrArg (fun s : EReal => s * (c (ix2 x d) : EReal)) (keys (n := 1536) (by omega) (fun y => H.ds (ro 1024 (by omega) x) y * H.kr y d) fun k hk => by rw [Head.ds_masked H (show 1024 + x.val < k.val by omega), zero_mul])

theorem dk (h : In H q qr k kr v g l) (a : Vec Ideal S1536x128 .f32) (y : Fin 1536) (d : Fin 128) :
    k0_pay52 (F := Ideal) (k0_pay41 (F := Ideal) q) (k0_pay47 (F := Ideal) (k0_pay41 (F := Ideal) q) qr g k kr l v) a (ix2 y d) = (a (ix2 y d) : EReal) + ∑ x : Fin 512, H.ds (ro 1024 (by omega) x) (Fin.castLE (by omega) y) * H.qn (ro 1024 (by omega) x) d := by
  have hD := score h
  generalize hd : k0_pay47 (F := Ideal) (k0_pay41 (F := Ideal) q) qr g k kr l v = D at hD
  pointwise [k0_pay52, k0_pay41]
  simp only [hd, hD, h.q]

theorem dr (h : In H q qr k kr v g l) (a : Vec Ideal S1536x64 .f32) (y : Fin 1536) (d : Fin 64) :
    k0_pay53 (F := Ideal) (k0_pay42 (F := Ideal) qr) (k0_pay47 (F := Ideal) (k0_pay41 (F := Ideal) q) qr g k kr l v) a (ix2 y d) = (a (ix2 y d) : EReal) + ∑ x : Fin 512, H.ds (ro 1024 (by omega) x) (Fin.castLE (by omega) y) * H.qr (ro 1024 (by omega) x) d := by
  have hD := score h
  generalize hd : k0_pay47 (F := Ideal) (k0_pay41 (F := Ideal) q) qr g k kr l v = D at hD
  pointwise [k0_pay53, k0_pay42]
  simp only [hd, hD, h.qr]

theorem dv (h : In H q qr k kr v g l) (a : Vec Ideal S1536x128 .f32) (y : Fin 1536) (d : Fin 128) :
    k0_pay55 (F := Ideal) (k0_pay54 (F := Ideal) (k0_pay43 (F := Ideal) g) (k0_pay46 (F := Ideal) (k0_pay41 (F := Ideal) q) qr k kr l) a) (ix2 y d) = (a (ix2 y d) : EReal) + ∑ x : Fin 512, H.p (ro 1024 (by omega) x) (Fin.castLE (by omega) y) * H.o (ro 1024 (by omega) x) d := by
  have hD := prob h
  generalize hd : k0_pay46 (F := Ideal) (k0_pay41 (F := Ideal) q) qr k kr l = D at hD
  pointwise [k0_pay55, k0_pay54, k0_pay43]
  simp only [hd, hD, h.g]

end Cert.Attn.S3

end
-- ==== Proof.AttnSlice4.lean ====
/- Slice 4 of the attention's gradient: queries 1536 to 2047 against keys 0 to 2047. -/
module

public import proofs.«01_k».proof.Proof.AttnProb

@[expose] public section

set_option maxRecDepth 16384

noncomputable section

open Idealize.ShloMosaic Idealize.ShloMosaic.TcCoe Idealize.SL.Sem
open Idealize.ShloMosaic.Pipeline (Dat)

namespace Cert.Attn.S4

open Cert.Attn Cert.Kernel2Ideal Cert.Kernel2Ideal.Gen

/-- The slice's operands are the head's rows. -/
structure In (H : Head) (q : Vec Ideal S512x128 .bf16) (qr : Vec Ideal S1x512x64 .bf16) (k : Vec Ideal S2048x128 .bf16)
    (kr : Vec Ideal S2048x64 .bf16) (v : Vec Ideal S2048x128 .bf16) (g : Vec Ideal S512x128 .bf16) (l : Vec Ideal S1x512x1 .f32) : Prop where
  q : ∀ (x : Fin 512) d, q (ix2 x d) = H.qn (ro 1536 (by omega) x) d
  qr : ∀ (x : Fin 512) d, qr (ix3 0 x d) = H.qr (ro 1536 (by omega) x) d
  k : ∀ (y : Fin 2048) d, k (ix2 y d) = H.kn (Fin.castLE (by omega) y) d
  kr : ∀ (y : Fin 2048) d, kr (ix2 y d) = H.kr (Fin.castLE (by omega) y) d
  v : ∀ (y : Fin 2048) d, v (ix2 y d) = H.v (Fin.castLE (by omega) y) d
  g : ∀ (x : Fin 512) d, g (ix2 x d) = H.o (ro 1536 (by omega) x) d
  l : ∀ (x : Fin 512) (z : Fin 1), l (ix3 0 x z) = AttnRow.lse (H.row (ro 1536 (by omega) x))

variable {H : Head} {q : Vec Ideal S512x128 .bf16} {qr : Vec Ideal S1x512x64 .bf16} {k : Vec Ideal S2048x128 .bf16}
    {kr : Vec Ideal S2048x64 .bf16} {v : Vec Ideal S2048x128 .bf16} {g : Vec Ideal S512x128 .bf16} {l : Vec Ideal S1x512x1 .f32}

theorem prob (h : In H q qr k kr v g l) (x : Fin 512) (y : Fin 2048) :
    k0_pay61 (F := Ideal) q qr k kr l (ix2 x y) = H.p (ro 1536 (by omega) x) (Fin.castLE (by omega) y) := by
  pointwise [k0_pay61, k0_pay56, k0_pay57, k0_pay59, k0_pay60]
  exact Attn.prob H (ro 1536 (by omega) x) (Fin.castLE (by omega) y) x.val 1536 rfl _ _ _
    (Finset.sum_congr rfl fun d _ => congr (congrArg HMul.hMul (h.q x d)) (h.k y d))
    (Finset.sum_congr rfl fun d _ => congr (congrArg HMul.hMul (h.qr x d)) (h.kr y d)) (h.l x 0)

theorem score (h : In H q qr k kr v g l) (x : Fin 512) (y : Fin 2048) :
    k0_pay64 (F := Ideal) (k0_pay61 (F := Ideal) q qr k kr l) (k0_pay62 (F := Ideal) g v) (k0_pay63 (F := Ideal) q qr g k kr l v) (ix2 x y) = H.ds (ro 1536 (by omega) x) (Fin.castLE (by omega) y) := by
  have hP := prob h
  generalize hp : k0_pay61 (F := Ideal) q qr k kr l = P at hP
  pointwise [k0_pay64, k0_pay63, k0_pay62, k0_pay58]
  simp only [hp, hP, h.g, h.v]
  rw [Head.ds, ← keys (n := 2048) (by omega) _ fun k hk => by rw [Head.p_masked H (show 1536 + x.val < k.val by omega), zero_mul]]
  rfl

theorem qn (h : In H q qr k kr v g l) (x : Fin 512) (d : Fin 128) :
    k0_pay65 (F := Ideal) (k0_pay59 (F := Ideal) k) (k0_pay61 (F := Ideal) q qr k kr l) (k0_pay62 (F := Ideal) g v) (k0_pay63 (F := Ideal) q qr g k kr l v) (ix2 x d) = (∑ y, H.ds (ro 1536 (by omega) x) y * H.kn y d) := by
  have hD := score h
  generalize hd : k0_pay64 (F := Ideal) (k0_pay61 (F := Ideal) q qr k kr l) (k0_pay62 (F := Ideal) g v) (k0_pay63 (F := Ideal) q qr g k kr l v) = D at hD
  pointwise [k0_pay65, k0_pay59]
  simp only [hd, hD, h.k]
  exact keys (n := 2048) (by omega) (fun y => H.ds (ro 1536 (by omega) x) y * H.kn y d) fun k hk => by rw [Head.ds_masked H (show 1536 + x.val < k.val by omega), zero_mul]

theorem qc (h : In H q qr k kr v g l) (c : Vec Ideal S512x64 .f32) (x : Fin 512) (d : Fin 64) :
    k0_pay67 (F := Ideal) (k0_pay60 (F := Ideal) kr) (k0_pay61 (F := Ideal) q qr k kr l) (k0_pay62 (F := Ideal) g v) (k0_pay63 (F := Ideal) q qr g k kr l v) c (ix3 0 x d) = (∑ y, H.ds (ro 1536 (by omega) x) y * H.kr y d) * c (ix2 x d) := by
  have hD := score h
  generalize hd : k0_pay64 (F := Ideal) (k0_pay61 (F := Ideal) q qr k kr l) (k0_pay62 (F := Ideal) g v) (k0_pay63 (F := Ideal) q qr g k kr l v) = D at hD
  pointwise [k0_pay67, k0_pay66, k0_pay60]
  simp only [hd, hD, h.kr]
  exact congrArg (fun s : EReal => s * (c (ix2 x d) : EReal)) (keys (n := 2048) (by omega) (fun y => H.ds (ro 1536 (by omega) x) y * H.kr y d) fun k hk => by rw [Head.ds_masked H (show 1536 + x.val < k.val by omega), zero_mul])

theorem qs (h : In H q qr k kr v g l) (c : Vec Ideal S512x64 .f32) (x : Fin 512) (d : Fin 64) :
    k0_pay68 (F := Ideal) (k0_pay60 (F := Ideal) kr) (k0_pay61 (F := Ideal) q qr k kr l) (k0_pay62 (F := Ideal) g v) (k0_pay63 (F := Ideal) q qr g k kr l v) c (ix3 0 x d) = (∑ y, H.ds (ro 1536 (by omega) x) y * H.kr y d) * c (ix2 x d) := by
  have hD := score h
  generalize hd : k0_pay64 (F := Ideal) (k0_pay61 (F := Ideal) q qr k kr l) (k0_pay62 (F := Ideal) g v) (k0_pay63 (F := Ideal) q qr g k kr l v) = D at hD
  pointwise [k0_pay68, k0_pay66, k0_pay60]
  simp only [hd, hD, h.kr]
  exact congrArg (fun s : EReal => s * (c (ix2 x d) : EReal)) (keys (n := 2048) (by omega) (fun y => H.ds (ro 1536 (by omega) x) y * H.kr y d) fun k hk => by rw [Head.ds_masked H (show 1536 + x.val < k.val by omega), zero_mul])

theorem dk (h : In H q qr k kr v g l) (a : Vec Ideal S2048x128 .f32) (y : Fin 2048) (d : Fin 128) :
    k0_pay69 (F := Ideal) (k0_pay56 (F := Ideal) q) (k0_pay61 (F := Ideal) q qr k kr l) (k0_pay62 (F := Ideal) g v) (k0_pay63 (F := Ideal) q qr g k kr l v) a (ix2 y d) = (a (ix2 y d) : EReal) + ∑ x : Fin 512, H.ds (ro 1536 (by omega) x) (Fin.castLE (by omega) y) * H.qn (ro 1536 (by omega) x) d := by
  have hD := score h
  generalize hd : k0_pay64 (F := Ideal) (k0_pay61 (F := Ideal) q qr k kr l) (k0_pay62 (F := Ideal) g v) (k0_pay63 (F := Ideal) q qr g k kr l v) = D at hD
  pointwise [k0_pay69, k0_pay56]
  simp only [hd, hD, h.q]

theorem dr (h : In H q qr k kr v g l) (a : Vec Ideal S2048x64 .f32) (y : Fin 2048) (d : Fin 64) :
    k0_pay1 (F := Ideal) (k0_pay70 (F := Ideal) (k0_pay57 (F := Ideal) qr) (k0_pay61 (F := Ideal) q qr k kr l) (k0_pay62 (F := Ideal) g v) (k0_pay63 (F := Ideal) q qr g k kr l v) a) (ix2 y d) = (a (ix2 y d) : EReal) + ∑ x : Fin 512, H.ds (ro 1536 (by omega) x) (Fin.castLE (by omega) y) * H.qr (ro 1536 (by omega) x) d := by
  have hD := score h
  generalize hd : k0_pay64 (F := Ideal) (k0_pay61 (F := Ideal) q qr k kr l) (k0_pay62 (F := Ideal) g v) (k0_pay63 (F := Ideal) q qr g k kr l v) = D at hD
  pointwise [k0_pay1, k0_pay70, k0_pay57]
  simp only [hd, hD, h.qr]

theorem dv (h : In H q qr k kr v g l) (a : Vec Ideal S2048x128 .f32) (y : Fin 2048) (d : Fin 128) :
    k0_pay2 (F := Ideal) (k0_pay58 (F := Ideal) g) (k0_pay61 (F := Ideal) q qr k kr l) a (ix2 y d) = (a (ix2 y d) : EReal) + ∑ x : Fin 512, H.p (ro 1536 (by omega) x) (Fin.castLE (by omega) y) * H.o (ro 1536 (by omega) x) d := by
  have hD := prob h
  generalize hd : k0_pay61 (F := Ideal) q qr k kr l = D at hD
  pointwise [k0_pay2, k0_pay58]
  simp only [hd, hD, h.g]

end Cert.Attn.S4

end
-- ==== Proof.AttnFold.lean ====
/- Four slices of queries, each adding to a prefix of the keys: together they add every query to every key. -/
module

public import proofs.«01_k».proof.Proof.AttnScratch

@[expose] public section

set_option maxRecDepth 16384

noncomputable section

open Idealize.ShloMosaic Idealize.ShloMosaic.TcCoe Idealize.SL.Sem
open Idealize.ShloMosaic.Pipeline (Dat)

namespace Cert.Attn

section Fold

variable {W : ℕ}

/-- A prefix of the scratch's rows. -/
abbrev pre (n : ℕ) (inb : ∀ a, (![0, 0] : Fin 2 → ℕ) a + (![n, W] : Fin 2 → ℕ) a ≤ (![2048, W] : Fin 2 → ℕ) a) : Rect ⟨2, ![2048, W]⟩ :=
  Rect.unit ![0, 0] ![n, W] inb

/-- One slice's share of a key's sum. -/
def part (f : Fin 2048 → Fin 2048 → Fin W → EReal) (o : ℕ) (ho : o + 512 ≤ 2048) (k : Fin 2048) (d : Fin W) : EReal :=
  ∑ x : Fin 512, f (ro o ho x) k d

theorem part_zero {f : Fin 2048 → Fin 2048 → Fin W → EReal} (hf : ∀ r k d, r.val < k.val → f r k d = 0) (o : ℕ) (ho : o + 512 ≤ 2048)
    {k : Fin 2048} (hk : o + 512 ≤ k.val) (d : Fin W) : part f o ho k d = 0 :=
  Finset.sum_eq_zero fun x _ => hf _ _ _ (show o + x.val < k.val by have := x.isLt; omega)

theorem parts (f : Fin 2048 → Fin 2048 → Fin W → EReal) (k : Fin 2048) (d : Fin W) :
    (((0 + part f 0 (by omega) k d) + part f 512 (by omega) k d) + part f 1024 (by omega) k d) + part f 1536 (by omega) k d
      = ∑ r, f r k d := by
  rw [Fin.sum_univ_tiles 4 512 rfl, Fin.sum_univ_four, zero_add]
  rfl

variable {sig : RefSig} {κ : Kind} {sp : Space} (v : View sig κ sp ⟨2, ![2048, W]⟩ .f32)
  (i1 : ∀ a, (![0, 0] : Fin 2 → ℕ) a + (![512, W] : Fin 2 → ℕ) a ≤ (![2048, W] : Fin 2 → ℕ) a)
  (i2 : ∀ a, (![0, 0] : Fin 2 → ℕ) a + (![1024, W] : Fin 2 → ℕ) a ≤ (![2048, W] : Fin 2 → ℕ) a)
  (i3 : ∀ a, (![0, 0] : Fin 2 → ℕ) a + (![1536, W] : Fin 2 → ℕ) a ≤ (![2048, W] : Fin 2 → ℕ) a)
  (i4 : ∀ a, (![0, 0] : Fin 2 → ℕ) a + (![2048, W] : Fin 2 → ℕ) a ≤ (![2048, W] : Fin 2 → ℕ) a)
  (Z : (pre 2048 i4).shape.Idx → Elt Ideal .f32)
  (P1 : ((pre 512 i1).shape.Idx → Elt Ideal .f32) → (pre 512 i1).shape.Idx → Elt Ideal .f32)
  (P2 : ((pre 1024 i2).shape.Idx → Elt Ideal .f32) → (pre 1024 i2).shape.Idx → Elt Ideal .f32)
  (P3 : ((pre 1536 i3).shape.Idx → Elt Ideal .f32) → (pre 1536 i3).shape.Idx → Elt Ideal .f32)
  (P4 : ((pre 2048 i4).shape.Idx → Elt Ideal .f32) → (pre 2048 i4).shape.Idx → Elt Ideal .f32)

abbrev L0 : List (View.Piece (Elt Ideal) ⟨2, ![2048, W]⟩ .f32) := [⟨pre 2048 i4, Z⟩]
abbrev L1 : List (View.Piece (Elt Ideal) ⟨2, ![2048, W]⟩ .f32) :=
  ⟨pre 512 i1, P1 (v.readCov (L0 i4 Z) (pre 512 i1).toLoadRect)⟩ :: L0 i4 Z
abbrev L2 : List (View.Piece (Elt Ideal) ⟨2, ![2048, W]⟩ .f32) :=
  ⟨pre 1024 i2, P2 (v.readCov (L1 v i1 i4 Z P1) (pre 1024 i2).toLoadRect)⟩ :: L1 v i1 i4 Z P1
abbrev L3 : List (View.Piece (Elt Ideal) ⟨2, ![2048, W]⟩ .f32) :=
  ⟨pre 1536 i3, P3 (v.readCov (L2 v i1 i2 i4 Z P1 P2) (pre 1536 i3).toLoadRect)⟩ :: L2 v i1 i2 i4 Z P1 P2

theorem fold (f : Fin 2048 → Fin 2048 → Fin W → EReal) (hf : ∀ r k d, r.val < k.val → f r k d = 0)
    (hZ : ∀ (k : Fin 2048) (d : Fin W), Z (ix2 k d) = (0 : EReal))
    (h1 : ∀ a (k : Fin 512) (d : Fin W), P1 a (ix2 k d) = (a (ix2 k d) : EReal) + ∑ x : Fin 512, f (ro 0 (by omega) x) (Fin.castLE (by omega) k) d)
    (h2 : ∀ a (k : Fin 1024) (d : Fin W), P2 a (ix2 k d) = (a (ix2 k d) : EReal) + ∑ x : Fin 512, f (ro 512 (by omega) x) (Fin.castLE (by omega) k) d)
    (h3 : ∀ a (k : Fin 1536) (d : Fin W), P3 a (ix2 k d) = (a (ix2 k d) : EReal) + ∑ x : Fin 512, f (ro 1024 (by omega) x) (Fin.castLE (by omega) k) d)
    (h4 : ∀ a (k : Fin 2048) (d : Fin W), P4 a (ix2 k d) = (a (ix2 k d) : EReal) + ∑ x : Fin 512, f (ro 1536 (by omega) x) (Fin.castLE (by omega) k) d)
    (k : Fin 2048) (d : Fin W) :
    P4 (v.readCov (L3 v i1 i2 i3 i4 Z P1 P2 P3) (pre 2048 i4).toLoadRect) (ix2 k d) = ∑ r, f r k d := by
  let A0 : Fin 2048 → Fin W → EReal := fun _ _ => 0
  let A1 := fun k d => A0 k d + part f 0 (by omega) k d
  let A2 := fun k d => A1 k d + part f 512 (by omega) k d
  let A3 := fun k d => A2 k d + part f 1024 (by omega) k d
  have c0 : ∀ k d, View.canon (L0 i4 Z) (ix2 k d) = A0 k d := fun k d =>
    step (le_refl _) i4 [] A0 A0 Z (fun k d h => absurd k.isLt (by omega)) hZ (fun _ _ _ => rfl) k d
  have c1 : ∀ k d, View.canon (L1 v i1 i4 Z P1) (ix2 k d) = A1 k d := fun k d =>
    step (by omega) i1 _ A0 A1 _ (fun k d _ => c0 k d)
      (fun k d => (h1 _ k d).trans (congrArg (fun s : EReal => s + _) (back (by omega) i1 v _ A0 c0 k d)))
      (fun k d h => (congrArg (fun s : EReal => A0 k d + s) (part_zero hf 0 _ (by omega) d)).trans (add_zero _)) k d
  have c2 : ∀ k d, View.canon (L2 v i1 i2 i4 Z P1 P2) (ix2 k d) = A2 k d := fun k d =>
    step (by omega) i2 _ A1 A2 _ (fun k d _ => c1 k d)
      (fun k d => (h2 _ k d).trans (congrArg (fun s : EReal => s + _) (back (by omega) i2 v _ A1 c1 k d)))
      (fun k d h => (congrArg (fun s : EReal => A1 k d + s) (part_zero hf 512 _ (by omega) d)).trans (add_zero _)) k d
  have c3 : ∀ k d, View.canon (L3 v i1 i2 i3 i4 Z P1 P2 P3) (ix2 k d) = A3 k d := fun k d =>
    step (by omega) i3 _ A2 A3 _ (fun k d _ => c2 k d)
      (fun k d => (h3 _ k d).trans (congrArg (fun s : EReal => s + _) (back (by omega) i3 v _ A2 c2 k d)))
      (fun k d h => (congrArg (fun s : EReal => A2 k d + s) (part_zero hf 1024 _ (by omega) d)).trans (add_zero _)) k d
  refine (h4 _ k d).trans ((congrArg (fun s : EReal => s + _) (back (le_refl _) i4 v _ A3 c3 k d)).trans ?_)
  exact parts f k d

end Fold

end Cert.Attn

end
-- ==== Proof.AttnLse.lean ====
/- The saved logarithm the kernel reads is the logarithm of its row's sum of exponentials. -/
module

public import proofs.«01_k».proof.Proof.AttnHead

@[expose] public section

set_option maxRecDepth 16384

noncomputable section

open Idealize.ShloMosaic Idealize.ShloMosaic.TcCoe Idealize.SL.Sem
open Idealize.ShloMosaic.Pipeline (Dat)

namespace Cert.Attn

open Cert.Kernel2Ideal Cert.Kernel2Ideal.Gen

variable (m : (ℓ : Loc nD τ sig) → Buf (Elt Ideal) ℓ)

theorem lse_cell0 (t : Fin cfg0.N) (r : Fin 2048) (z : Fin 1) :
    ((((cfg0.win 6).blk t).view.emb (ix3 0 r z) 0 : Fin _) : ℕ) = t.val % 8 := by
  simp -proj -dsimp only [ValueKit.blkEmbVal, ValueKit.ixVal, ValueKit.sizeLit, ValueKit.finMkLit, ValueKit.winNorm, ValueKit.winIndexNorm, Matrix.cons_val, Fin.isValue, idx t]
  try omega

theorem lse_cell1 (t : Fin cfg0.N) (r : Fin 2048) (z : Fin 1) :
    ((((cfg0.win 6).blk t).view.emb (ix3 0 r z) 1 : Fin _) : ℕ) = t.val / 8 * 2048 + r.val := by
  simp -proj -dsimp only [ValueKit.blkEmbVal, ValueKit.ixVal, ValueKit.sizeLit, ValueKit.finMkLit, ValueKit.winNorm, ValueKit.winIndexNorm, Matrix.cons_val, Fin.isValue, idx t]

theorem lse_cell2 (t : Fin cfg0.N) (r : Fin 2048) (z : Fin 1) :
    ((((cfg0.win 6).blk t).view.emb (ix3 0 r z) 2 : Fin _) : ℕ) = z.val := by
  simp -proj -dsimp only [ValueKit.blkEmbVal, ValueKit.ixVal, ValueKit.sizeLit, ValueKit.finMkLit, ValueKit.winNorm, ValueKit.winIndexNorm, Matrix.cons_val, Fin.isValue, idx t]
  omega

theorem lse_emb (t : Fin cfg0.N) (r : Fin 2048) (z : Fin 1) : ((cfg0.win 6).blk t).view.emb (ix3 0 r z)
    = (ix3 (ht t) ⟨(bt t).val * 2048 + r, flatR _ _⟩ z : S8x4096x1.Idx) := by
  refine funext fun a => Fin.ext ?_
  revert a
  exact (Fin.forall_fin_succ (n := 2)).2 ⟨lse_cell0 t r z, (Fin.forall_fin_succ (n := 1)).2 ⟨lse_cell1 t r z,
    (Fin.forall_fin_succ (n := 0)).2 ⟨lse_cell2 t r z, fun a => a.elim0⟩⟩⟩

theorem lse_at (c : Dev nD) (A : (b : Ref sig .tc) → Buf (Elt Ideal) ((c : Thread nD τ).loc b)) (t : Fin cfg0.N) (r : Fin 2048)
    (z : Fin 1) : ((cfg0.win 6).blk t).view.read (Elt Ideal) (A (Pipeline.arrRef spec0 6)) (ix3 0 r z)
      = A main_v37 (ix3 (ht t) ⟨(bt t).val * 2048 + r, flatR _ _⟩ z) :=
  Eq.trans (b := A main_v37 (((cfg0.win 6).blk t).view.emb (ix3 0 r z))) rfl (congrArg (A main_v37) (lse_emb t r z))

theorem lse_cell (c : Dev nD) (t : Fin cfg0.N) (r : Fin 2048) (z : Fin 1) :
    iblk m c 6 t (ix3 0 r z) = V m c main_v37 (ix3 (ht t) ⟨(bt t).val * 2048 + r, flatR _ _⟩ z) := by
  unfold iblk
  exact lse_at c (V m c) t r z

theorem rowmax (G : FVec Ideal S2x8x2048x2048 .f32) (b : Fin 2) (h : Fin 8) (r : Fin 2048) :
    Host.reduce FloatOps.maximumf G (constant S_ .f32 0xFF800000#32 : FVec Ideal S_ .f32) reducesTo_S2x8x2048x2048_S2x8x2048_d3 h_S_ (ix3 b h r)
      = Finset.univ.fold max (Ideal.ofBits .f32 0xFF800000#32) fun k => G (ix4 b h r k) := by
  pointwise []

theorem rowsum (G : FVec Ideal S2x8x2048x2048 .f32) (b : Fin 2) (h : Fin 8) (r : Fin 2048) :
    Host.reduceAdd G (constant S_ .f32 0x00000000#32 : FVec Ideal S_ .f32) reducesTo_S2x8x2048x2048_S2x8x2048_d3 h_S_ (ix3 b h r)
      = ∑ k, G (ix4 b h r k) := by
  pointwise []

theorem spread (X : FVec Ideal S2x8x2048 .f32) (h1 h2) (b : Fin 2) (h : Fin 8) (r k : Fin 2048) :
    broadcastInDim S2x8x2048x2048 ![0, 1, 2, 3] h2 (broadcastInDim S2x8x2048x1 ![0, 1, 2] h1 X) (ix4 b h r k) = X (ix3 b h r) := by
  pointwise []

theorem headed (X : FVec Ideal S2x8x2048 .f32) (hh) (b : Fin 2) (h : Fin 8) (r : Fin 2048) :
    transpose S8x2x2048 [1, 0, 2] X hh (ix3 h b r) = X (ix3 b h r) := by
  pointwise []

theorem reshaped (X : S8x2x2048.Idx → EReal) (hX : S8x2x2048.ShapeCasts S8x4096x1) (b : Fin 2) (h : Fin 8) (r : Fin 2048) (z : Fin 1) :
    shapeCast S8x4096x1 X hX (ix3 h ⟨b.val * 2048 + r, flatR _ _⟩ z) = X (ix3 h b r) := by
  refine shapeCast_apply X hX _ _ ?_
  rw [Shape.rowMajor_val_three, Shape.rowMajor_val_three]
  have : z.val = 0 := by omega
  show (h.val * 2 + b.val) * 2048 + r.val = (h.val * 4096 + (b.val * 2048 + r.val)) * 1 + z.val
  omega
/-- The word of minus infinity. -/
theorem neg_inf : Ideal.ofBits .f32 0xFF800000#32 = (⊥ : EReal) := by
  simp [Ideal.ofBits, Ideal.ieee]

theorem masked (a0 : FVec Ideal S2x2048x8x128 .f32) (a1 : FVec Ideal S2x2048x8x64 .f32) (a2 : FVec Ideal S2x2048x8x128 .f32)
    (a3 : FVec Ideal S2x2048x64 .f32) (a4 a5 : FVec Ideal S2x2048x8x128 .f32) (b : Fin 2) (h : Fin 8) (r k : Fin 2048) :
    select
      (broadcastInDim S2x8x2048x2048 ![2, 3] bcast_S2048x2048_S2x8x2048x2048_2_3
        (cmpi .sle
          (broadcastInDim S2048x2048 ![0, 1] bcast_S1x2048_S2048x2048_0_1
            (broadcastInDim S1x2048 ![1] bcast_S2048_S1x2048_1 (iotaInDim S2048 32 0)))
          (broadcastInDim S2048x2048 ![0, 1] bcast_S2048x1_S2048x2048_0_1
            (broadcastInDim S2048x1 ![0] bcast_S2048_S2048x1_0 (iotaInDim S2048 32 0)))))
      (mulf
        (addf
          (Host.dotGeneral (F := Ideal) dot_S2x2048x8x128_S2x2048x8x128_S2x8x2048x2048_3_3_1_1_02_02 none a0 a2)
          (transpose S2x8x2048x2048 [0, 3, 2, 1]
            (Host.dotGeneral (F := Ideal) dot_S2x2048x64_S2x2048x8x64_S2x2048x2048x8_2_3_1_12_0_0 none a3 a1)
            transposes_S2x2048x2048x8_S2x8x2048x2048_0_3_2_1))
        (broadcastInDim S2x8x2048x2048 ![] bcast_S_S2x8x2048x2048 (constant S_ FTy.f32 0x3D93CD3A#32)))
      (broadcastInDim S2x8x2048x2048 ![] bcast_S_S2x8x2048x2048 (constant S_ FTy.f32 0xFF800000#32)) (ix4 b h r k)
      = (head a0 a1 a2 a3 a4 a5 b h).row r k := by
  pointwise []
  rw [neg_inf, Finset.sum_congr rfl fun x _ => mul_comm (a3 (ix3 b k x)) (a1 (ix4 b r h x)), Head.row]
  by_cases hk : k.val ≤ r.val
  · rw [if_pos hk, (WordCmp.cmpi_sle_ofNat_eq_one_iff (w := 32) (by omega) (by omega)).2 hk]
    rfl
  · rw [if_neg hk, (WordCmp.cmpi_sle_ofNat_eq_zero_iff (w := 32) (by omega) (by omega)).2 (by omega)]
    rfl

theorem logged (X Y : FVec Ideal S2x8x2048 .f32) (j : S2x8x2048.Idx) : addf X (Host.log Y) j = X j + Ideal.log (Y j) := rfl

theorem shifted (X Y : FVec Ideal S2x8x2048x2048 .f32) (j : S2x8x2048x2048.Idx) : Host.exp (subf X Y) j = Ideal.exp (X j - Y j) := rfl

theorem saved (G : FVec Ideal S2x8x2048x2048 .f32) (h1 h2) (b : Fin 2) (h : Fin 8) (r : Fin 2048) (row : Fin 2048 → EReal)
    (hG : ∀ k, G (ix4 b h r k) = row k) :
    addf (Host.reduce FloatOps.maximumf G (constant S_ .f32 0xFF800000#32 : FVec Ideal S_ .f32) reducesTo_S2x8x2048x2048_S2x8x2048_d3 h_S_)
      (Host.log (Host.reduceAdd (Host.exp (subf G
        (broadcastInDim S2x8x2048x2048 ![0, 1, 2, 3] h2 (broadcastInDim S2x8x2048x1 ![0, 1, 2] h1
          (Host.reduce FloatOps.maximumf G (constant S_ .f32 0xFF800000#32 : FVec Ideal S_ .f32) reducesTo_S2x8x2048x2048_S2x8x2048_d3 h_S_)))))
        (constant S_ .f32 0x00000000#32 : FVec Ideal S_ .f32) reducesTo_S2x8x2048x2048_S2x8x2048_d3 h_S_)) (ix3 b h r)
      = AttnRow.lse row := by
  have hM := rowmax G b h r
  simp only [hG, neg_inf] at hM
  rw [logged, rowsum, hM]
  refine congrArg (fun y : EReal => AttnRow.mx row + Ideal.log y) (Finset.sum_congr rfl fun k _ => ?_)
  rw [shifted, hG]
  exact congrArg (fun y : EReal => Ideal.exp (row k - y)) ((spread _ h1 h2 b h r k).trans hM)

theorem lse_entry (c : Dev nD) (b : Fin 2) (h : Fin 8) (r : Fin 2048) (z : Fin 1) :
    V m c main_v37 (ix3 h ⟨b.val * 2048 + r, flatR _ _⟩ z) = AttnRow.lse ((HD m c b h).row r) := by
  entry_read
  have hG := masked (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b h r
  revert hG
  generalize select _ _ _ = G
  intro hG
  generalize hX : transpose _ _ _ _ = X
  refine (reshaped X _ b h r z).trans ?_
  rw [← hX, headed]
  exact saved G _ _ b h r _ hG

theorem read6 (c : Dev nD) (t : Fin cfg0.N) (r : Fin 2048) (z : Fin 1) :
    iblk m c 6 t (ix3 0 r z) = AttnRow.lse ((HD m c (bt t) (ht t)).row r) :=
  (lse_cell m c t r z).trans (lse_entry m c (bt t) (ht t) r z)

end Cert.Attn

end
-- ==== Proof.AttnOps.lean ====
/- The slices' operands at a point of the attention's gradient are the point's head, and what four row slices of a block hold. -/
module

public import proofs.«01_k».proof.Proof.AttnSlice1
public import proofs.«01_k».proof.Proof.AttnSlice2
public import proofs.«01_k».proof.Proof.AttnSlice3
public import proofs.«01_k».proof.Proof.AttnSlice4
public import proofs.«01_k».proof.Proof.AttnFold
public import proofs.«01_k».proof.Proof.AttnLse

@[expose] public section

set_option maxRecDepth 16384

noncomputable section

open Idealize.ShloMosaic Idealize.ShloMosaic.TcCoe Idealize.SL.Sem
open Idealize.ShloMosaic.Pipeline (Dat)

namespace Cert.Attn

section Rows

variable {W n : ℕ}

theorem emb_rows {o : ℕ} (ho : o + n ≤ 2048) (inb : ∀ a, (![o, 0] : Fin 2 → ℕ) a + (![n, W] : Fin 2 → ℕ) a ≤ (![2048, W] : Fin 2 → ℕ) a)
    (x : Fin n) (d : Fin W) :
    (Rect.unit (s := ⟨2, ![2048, W]⟩) ![o, 0] ![n, W] inb).emb (ix2 x d) = ix2 (ro o ho x) d := by
  refine funext fun a => Fin.ext ?_
  rw [ValueKit.rect_emb_unit_val]
  revert a
  exact (Fin.forall_fin_succ (n := 1)).2 ⟨rfl, (Fin.forall_fin_succ (n := 0)).2 ⟨Nat.zero_add _, fun a => a.elim0⟩⟩

theorem emb_rows3 {o : ℕ} (ho : o + n ≤ 2048)
    (inb : ∀ a, (![0, o, 0] : Fin 3 → ℕ) a + (![1, n, W] : Fin 3 → ℕ) a ≤ (![1, 2048, W] : Fin 3 → ℕ) a) (z : Fin 1) (x : Fin n) (d : Fin W) :
    (Rect.unit (s := ⟨3, ![1, 2048, W]⟩) ![0, o, 0] ![1, n, W] inb).emb (ix3 z x d) = ix3 z (ro o ho x) d := by
  refine funext fun a => Fin.ext ?_
  rw [ValueKit.rect_emb_unit_val]
  revert a
  exact (Fin.forall_fin_succ (n := 2)).2 ⟨Nat.zero_add _, (Fin.forall_fin_succ (n := 1)).2 ⟨rfl, (Fin.forall_fin_succ (n := 0)).2 ⟨Nat.zero_add _, fun a => a.elim0⟩⟩⟩

/-- One more slice of rows, below those that are already there. -/
theorem rows_step {o : ℕ} (ho : o + 512 ≤ 2048) (inb : ∀ a, (![o, 0] : Fin 2 → ℕ) a + (![512, W] : Fin 2 → ℕ) a ≤ (![2048, W] : Fin 2 → ℕ) a)
    (L : List (View.Piece (Elt Ideal) ⟨2, ![2048, W]⟩ .bf16)) (A : Fin 2048 → Fin W → EReal)
    (P : (Rect.unit (s := ⟨2, ![2048, W]⟩) ![o, 0] ![512, W] inb).shape.Idx → Elt Ideal .bf16)
    (hL : ∀ k d, k.val < o → View.canon L (ix2 k d) = A k d) (hP : ∀ (x : Fin 512) (d : Fin W), P (ix2 x d) = A (ro o ho x) d)
    (k : Fin 2048) (d : Fin W) (hk : k.val < o + 512) :
    View.canon (⟨Rect.unit ![o, 0] ![512, W] inb, P⟩ :: L) (ix2 k d) = A k d := by
  by_cases h : k.val < o
  · rw [View.canon_cons_of_not_mem, hL k d h]
    exact Rect.not_mem_set_of_axis _ _ 0 o 512 rfl rfl rfl (by left; exact h)
  · have hx : k = ro o ho ⟨k.val - o, by omega⟩ := Fin.ext (show k.val = o + (k.val - o) by omega)
    have e := emb_rows ho inb ⟨k.val - o, by omega⟩ d
    rw [hx, show (ix2 _ d : (⟨2, ![2048, W]⟩ : Shape).Idx) = _ from e.symm, View.canon_cons_emb]
    exact hP _ d

theorem rows_step3 {o : ℕ} (ho : o + 512 ≤ 2048)
    (inb : ∀ a, (![0, o, 0] : Fin 3 → ℕ) a + (![1, 512, W] : Fin 3 → ℕ) a ≤ (![1, 2048, W] : Fin 3 → ℕ) a)
    (L : List (View.Piece (Elt Ideal) ⟨3, ![1, 2048, W]⟩ .bf16)) (A : Fin 2048 → Fin W → EReal)
    (P : (Rect.unit (s := ⟨3, ![1, 2048, W]⟩) ![0, o, 0] ![1, 512, W] inb).shape.Idx → Elt Ideal .bf16)
    (hL : ∀ k d, k.val < o → View.canon L (ix3 0 k d) = A k d) (hP : ∀ (x : Fin 512) (d : Fin W), P (ix3 0 x d) = A (ro o ho x) d)
    (k : Fin 2048) (d : Fin W) (hk : k.val < o + 512) :
    View.canon (⟨Rect.unit ![0, o, 0] ![1, 512, W] inb, P⟩ :: L) (ix3 0 k d) = A k d := by
  by_cases h : k.val < o
  · rw [View.canon_cons_of_not_mem, hL k d h]
    exact Rect.not_mem_set_of_axis _ _ 1 o 512 rfl rfl rfl (by left; exact h)
  · have hx : k = ro o ho ⟨k.val - o, by omega⟩ := Fin.ext (show k.val = o + (k.val - o) by omega)
    have e := emb_rows3 ho inb 0 ⟨k.val - o, by omega⟩ d
    rw [hx, show (ix3 0 _ d : (⟨3, ![1, 2048, W]⟩ : Shape).Idx) = _ from e.symm, View.canon_cons_emb]
    exact hP _ d

theorem rows (i1 : ∀ a, (![0, 0] : Fin 2 → ℕ) a + (![512, W] : Fin 2 → ℕ) a ≤ (![2048, W] : Fin 2 → ℕ) a)
    (i2 : ∀ a, (![512, 0] : Fin 2 → ℕ) a + (![512, W] : Fin 2 → ℕ) a ≤ (![2048, W] : Fin 2 → ℕ) a)
    (i3 : ∀ a, (![1024, 0] : Fin 2 → ℕ) a + (![512, W] : Fin 2 → ℕ) a ≤ (![2048, W] : Fin 2 → ℕ) a)
    (i4 : ∀ a, (![1536, 0] : Fin 2 → ℕ) a + (![512, W] : Fin 2 → ℕ) a ≤ (![2048, W] : Fin 2 → ℕ) a)
    (A : Fin 2048 → Fin W → EReal)
    (P1 P2 P3 P4 : (⟨2, ![512, W]⟩ : Shape).Idx → Elt Ideal .bf16)
    (h1 : ∀ (x : Fin 512) (d : Fin W), P1 (ix2 x d) = A (ro 0 (by omega) x) d)
    (h2 : ∀ (x : Fin 512) (d : Fin W), P2 (ix2 x d) = A (ro 512 (by omega) x) d)
    (h3 : ∀ (x : Fin 512) (d : Fin W), P3 (ix2 x d) = A (ro 1024 (by omega) x) d)
    (h4 : ∀ (x : Fin 512) (d : Fin W), P4 (ix2 x d) = A (ro 1536 (by omega) x) d) (k : Fin 2048) (d : Fin W) :
    View.canon (Val := Elt Ideal) (s := ⟨2, ![2048, W]⟩) (e := .bf16) [⟨Rect.unit ![1536, 0] ![512, W] i4, P4⟩, ⟨Rect.unit ![1024, 0] ![512, W] i3, P3⟩,
      ⟨Rect.unit ![512, 0] ![512, W] i2, P2⟩, ⟨Rect.unit ![0, 0] ![512, W] i1, P1⟩] (ix2 k d) = A k d :=
  rows_step (by omega) i4 _ A P4 (fun k d hk => rows_step (by omega) i3 _ A P3 (fun k d hk => rows_step (by omega) i2 _ A P2
    (fun k d hk => rows_step (by omega) i1 _ A P1 (fun k d hk => absurd hk (by omega)) h1 k d hk) h2 k d hk) h3 k d hk) h4 k d (by omega)

theorem rows3 (i1 : ∀ a, (![0, 0, 0] : Fin 3 → ℕ) a + (![1, 512, W] : Fin 3 → ℕ) a ≤ (![1, 2048, W] : Fin 3 → ℕ) a)
    (i2 : ∀ a, (![0, 512, 0] : Fin 3 → ℕ) a + (![1, 512, W] : Fin 3 → ℕ) a ≤ (![1, 2048, W] : Fin 3 → ℕ) a)
    (i3 : ∀ a, (![0, 1024, 0] : Fin 3 → ℕ) a + (![1, 512, W] : Fin 3 → ℕ) a ≤ (![1, 2048, W] : Fin 3 → ℕ) a)
    (i4 : ∀ a, (![0, 1536, 0] : Fin 3 → ℕ) a + (![1, 512, W] : Fin 3 → ℕ) a ≤ (![1, 2048, W] : Fin 3 → ℕ) a)
    (A : Fin 2048 → Fin W → EReal)
    (P1 P2 P3 P4 : (⟨3, ![1, 512, W]⟩ : Shape).Idx → Elt Ideal .bf16)
    (h1 : ∀ (x : Fin 512) (d : Fin W), P1 (ix3 0 x d) = A (ro 0 (by omega) x) d)
    (h2 : ∀ (x : Fin 512) (d : Fin W), P2 (ix3 0 x d) = A (ro 512 (by omega) x) d)
    (h3 : ∀ (x : Fin 512) (d : Fin W), P3 (ix3 0 x d) = A (ro 1024 (by omega) x) d)
    (h4 : ∀ (x : Fin 512) (d : Fin W), P4 (ix3 0 x d) = A (ro 1536 (by omega) x) d) (k : Fin 2048) (d : Fin W) :
    View.canon (Val := Elt Ideal) (s := ⟨3, ![1, 2048, W]⟩) (e := .bf16) [⟨Rect.unit ![0, 1536, 0] ![1, 512, W] i4, P4⟩, ⟨Rect.unit ![0, 1024, 0] ![1, 512, W] i3, P3⟩,
      ⟨Rect.unit ![0, 512, 0] ![1, 512, W] i2, P2⟩, ⟨Rect.unit ![0, 0, 0] ![1, 512, W] i1, P1⟩] (ix3 0 k d) = A k d :=
  rows_step3 (by omega) i4 _ A P4 (fun k d hk => rows_step3 (by omega) i3 _ A P3 (fun k d hk => rows_step3 (by omega) i2 _ A P2
    (fun k d hk => rows_step3 (by omega) i1 _ A P1 (fun k d hk => absurd hk (by omega)) h1 k d hk) h2 k d hk) h3 k d hk) h4 k d (by omega)

end Rows

open Cert.Kernel2Ideal Cert.Kernel2Ideal.Gen

variable (m : (ℓ : Loc nD τ sig) → Buf (Elt Ideal) ℓ)

theorem in1 (c : Dev nD) (t : Fin cfg0.N) : S1.In (HD m c (bt t) (ht t))
    (View.ld (iblk m c 0 t) (Rect.unit ![0, 0] ![512, 128] inb_S2048x128_S512x128_0_0)) (View.ld (iblk m c 1 t) (Rect.unit ![0, 0, 0] ![1, 512, 64] inb_S1x2048x64_S1x512x64_0_0_0)) (View.ld (iblk m c 2 t) (Rect.unit ![0, 0] ![512, 128] inb_S2048x128_S512x128_0_0)) (View.ld (iblk m c 4 t) (Rect.unit ![0, 0] ![512, 64] inb_S2048x64_S512x64_0_0))
    (View.ld (iblk m c 3 t) (Rect.unit ![0, 0] ![512, 128] inb_S2048x128_S512x128_0_0)) (View.ld (iblk m c 5 t) (Rect.unit ![0, 0] ![512, 128] inb_S2048x128_S512x128_0_0)) (View.ld (iblk m c 6 t) (Rect.unit ![0, 0, 0] ![1, 512, 1] inb_S1x2048x1_S1x512x1_0_0_0)) where
  q := fun x d => (congrArg (iblk m c 0 t) (emb_rows (by omega) _ x d)).trans (read0 m c t _ d)
  qr := fun x d => (congrArg (iblk m c 1 t) (emb_rows3 (by omega) _ 0 x d)).trans (read1 m c t _ d)
  k := fun y d => (congrArg (iblk m c 2 t) (emb_prefix (by omega) _ y d)).trans (read2 m c t _ d)
  kr := fun y d => (congrArg (iblk m c 4 t) (emb_prefix (by omega) _ y d)).trans (read4 m c t _ d)
  v := fun y d => (congrArg (iblk m c 3 t) (emb_prefix (by omega) _ y d)).trans (read3 m c t _ d)
  g := fun x d => (congrArg (iblk m c 5 t) (emb_rows (by omega) _ x d)).trans (read5 m c t _ d)
  l := fun x z => (congrArg (iblk m c 6 t) (emb_rows3 (by omega) _ 0 x z)).trans (read6 m c t _ z)

theorem cos1 (c : Dev nD) (t : Fin cfg0.N) (x : Fin 512) (d : Fin 64) :
    View.ld (iblk m c 7 t) (Rect.unit ![0, 0] ![512, 64] inb_S2048x64_S512x64_0_0) (ix2 x d)
      = m ((c : Thread nD τ).loc main_arg6) (ix2 ⟨(bt t).val * 2048 + (ro 0 (by omega) x : Fin 2048).val, flatR _ _⟩ d) :=
  (congrArg (iblk m c 7 t) (emb_rows (by omega) _ x d)).trans (read7 m c t _ d)

theorem sin1 (c : Dev nD) (t : Fin cfg0.N) (x : Fin 512) (d : Fin 64) :
    View.ld (iblk m c 8 t) (Rect.unit ![0, 0] ![512, 64] inb_S2048x64_S512x64_0_0) (ix2 x d)
      = m ((c : Thread nD τ).loc main_arg7) (ix2 ⟨(bt t).val * 2048 + (ro 0 (by omega) x : Fin 2048).val, flatR _ _⟩ d) :=
  (congrArg (iblk m c 8 t) (emb_rows (by omega) _ x d)).trans (read8 m c t _ d)

theorem in2 (c : Dev nD) (t : Fin cfg0.N) : S2.In (HD m c (bt t) (ht t))
    (View.ld (iblk m c 0 t) (Rect.unit ![512, 0] ![512, 128] inb_S2048x128_S512x128_512_0)) (View.ld (iblk m c 1 t) (Rect.unit ![0, 512, 0] ![1, 512, 64] inb_S1x2048x64_S1x512x64_0_512_0)) (View.ld (iblk m c 2 t) (Rect.unit ![0, 0] ![1024, 128] inb_S2048x128_S1024x128_0_0)) (View.ld (iblk m c 4 t) (Rect.unit ![0, 0] ![1024, 64] inb_S2048x64_S1024x64_0_0))
    (View.ld (iblk m c 3 t) (Rect.unit ![0, 0] ![1024, 128] inb_S2048x128_S1024x128_0_0)) (View.ld (iblk m c 5 t) (Rect.unit ![512, 0] ![512, 128] inb_S2048x128_S512x128_512_0)) (View.ld (iblk m c 6 t) (Rect.unit ![0, 512, 0] ![1, 512, 1] inb_S1x2048x1_S1x512x1_0_512_0)) where
  q := fun x d => (congrArg (iblk m c 0 t) (emb_rows (by omega) _ x d)).trans (read0 m c t _ d)
  qr := fun x d => (congrArg (iblk m c 1 t) (emb_rows3 (by omega) _ 0 x d)).trans (read1 m c t _ d)
  k := fun y d => (congrArg (iblk m c 2 t) (emb_prefix (by omega) _ y d)).trans (read2 m c t _ d)
  kr := fun y d => (congrArg (iblk m c 4 t) (emb_prefix (by omega) _ y d)).trans (read4 m c t _ d)
  v := fun y d => (congrArg (iblk m c 3 t) (emb_prefix (by omega) _ y d)).trans (read3 m c t _ d)
  g := fun x d => (congrArg (iblk m c 5 t) (emb_rows (by omega) _ x d)).trans (read5 m c t _ d)
  l := fun x z => (congrArg (iblk m c 6 t) (emb_rows3 (by omega) _ 0 x z)).trans (read6 m c t _ z)

theorem cos2 (c : Dev nD) (t : Fin cfg0.N) (x : Fin 512) (d : Fin 64) :
    View.ld (iblk m c 7 t) (Rect.unit ![512, 0] ![512, 64] inb_S2048x64_S512x64_512_0) (ix2 x d)
      = m ((c : Thread nD τ).loc main_arg6) (ix2 ⟨(bt t).val * 2048 + (ro 512 (by omega) x : Fin 2048).val, flatR _ _⟩ d) :=
  (congrArg (iblk m c 7 t) (emb_rows (by omega) _ x d)).trans (read7 m c t _ d)

theorem sin2 (c : Dev nD) (t : Fin cfg0.N) (x : Fin 512) (d : Fin 64) :
    View.ld (iblk m c 8 t) (Rect.unit ![512, 0] ![512, 64] inb_S2048x64_S512x64_512_0) (ix2 x d)
      = m ((c : Thread nD τ).loc main_arg7) (ix2 ⟨(bt t).val * 2048 + (ro 512 (by omega) x : Fin 2048).val, flatR _ _⟩ d) :=
  (congrArg (iblk m c 8 t) (emb_rows (by omega) _ x d)).trans (read8 m c t _ d)

theorem in3 (c : Dev nD) (t : Fin cfg0.N) : S3.In (HD m c (bt t) (ht t))
    (View.ld (iblk m c 0 t) (Rect.unit ![1024, 0] ![512, 128] inb_S2048x128_S512x128_1024_0)) (View.ld (iblk m c 1 t) (Rect.unit ![0, 1024, 0] ![1, 512, 64] inb_S1x2048x64_S1x512x64_0_1024_0)) (View.ld (iblk m c 2 t) (Rect.unit ![0, 0] ![1536, 128] inb_S2048x128_S1536x128_0_0)) (View.ld (iblk m c 4 t) (Rect.unit ![0, 0] ![1536, 64] inb_S2048x64_S1536x64_0_0))
    (View.ld (iblk m c 3 t) (Rect.unit ![0, 0] ![1536, 128] inb_S2048x128_S1536x128_0_0)) (View.ld (iblk m c 5 t) (Rect.unit ![1024, 0] ![512, 128] inb_S2048x128_S512x128_1024_0)) (View.ld (iblk m c 6 t) (Rect.unit ![0, 1024, 0] ![1, 512, 1] inb_S1x2048x1_S1x512x1_0_1024_0)) where
  q := fun x d => (congrArg (iblk m c 0 t) (emb_rows (by omega) _ x d)).trans (read0 m c t _ d)
  qr := fun x d => (congrArg (iblk m c 1 t) (emb_rows3 (by omega) _ 0 x d)).trans (read1 m c t _ d)
  k := fun y d => (congrArg (iblk m c 2 t) (emb_prefix (by omega) _ y d)).trans (read2 m c t _ d)
  kr := fun y d => (congrArg (iblk m c 4 t) (emb_prefix (by omega) _ y d)).trans (read4 m c t _ d)
  v := fun y d => (congrArg (iblk m c 3 t) (emb_prefix (by omega) _ y d)).trans (read3 m c t _ d)
  g := fun x d => (congrArg (iblk m c 5 t) (emb_rows (by omega) _ x d)).trans (read5 m c t _ d)
  l := fun x z => (congrArg (iblk m c 6 t) (emb_rows3 (by omega) _ 0 x z)).trans (read6 m c t _ z)

theorem cos3 (c : Dev nD) (t : Fin cfg0.N) (x : Fin 512) (d : Fin 64) :
    View.ld (iblk m c 7 t) (Rect.unit ![1024, 0] ![512, 64] inb_S2048x64_S512x64_1024_0) (ix2 x d)
      = m ((c : Thread nD τ).loc main_arg6) (ix2 ⟨(bt t).val * 2048 + (ro 1024 (by omega) x : Fin 2048).val, flatR _ _⟩ d) :=
  (congrArg (iblk m c 7 t) (emb_rows (by omega) _ x d)).trans (read7 m c t _ d)

theorem sin3 (c : Dev nD) (t : Fin cfg0.N) (x : Fin 512) (d : Fin 64) :
    View.ld (iblk m c 8 t) (Rect.unit ![1024, 0] ![512, 64] inb_S2048x64_S512x64_1024_0) (ix2 x d)
      = m ((c : Thread nD τ).loc main_arg7) (ix2 ⟨(bt t).val * 2048 + (ro 1024 (by omega) x : Fin 2048).val, flatR _ _⟩ d) :=
  (congrArg (iblk m c 8 t) (emb_rows (by omega) _ x d)).trans (read8 m c t _ d)

theorem in4 (c : Dev nD) (t : Fin cfg0.N) : S4.In (HD m c (bt t) (ht t))
    (View.ld (iblk m c 0 t) (Rect.unit ![1536, 0] ![512, 128] inb_S2048x128_S512x128_1536_0)) (View.ld (iblk m c 1 t) (Rect.unit ![0, 1536, 0] ![1, 512, 64] inb_S1x2048x64_S1x512x64_0_1536_0)) (iblk m c 2 t) (iblk m c 4 t)
    (iblk m c 3 t) (View.ld (iblk m c 5 t) (Rect.unit ![1536, 0] ![512, 128] inb_S2048x128_S512x128_1536_0)) (View.ld (iblk m c 6 t) (Rect.unit ![0, 1536, 0] ![1, 512, 1] inb_S1x2048x1_S1x512x1_0_1536_0)) where
  q := fun x d => (congrArg (iblk m c 0 t) (emb_rows (by omega) _ x d)).trans (read0 m c t _ d)
  qr := fun x d => (congrArg (iblk m c 1 t) (emb_rows3 (by omega) _ 0 x d)).trans (read1 m c t _ d)
  k := fun y d => read2 m c t y d
  kr := fun y d => read4 m c t y d
  v := fun y d => read3 m c t y d
  g := fun x d => (congrArg (iblk m c 5 t) (emb_rows (by omega) _ x d)).trans (read5 m c t _ d)
  l := fun x z => (congrArg (iblk m c 6 t) (emb_rows3 (by omega) _ 0 x z)).trans (read6 m c t _ z)

theorem cos4 (c : Dev nD) (t : Fin cfg0.N) (x : Fin 512) (d : Fin 64) :
    View.ld (iblk m c 7 t) (Rect.unit ![1536, 0] ![512, 64] inb_S2048x64_S512x64_1536_0) (ix2 x d)
      = m ((c : Thread nD τ).loc main_arg6) (ix2 ⟨(bt t).val * 2048 + (ro 1536 (by omega) x : Fin 2048).val, flatR _ _⟩ d) :=
  (congrArg (iblk m c 7 t) (emb_rows (by omega) _ x d)).trans (read7 m c t _ d)

theorem sin4 (c : Dev nD) (t : Fin cfg0.N) (x : Fin 512) (d : Fin 64) :
    View.ld (iblk m c 8 t) (Rect.unit ![1536, 0] ![512, 64] inb_S2048x64_S512x64_1536_0) (ix2 x d)
      = m ((c : Thread nD τ).loc main_arg7) (ix2 ⟨(bt t).val * 2048 + (ro 1536 (by omega) x : Fin 2048).val, flatR _ _⟩ d) :=
  (congrArg (iblk m c 8 t) (emb_rows (by omega) _ x d)).trans (read8 m c t _ d)

end Cert.Attn

end
-- ==== Proof.AttnPoints.lean ====
/- What one point of the attention's gradient leaves in each of its blocks. -/
module

public import proofs.«01_k».proof.Proof.AttnOps

@[expose] public section

set_option maxRecDepth 16384

noncomputable section

open Idealize.ShloMosaic Idealize.ShloMosaic.TcCoe Idealize.SL.Sem
open Idealize.ShloMosaic.Pipeline (Dat)

namespace Cert.Attn

namespace Head

variable (H : Head)

/-- The gradient of the queries. -/
def dqn (r : Fin 2048) (d : Fin 128) : EReal := ∑ y, H.ds r y * H.kn y d

/-- The gradient of the queries' rotated part. -/
def dqr (r : Fin 2048) (d : Fin 64) : EReal := ∑ y, H.ds r y * H.kr y d

/-- The gradient of the keys. -/
def dkn (k : Fin 2048) (d : Fin 128) : EReal := ∑ r, H.ds r k * H.qn r d

/-- One head's part of the gradient of the keys' rotated part. -/
def dkr (k : Fin 2048) (d : Fin 64) : EReal := ∑ r, H.ds r k * H.qr r d

/-- The gradient of the values. -/
def dv (k : Fin 2048) (d : Fin 128) : EReal := ∑ r, H.p r k * H.o r d

end Head

open Cert.Kernel2Ideal Cert.Kernel2Ideal.Gen

variable (m : (ℓ : Loc nD τ sig) → Buf (Elt Ideal) ℓ)

theorem zero6 (k : Fin 2048) (d : Fin 128) : k0_pay6 (F := Ideal) (ix2 k d) = (0 : EReal) := by pointwise [k0_pay6]
theorem zero7 (k : Fin 2048) (d : Fin 128) : k0_pay7 (F := Ideal) (ix2 k d) = (0 : EReal) := by pointwise [k0_pay7]
theorem zero8 (k : Fin 2048) (d : Fin 64) : k0_pay8 (F := Ideal) (ix2 k d) = (0 : EReal) := by pointwise [k0_pay8]

/-- A point's cosine and sine of a row. -/
def cosAt (c : Dev nD) (t : Fin cfg0.N) (r : Fin 2048) (d : Fin 64) : EReal :=
  m ((c : Thread nD τ).loc main_arg6) (ix2 ⟨(bt t).val * 2048 + r.val, flatR _ _⟩ d)
def sinAt (c : Dev nD) (t : Fin cfg0.N) (r : Fin 2048) (d : Fin 64) : EReal :=
  m ((c : Thread nD τ).loc main_arg7) (ix2 ⟨(bt t).val * 2048 + r.val, flatR _ _⟩ d)

theorem point9 (c : Dev nD) (t : Fin cfg0.N) (r : Fin 2048) (d : Fin 128) :
    (dats m 0 c).after 9 t (ix2 r d) = (HD m c (bt t) (ht t)).dqn r d := by
  rw [after0_9]
  by_cases h : t.val % 8 = 0
  · rw [outsAt0_A m c t h (by omega)]
    frame_out
    exact rows _ _ _ _ (HD m c (bt t) (ht t)).dqn _ _ _ _ (S1.qn (in1 m c t)) (S2.qn (in2 m c t)) (S3.qn (in3 m c t)) (S4.qn (in4 m c t)) r d
  · rw [outsAt0_B m c t h (by omega)]
    frame_out
    exact rows _ _ _ _ (HD m c (bt t) (ht t)).dqn _ _ _ _ (S1.qn (in1 m c t)) (S2.qn (in2 m c t)) (S3.qn (in3 m c t)) (S4.qn (in4 m c t)) r d

theorem point12 (c : Dev nD) (t : Fin cfg0.N) (r : Fin 2048) (d : Fin 64) :
    (dats m 0 c).after 12 t (ix3 0 r d) = (HD m c (bt t) (ht t)).dqr r d * cosAt m c t r d := by
  rw [after0_12]
  by_cases h : t.val % 8 = 0
  · rw [outsAt0_A m c t h (by omega)]
    frame_out
    exact rows3 _ _ _ _ (fun r d => (HD m c (bt t) (ht t)).dqr r d * cosAt m c t r d) _ _ _ _ (fun x d => (S1.qc (in1 m c t) _ x d).trans (congrArg (fun s : EReal => (HD m c (bt t) (ht t)).dqr _ d * s) (cos1 m c t x d))) (fun x d => (S2.qc (in2 m c t) _ x d).trans (congrArg (fun s : EReal => (HD m c (bt t) (ht t)).dqr _ d * s) (cos2 m c t x d))) (fun x d => (S3.qc (in3 m c t) _ x d).trans (congrArg (fun s : EReal => (HD m c (bt t) (ht t)).dqr _ d * s) (cos3 m c t x d))) (fun x d => (S4.qc (in4 m c t) _ x d).trans (congrArg (fun s : EReal => (HD m c (bt t) (ht t)).dqr _ d * s) (cos4 m c t x d))) r d
  · rw [outsAt0_B m c t h (by omega)]
    frame_out
    exact rows3 _ _ _ _ (fun r d => (HD m c (bt t) (ht t)).dqr r d * cosAt m c t r d) _ _ _ _ (fun x d => (S1.qc (in1 m c t) _ x d).trans (congrArg (fun s : EReal => (HD m c (bt t) (ht t)).dqr _ d * s) (cos1 m c t x d))) (fun x d => (S2.qc (in2 m c t) _ x d).trans (congrArg (fun s : EReal => (HD m c (bt t) (ht t)).dqr _ d * s) (cos2 m c t x d))) (fun x d => (S3.qc (in3 m c t) _ x d).trans (congrArg (fun s : EReal => (HD m c (bt t) (ht t)).dqr _ d * s) (cos3 m c t x d))) (fun x d => (S4.qc (in4 m c t) _ x d).trans (congrArg (fun s : EReal => (HD m c (bt t) (ht t)).dqr _ d * s) (cos4 m c t x d))) r d

theorem point13 (c : Dev nD) (t : Fin cfg0.N) (r : Fin 2048) (d : Fin 64) :
    (dats m 0 c).after 13 t (ix3 0 r d) = (HD m c (bt t) (ht t)).dqr r d * sinAt m c t r d := by
  rw [after0_13]
  by_cases h : t.val % 8 = 0
  · rw [outsAt0_A m c t h (by omega)]
    frame_out
    exact rows3 _ _ _ _ (fun r d => (HD m c (bt t) (ht t)).dqr r d * sinAt m c t r d) _ _ _ _ (fun x d => (S1.qs (in1 m c t) _ x d).trans (congrArg (fun s : EReal => (HD m c (bt t) (ht t)).dqr _ d * s) (sin1 m c t x d))) (fun x d => (S2.qs (in2 m c t) _ x d).trans (congrArg (fun s : EReal => (HD m c (bt t) (ht t)).dqr _ d * s) (sin2 m c t x d))) (fun x d => (S3.qs (in3 m c t) _ x d).trans (congrArg (fun s : EReal => (HD m c (bt t) (ht t)).dqr _ d * s) (sin3 m c t x d))) (fun x d => (S4.qs (in4 m c t) _ x d).trans (congrArg (fun s : EReal => (HD m c (bt t) (ht t)).dqr _ d * s) (sin4 m c t x d))) r d
  · rw [outsAt0_B m c t h (by omega)]
    frame_out
    exact rows3 _ _ _ _ (fun r d => (HD m c (bt t) (ht t)).dqr r d * sinAt m c t r d) _ _ _ _ (fun x d => (S1.qs (in1 m c t) _ x d).trans (congrArg (fun s : EReal => (HD m c (bt t) (ht t)).dqr _ d * s) (sin1 m c t x d))) (fun x d => (S2.qs (in2 m c t) _ x d).trans (congrArg (fun s : EReal => (HD m c (bt t) (ht t)).dqr _ d * s) (sin2 m c t x d))) (fun x d => (S3.qs (in3 m c t) _ x d).trans (congrArg (fun s : EReal => (HD m c (bt t) (ht t)).dqr _ d * s) (sin3 m c t x d))) (fun x d => (S4.qs (in4 m c t) _ x d).trans (congrArg (fun s : EReal => (HD m c (bt t) (ht t)).dqr _ d * s) (sin4 m c t x d))) r d

theorem point10 (c : Dev nD) (t : Fin cfg0.N) (k : Fin 2048) (d : Fin 128) :
    (dats m 0 c).after 10 t (ix2 k d) = (HD m c (bt t) (ht t)).dkn k d := by
  rw [after0_10]
  by_cases h : t.val % 8 = 0
  · rw [outsAt0_A m c t h (by omega)]
    frame_out
    exact fold (W := 128) (View.whole cc0_scratch0) inb_S2048x128_S512x128_0_0 inb_S2048x128_S1024x128_0_0 inb_S2048x128_S1536x128_0_0 inb_S2048x128_S2048x128_0_0 _ _ _ _ _
      (fun r k d => (HD m c (bt t) (ht t)).ds r k * (HD m c (bt t) (ht t)).qn r d) (fun r k d h => by rw [Head.ds_masked _ h, zero_mul]) zero6
      (S1.dk (in1 m c t)) (S2.dk (in2 m c t)) (S3.dk (in3 m c t)) (S4.dk (in4 m c t)) k d
  · rw [outsAt0_B m c t h (by omega)]
    frame_out
    exact fold (W := 128) (View.whole cc0_scratch0) inb_S2048x128_S512x128_0_0 inb_S2048x128_S1024x128_0_0 inb_S2048x128_S1536x128_0_0 inb_S2048x128_S2048x128_0_0 _ _ _ _ _
      (fun r k d => (HD m c (bt t) (ht t)).ds r k * (HD m c (bt t) (ht t)).qn r d) (fun r k d h => by rw [Head.ds_masked _ h, zero_mul]) zero6
      (S1.dk (in1 m c t)) (S2.dk (in2 m c t)) (S3.dk (in3 m c t)) (S4.dk (in4 m c t)) k d

theorem point11 (c : Dev nD) (t : Fin cfg0.N) (k : Fin 2048) (d : Fin 128) :
    (dats m 0 c).after 11 t (ix2 k d) = (HD m c (bt t) (ht t)).dv k d := by
  rw [after0_11]
  by_cases h : t.val % 8 = 0
  · rw [outsAt0_A m c t h (by omega)]
    frame_out
    exact fold (W := 128) (View.whole cc0_scratch1) inb_S2048x128_S512x128_0_0 inb_S2048x128_S1024x128_0_0 inb_S2048x128_S1536x128_0_0 inb_S2048x128_S2048x128_0_0 _ _ _ _ _
      (fun r k d => (HD m c (bt t) (ht t)).p r k * (HD m c (bt t) (ht t)).o r d) (fun r k d h => by rw [Head.p_masked _ h, zero_mul]) zero7
      (S1.dv (in1 m c t)) (S2.dv (in2 m c t)) (S3.dv (in3 m c t)) (S4.dv (in4 m c t)) k d
  · rw [outsAt0_B m c t h (by omega)]
    frame_out
    exact fold (W := 128) (View.whole cc0_scratch1) inb_S2048x128_S512x128_0_0 inb_S2048x128_S1024x128_0_0 inb_S2048x128_S1536x128_0_0 inb_S2048x128_S2048x128_0_0 _ _ _ _ _
      (fun r k d => (HD m c (bt t) (ht t)).p r k * (HD m c (bt t) (ht t)).o r d) (fun r k d h => by rw [Head.p_masked _ h, zero_mul]) zero7
      (S1.dv (in1 m c t)) (S2.dv (in2 m c t)) (S3.dv (in3 m c t)) (S4.dv (in4 m c t)) k d

theorem addr (a b : Vec Ideal S2048x64 .f32) (k : Fin 2048) (d : Fin 64) :
    k0_pay5 (F := Ideal) a b (ix2 k d) = (fun (a b : EReal) => a + b) (a (ix2 k d)) (b (ix2 k d)) := by
  pointwise [k0_pay5]

theorem point14A (c : Dev nD) (t : Fin cfg0.N) (h : t.val % 8 = 0) (k : Fin 2048) (d : Fin 64) :
    (outsAt0 m c t.val t.isLt).2.2.2.2.2 (ix2 k d) = (HD m c (bt t) (ht t)).dkr k d := by
  rw [outsAt0_A m c t h (by omega)]
  frame_out
  exact fold (W := 64) (View.whole cc0_scratch2) inb_S2048x64_S512x64_0_0 inb_S2048x64_S1024x64_0_0 inb_S2048x64_S1536x64_0_0 inb_S2048x64_S2048x64_0_0 _ _ _ _ _
      (fun r k d => (HD m c (bt t) (ht t)).ds r k * (HD m c (bt t) (ht t)).qr r d) (fun r k d h => by rw [Head.ds_masked _ h, zero_mul]) zero8
      (S1.dr (in1 m c t)) (S2.dr (in2 m c t)) (S3.dr (in3 m c t)) (S4.dr (in4 m c t)) k d

theorem point14B (c : Dev nD) (t : Fin cfg0.N) (h : ¬ t.val % 8 = 0) (k : Fin 2048) (d : Fin 64) :
    (outsAt0 m c t.val t.isLt).2.2.2.2.2 (ix2 k d)
      = (fun (a b : EReal) => a + b) ((outsAt0 m c (t.val - 1) (Nat.lt_of_le_of_lt (Nat.sub_le _ _) t.isLt)).2.2.2.2.2 (ix2 k d))
        ((HD m c (bt t) (ht t)).dkr k d) := by
  rw [outsAt0_B m c t h (by omega)]
  frame_out
  refine (addr _ _ k d).trans ?_
  refine congrArg _ ?_
  exact fold (W := 64) (View.whole cc0_scratch2) inb_S2048x64_S512x64_0_0 inb_S2048x64_S1024x64_0_0 inb_S2048x64_S1536x64_0_0 inb_S2048x64_S2048x64_0_0 _ _ _ _ _
      (fun r k d => (HD m c (bt t) (ht t)).ds r k * (HD m c (bt t) (ht t)).qr r d) (fun r k d h => by rw [Head.ds_masked _ h, zero_mul]) zero8
      (S1.dr (in1 m c t)) (S2.dr (in2 m c t)) (S3.dr (in3 m c t)) (S4.dr (in4 m c t)) k d

end Cert.Attn

end
-- ==== Proof.AttnKernel.lean ====
/- What the attention's gradient leaves in each of its arrays. -/
module

public import proofs.«01_k».proof.Proof.AttnPoints

@[expose] public section

set_option maxRecDepth 16384

noncomputable section

open Idealize.ShloMosaic Idealize.ShloMosaic.TcCoe Idealize.SL.Sem
open Idealize.ShloMosaic.Pipeline (Dat)

namespace Cert.Attn

/-- The sequence and the place in it of a row of the flattened tokens. -/
def rowB (i : Fin 4096) : Fin 2 := ⟨i.val / 2048, by omega⟩
def rowR (i : Fin 4096) : Fin 2048 := ⟨i.val % 2048, by omega⟩

/-- The head and the place in it of a column of the flattened heads. -/
def colH (j : Fin 1024) : Fin 8 := ⟨j.val / 128, by omega⟩
def colD (j : Fin 1024) : Fin 128 := ⟨j.val % 128, by omega⟩

/-- Heads side by side, sequences one below the other. -/
def wide (G : Fin 2 → Fin 8 → Fin 2048 → Fin 128 → EReal) (i : Fin 4096) (j : Fin 1024) : EReal := G (rowB i) (colH j) (rowR i) (colD j)

theorem rowB_flat (b : Fin 2) (r : Fin 2048) : rowB ⟨b.val * 2048 + r.val, flatR b r⟩ = b := Fin.ext (by simp only [rowB]; omega)
theorem rowR_flat (b : Fin 2) (r : Fin 2048) : rowR ⟨b.val * 2048 + r.val, flatR b r⟩ = r := Fin.ext (by simp only [rowR]; omega)
theorem colH_flat (h : Fin 8) (d : Fin 128) : colH ⟨h.val * 128 + d.val, flatC h d⟩ = h := Fin.ext (by simp only [colH]; omega)
theorem colD_flat (h : Fin 8) (d : Fin 128) : colD ⟨h.val * 128 + d.val, flatC h d⟩ = d := Fin.ext (by simp only [colD]; omega)

theorem wide_flat (G : Fin 2 → Fin 8 → Fin 2048 → Fin 128 → EReal) (b : Fin 2) (h : Fin 8) (r : Fin 2048) (d : Fin 128) :
    wide G ⟨b.val * 2048 + r.val, flatR b r⟩ ⟨h.val * 128 + d.val, flatC h d⟩ = G b h r d := by
  rw [wide, rowB_flat, rowR_flat, colH_flat, colD_flat]

open Cert.Kernel2Ideal Cert.Kernel2Ideal.Gen

variable (m : (ℓ : Loc nD τ sig) → Buf (Elt Ideal) ℓ)

theorem final9 (c : Dev nD) : (dats m 0 c).arrAt 9 (cfgs 0).N
    = fun j : S4096x1024.Idx => wide (fun b h => (HD m c b h).dqn) (j 0) (j 1) := by
  refine (dats m 0 c).arrAt_eq_of_covers 9 _ (by decide +kernel) fun t hf y => ?_
  blk_simp
  idx_vars y
  refine (point9 m c t y0 y1).trans ?_
  have e0 : ((View.whole main_v38_0).slice (win0_9.rect t)).emb (ix2 y0 y1) 0 = (⟨(bt t).val * 2048 + (y0 : Fin 2048).val, flatR _ _⟩ : Fin 4096) :=
    Fin.ext (by blk_point [idx t, bt])
  have e1 : ((View.whole main_v38_0).slice (win0_9.rect t)).emb (ix2 y0 y1) 1 = (⟨(ht t).val * 128 + (y1 : Fin 128).val, flatC _ _⟩ : Fin 1024) :=
    Fin.ext (by blk_point [idx t, ht])
  exact ((congr (congrArg (wide fun b h => (HD m c b h).dqn) e0) e1).trans (wide_flat (fun b h => (HD m c b h).dqn) (bt t) (ht t) y0 y1)).symm

theorem final10 (c : Dev nD) : (dats m 0 c).arrAt 10 (cfgs 0).N
    = fun j : S4096x1024.Idx => wide (fun b h => (HD m c b h).dkn) (j 0) (j 1) := by
  refine (dats m 0 c).arrAt_eq_of_covers 10 _ (by decide +kernel) fun t hf y => ?_
  blk_simp
  idx_vars y
  refine (point10 m c t y0 y1).trans ?_
  have e0 : ((View.whole main_v38_1).slice (win0_10.rect t)).emb (ix2 y0 y1) 0 = (⟨(bt t).val * 2048 + (y0 : Fin 2048).val, flatR _ _⟩ : Fin 4096) :=
    Fin.ext (by blk_point [idx t, bt])
  have e1 : ((View.whole main_v38_1).slice (win0_10.rect t)).emb (ix2 y0 y1) 1 = (⟨(ht t).val * 128 + (y1 : Fin 128).val, flatC _ _⟩ : Fin 1024) :=
    Fin.ext (by blk_point [idx t, ht])
  exact ((congr (congrArg (wide fun b h => (HD m c b h).dkn) e0) e1).trans (wide_flat (fun b h => (HD m c b h).dkn) (bt t) (ht t) y0 y1)).symm

theorem final11 (c : Dev nD) : (dats m 0 c).arrAt 11 (cfgs 0).N
    = fun j : S4096x1024.Idx => wide (fun b h => (HD m c b h).dv) (j 0) (j 1) := by
  refine (dats m 0 c).arrAt_eq_of_covers 11 _ (by decide +kernel) fun t hf y => ?_
  blk_simp
  idx_vars y
  refine (point11 m c t y0 y1).trans ?_
  have e0 : ((View.whole main_v38_2).slice (win0_11.rect t)).emb (ix2 y0 y1) 0 = (⟨(bt t).val * 2048 + (y0 : Fin 2048).val, flatR _ _⟩ : Fin 4096) :=
    Fin.ext (by blk_point [idx t, bt])
  have e1 : ((View.whole main_v38_2).slice (win0_11.rect t)).emb (ix2 y0 y1) 1 = (⟨(ht t).val * 128 + (y1 : Fin 128).val, flatC _ _⟩ : Fin 1024) :=
    Fin.ext (by blk_point [idx t, ht])
  exact ((congr (congrArg (wide fun b h => (HD m c b h).dv) e0) e1).trans (wide_flat (fun b h => (HD m c b h).dv) (bt t) (ht t) y0 y1)).symm

/-- The gradient of the queries' rotated part, times the rotation's cose. -/
def cosQ (c : Dev nD) (h : Fin 8) (i : Fin 4096) (d : Fin 64) : EReal :=
  (HD m c (rowB i) h).dqr (rowR i) d * (m ((c : Thread nD τ).loc main_arg6) : FVec Ideal S4096x64 .f32) (ix2 i d)

theorem final12 (c : Dev nD) : (dats m 0 c).arrAt 12 (cfgs 0).N = fun j : S8x4096x64.Idx => cosQ m c (j 0) (j 1) (j 2) := by
  refine (dats m 0 c).arrAt_eq_of_covers 12 _ (by decide +kernel) fun t hf y => ?_
  blk_simp
  idx_vars y
  have hy : (y0 : Fin 1) = 0 := Subsingleton.elim _ _
  rw [hy]
  refine (point12 m c t y1 y2).trans ?_
  have e0 : ((View.whole main_v38_3).slice (win0_12.rect t)).emb (ix3 0 y1 y2) 0 = (ht t : Fin 8) :=
    Fin.ext (by
      show _ = t.val % 8
      simp -proj -dsimp only [ValueKit.blkEmbVal, ValueKit.ixVal, ValueKit.sizeLit, ValueKit.finMkLit, ValueKit.winNorm, ValueKit.winIndexNorm, Matrix.cons_val, Fin.isValue, idx t]
      try omega)
  have e1 : ((View.whole main_v38_3).slice (win0_12.rect t)).emb (ix3 0 y1 y2) 1 = (⟨(bt t).val * 2048 + (y1 : Fin 2048).val, flatR _ _⟩ : Fin 4096) :=
    Fin.ext (by blk_point [idx t, bt])
  have e2 : ((View.whole main_v38_3).slice (win0_12.rect t)).emb (ix3 0 y1 y2) 2 = (y2 : Fin 64) := Fin.ext (by blk_point [idx t])
  refine Eq.symm ((congr (congr (congrArg (cosQ m c) e0) e1) e2).trans ?_)
  rw [cosQ, rowB_flat, rowR_flat]
  rfl

/-- The gradient of the queries' rotated part, times the rotation's sine. -/
def sinQ (c : Dev nD) (h : Fin 8) (i : Fin 4096) (d : Fin 64) : EReal :=
  (HD m c (rowB i) h).dqr (rowR i) d * (m ((c : Thread nD τ).loc main_arg7) : FVec Ideal S4096x64 .f32) (ix2 i d)

theorem final13 (c : Dev nD) : (dats m 0 c).arrAt 13 (cfgs 0).N = fun j : S8x4096x64.Idx => sinQ m c (j 0) (j 1) (j 2) := by
  refine (dats m 0 c).arrAt_eq_of_covers 13 _ (by decide +kernel) fun t hf y => ?_
  blk_simp
  idx_vars y
  have hy : (y0 : Fin 1) = 0 := Subsingleton.elim _ _
  rw [hy]
  refine (point13 m c t y1 y2).trans ?_
  have e0 : ((View.whole main_v38_4).slice (win0_13.rect t)).emb (ix3 0 y1 y2) 0 = (ht t : Fin 8) :=
    Fin.ext (by
      show _ = t.val % 8
      simp -proj -dsimp only [ValueKit.blkEmbVal, ValueKit.ixVal, ValueKit.sizeLit, ValueKit.finMkLit, ValueKit.winNorm, ValueKit.winIndexNorm, Matrix.cons_val, Fin.isValue, idx t]
      try omega)
  have e1 : ((View.whole main_v38_4).slice (win0_13.rect t)).emb (ix3 0 y1 y2) 1 = (⟨(bt t).val * 2048 + (y1 : Fin 2048).val, flatR _ _⟩ : Fin 4096) :=
    Fin.ext (by blk_point [idx t, bt])
  have e2 : ((View.whole main_v38_4).slice (win0_13.rect t)).emb (ix3 0 y1 y2) 2 = (y2 : Fin 64) := Fin.ext (by blk_point [idx t])
  refine Eq.symm ((congr (congr (congrArg (sinQ m c) e0) e1) e2).trans ?_)
  rw [sinQ, rowB_flat, rowR_flat]
  rfl

/-- The gradient of the keys' rotated part: every head's part of it. -/
def keyR (c : Dev nD) (i : Fin 4096) (d : Fin 64) : EReal := ∑ h : Fin 8, (HD m c (rowB i) h).dkr (rowR i) d

theorem final14 (c : Dev nD) : (dats m 0 c).arrAt 14 (cfgs 0).N = fun j : S4096x64.Idx => keyR m c (j 0) (j 1) := by
  refine (dats m 0 c).arrAt_eq_of_covers 14 _ (by decide +kernel) fun t hf y => ?_
  blk_simp
  have h7 := (flush0_14 t).mp hf
  rw [after0_14, Pipeline.eq_sum_fin_of_reset_step_apply_of_flush (fun n h => (outsAt0 m c n h).2.2.2.2.2) 8 (fun _ => (0 : EReal))
    (fun t (j : S2048x64.Idx) => (HD m c (bt t) (ht t)).dkr (j 0) (j 1))
    (fun t h j => by idx_vars j; rw [zero_add]; exact point14A m c t h _ _)
    (fun t h j => by idx_vars j; exact point14B m c t h _ _)
    t h7 _, zero_add]
  idx_vars y
  have e0 : ((View.whole main_v38_5).slice (win0_14.rect t)).emb (ix2 y0 y1) 0 = (⟨(bt t).val * 2048 + (y0 : Fin 2048).val, flatR _ _⟩ : Fin 4096) :=
    Fin.ext (by blk_point [idx t, bt])
  have e1 : ((View.whole main_v38_5).slice (win0_14.rect t)).emb (ix2 y0 y1) 1 = (y1 : Fin 64) := Fin.ext (by blk_point [idx t])
  refine Eq.symm ((congr (congrArg (keyR m c) e0) e1).trans ?_)
  rw [keyR, rowB_flat, rowR_flat]
  refine Fin.sum_fin_congr fun s => ?_
  have hb : bt ⟨8 * (t.val / 8) + s.val, Pipeline.run_point_lt_of_flush t h7 s⟩ = bt t := Fin.ext (by simp only [bt]; omega)
  have hh : ht ⟨8 * (t.val / 8) + s.val, Pipeline.run_point_lt_of_flush t h7 s⟩ = s := Fin.ext (by simp only [ht]; omega)
  show (HD m c (bt t) s).dkr y0 y1 = (HD m c (bt ⟨8 * (t.val / 8) + s.val, _⟩) (ht ⟨8 * (t.val / 8) + s.val, _⟩)).dkr y0 y1
  rw [hb, hh]

end Cert.Attn

end
-- ==== Proof.AttnRef.lean ====
/- What the differentiated attention of the reference computes, entry by entry. -/
module

public import proofs.«01_k».proof.Proof.Gen.Reference2Ideal.Run
public import proofs.«01_k».proof.Proof.AttnKernel

@[expose] public section

set_option maxRecDepth 16384

noncomputable section

open Idealize.ShloMosaic Idealize.ShloMosaic.TcCoe Idealize.SL.Sem
open Idealize.ShloMosaic.Pipeline (Dat)

namespace Cert.Attn.Ref

open Cert.Attn Cert.Reference2Ideal Cert.Reference2Ideal.Gen Cert.Reference2Ideal.Value

def seen  : IVec S2x8x2048x2048 1 :=
  broadcastInDim S2x8x2048x2048 ![2, 3] bcast_S2048x2048_S2x8x2048x2048_2_3 (cmpi .sle (broadcastInDim S2048x2048 ![0, 1] bcast_S1x2048_S2048x2048_0_1 (broadcastInDim S1x2048 ![1] bcast_S2048_S1x2048_1 ((iotaInDim S2048 32 0)))) (broadcastInDim S2048x2048 ![0, 1] bcast_S2048x1_S2048x2048_0_1 (broadcastInDim S2048x1 ![0] bcast_S2048_S2048x1_0 ((iotaInDim S2048 32 0)))))

def sc (a0 : FVec Ideal S2x2048x8x128 .f32) (a1 : FVec Ideal S2x2048x8x64 .f32) (a2 : FVec Ideal S2x2048x8x128 .f32) (a3 : FVec Ideal S2x2048x64 .f32) : FVec Ideal S2x8x2048x2048 .f32 :=
  select (broadcastInDim S2x8x2048x2048 ![2, 3] bcast_S2048x2048_S2x8x2048x2048_2_3 (cmpi .sle (broadcastInDim S2048x2048 ![0, 1] bcast_S1x2048_S2048x2048_0_1 (broadcastInDim S1x2048 ![1] bcast_S2048_S1x2048_1 ((iotaInDim S2048 32 0)))) (broadcastInDim S2048x2048 ![0, 1] bcast_S2048x1_S2048x2048_0_1 (broadcastInDim S2048x1 ![0] bcast_S2048_S2048x1_0 ((iotaInDim S2048 32 0)))))) (mulf (addf (Host.dotGeneral (F := Ideal) (φ₁ := .f32) (φ₂ := .f32) dot_S2x2048x8x128_S2x2048x8x128_S2x8x2048x2048_3_3_1_1_02_02 none (a0) (a2)) (transpose S2x8x2048x2048 [0, 3, 2, 1] (Host.dotGeneral (F := Ideal) (φ₁ := .f32) (φ₂ := .f32) dot_S2x2048x64_S2x2048x8x64_S2x2048x2048x8_2_3_1_12_0_0 none (a3) (a1)) transposes_S2x2048x2048x8_S2x8x2048x2048_0_3_2_1)) (broadcastInDim S2x8x2048x2048 ![] bcast_S_S2x8x2048x2048 ((constant S_ .f32 0x3D93CD3A#32)))) (broadcastInDim S2x8x2048x2048 ![] bcast_S_S2x8x2048x2048 ((constant S_ .f32 0xFF800000#32)))

def ex (G : FVec Ideal S2x8x2048x2048 .f32) : FVec Ideal S2x8x2048x2048 .f32 :=
  Host.exp (subf (G) (broadcastInDim S2x8x2048x2048 ![0, 1, 2, 3] bcast_S2x8x2048x1_S2x8x2048x2048_0_1_2_3 (broadcastInDim S2x8x2048x1 ![0, 1, 2] bcast_S2x8x2048_S2x8x2048x1_0_1_2 (maximumf (broadcastInDim S2x8x2048 ![] bcast_S_S2x8x2048 ((constant S_ .f32 0xFF800000#32))) (Host.reduce FloatOps.maximumf (G) ((constant S_ .f32 0xFF800000#32)) reducesTo_S2x8x2048x2048_S2x8x2048_d3 h_S_)))))

def tot (E : FVec Ideal S2x8x2048x2048 .f32) : FVec Ideal S2x8x2048x1 .f32 :=
  broadcastInDim S2x8x2048x1 ![0, 1, 2] bcast_S2x8x2048_S2x8x2048x1_0_1_2 (Host.reduceAdd (E) ((constant S_ .f32 0x00000000#32)) reducesTo_S2x8x2048x2048_S2x8x2048_d3 h_S_)

def prb (E : FVec Ideal S2x8x2048x2048 .f32) : FVec Ideal S2x8x2048x2048 .f32 :=
  Host.divf (E) (broadcastInDim S2x8x2048x2048 ![0, 1, 2, 3] bcast_S2x8x2048x1_S2x8x2048x2048_0_1_2_3 (tot E))

def gp (a4 a5 : FVec Ideal S2x2048x8x128 .f32) : FVec Ideal S2x8x2048x2048 .f32 :=
  Host.dotGeneral (F := Ideal) (φ₁ := .f32) (φ₂ := .f32) dot_S2x8x128x2048_S2x2048x8x128_S2x8x2048x2048_2_3_3_1_01_02 none (transpose S2x8x128x2048 [0, 2, 3, 1] (a5) transposes_S2x2048x8x128_S2x8x128x2048_0_2_3_1) (a4)

def inv (T : FVec Ideal S2x8x2048x1 .f32) : FVec Ideal S2x8x2048x1 .f32 :=
  Host.divf (broadcastInDim S2x8x2048x1 ![] bcast_S_S2x8x2048x1 ((constant S_ .f32 0x3F800000#32))) (mulf (T) (T))

def wsum (Q E : FVec Ideal S2x8x2048x2048 .f32) (I : FVec Ideal S2x8x2048x1 .f32) : FVec Ideal S2x8x2048 .f32 :=
  Host.reduceAdd (mulf (mulf (Q) (broadcastInDim S2x8x2048x2048 ![0, 1, 2, 3] bcast_S2x8x2048x1_S2x8x2048x2048_0_1_2_3 (I))) (E)) ((constant S_ .f32 0x00000000#32)) reducesTo_S2x8x2048x2048_S2x8x2048_d3 h_S_

def opp (Y : FVec Ideal S2x8x2048 .f32) : FVec Ideal S2x8x2048 .f32 :=
  Host.reduceAdd (Host.negf (shapeCast _ (Y) shapeCasts_S2x8x2048_S2x8x2048x1)) ((constant S_ .f32 0x00000000#32)) reducesTo_S2x8x2048x1_S2x8x2048_d3 h_S_

def mix (Q E : FVec Ideal S2x8x2048x2048 .f32) (T : FVec Ideal S2x8x2048x1 .f32) (Y : FVec Ideal S2x8x2048 .f32) : FVec Ideal S2x8x2048x2048 .f32 :=
  mulf (select (seen) (mulf (addf (Host.divf (Q) (broadcastInDim S2x8x2048x2048 ![0, 1, 2, 3] bcast_S2x8x2048x1_S2x8x2048x2048_0_1_2_3 (T))) (broadcastInDim S2x8x2048x2048 ![0, 1, 2] bcast_S2x8x2048_S2x8x2048x2048_0_1_2 (Y))) (E)) (broadcastInDim S2x8x2048x2048 ![] bcast_S_S2x8x2048x2048 ((constant S_ .f32 0x00000000#32)))) (broadcastInDim S2x8x2048x2048 ![] bcast_S_S2x8x2048x2048 ((constant S_ .f32 0x3D93CD3A#32)))

def gs (E Q : FVec Ideal S2x8x2048x2048 .f32) : FVec Ideal S2x8x2048x2048 .f32 :=
  mix Q E (tot E) (opp (wsum Q E (inv (tot E))))

def o0 (X : FVec Ideal S2x8x2048x2048 .f32) (a2 : FVec Ideal S2x2048x8x128 .f32) : FVec Ideal S4096x1024 .bf16 :=
  truncf .bf16 (shapeCast _ (transpose S2x2048x8x128 [0, 2, 1, 3] (Host.dotGeneral (F := Ideal) (φ₁ := .f32) (φ₂ := .f32) dot_S2x8x2048x2048_S2x2048x8x128_S2x8x2048x128_3_1_2_3_01_02 none (X) (a2)) transposes_S2x8x2048x128_S2x2048x8x128_0_2_1_3) shapeCasts_S2x2048x8x128_S4096x1024) bitsLt_bf16_f32

def o1 (X : FVec Ideal S2x8x2048x2048 .f32) (a0 : FVec Ideal S2x2048x8x128 .f32) : FVec Ideal S4096x1024 .bf16 :=
  truncf .bf16 (shapeCast _ (transpose S2x2048x8x128 [0, 2, 1, 3] (Host.dotGeneral (F := Ideal) (φ₁ := .f32) (φ₂ := .f32) dot_S2x8x2048x2048_S2x2048x8x128_S2x8x2048x128_2_1_3_3_01_02 none (X) (a0)) transposes_S2x8x2048x128_S2x2048x8x128_0_2_1_3) shapeCasts_S2x2048x8x128_S4096x1024) bitsLt_bf16_f32

def o2 (X : FVec Ideal S2x8x2048x2048 .f32) (a5 : FVec Ideal S2x2048x8x128 .f32) : FVec Ideal S4096x1024 .bf16 :=
  truncf .bf16 (shapeCast _ (transpose S2x2048x8x128 [0, 3, 1, 2] (Host.dotGeneral (F := Ideal) (φ₁ := .f32) (φ₂ := .f32) dot_S2x8x128x2048_S2x8x2048x2048_S2x8x128x2048_3_2_2_3_01_01 none (transpose S2x8x128x2048 [0, 2, 3, 1] (a5) transposes_S2x2048x8x128_S2x8x128x2048_0_2_3_1) (X)) transposes_S2x8x128x2048_S2x2048x8x128_0_3_1_2) shapeCasts_S2x2048x8x128_S4096x1024) bitsLt_bf16_f32

def o3 (X : FVec Ideal S2x8x2048x2048 .f32) (a3 : FVec Ideal S2x2048x64 .f32) (a6 : FVec Ideal S4096x64 .f32) : FVec Ideal S8x4096x64 .bf16 :=
  truncf .bf16 (mulf (shapeCast _ (transpose S8x2x2048x64 [2, 0, 1, 3] (Host.dotGeneral (F := Ideal) (φ₁ := .f32) (φ₂ := .f32) dot_S2x2048x2048x8_S2x2048x64_S2x2048x8x64_1_1_23_2_0_0 none (transpose S2x2048x2048x8 [0, 3, 2, 1] (X) transposes_S2x8x2048x2048_S2x2048x2048x8_0_3_2_1) (a3)) transposes_S2x2048x8x64_S8x2x2048x64_2_0_1_3) shapeCasts_S8x2x2048x64_S8x4096x64) (broadcastInDim S8x4096x64 ![0, 1, 2] bcast_S1x4096x64_S8x4096x64_0_1_2 (broadcastInDim S1x4096x64 ![1, 2] bcast_S4096x64_S1x4096x64_1_2 (a6)))) bitsLt_bf16_f32

def o4 (X : FVec Ideal S2x8x2048x2048 .f32) (a3 : FVec Ideal S2x2048x64 .f32) (a7 : FVec Ideal S4096x64 .f32) : FVec Ideal S8x4096x64 .bf16 :=
  truncf .bf16 (mulf (shapeCast _ (transpose S8x2x2048x64 [2, 0, 1, 3] (Host.dotGeneral (F := Ideal) (φ₁ := .f32) (φ₂ := .f32) dot_S2x2048x2048x8_S2x2048x64_S2x2048x8x64_1_1_23_2_0_0 none (transpose S2x2048x2048x8 [0, 3, 2, 1] (X) transposes_S2x8x2048x2048_S2x2048x2048x8_0_3_2_1) (a3)) transposes_S2x2048x8x64_S8x2x2048x64_2_0_1_3) shapeCasts_S8x2x2048x64_S8x4096x64) (broadcastInDim S8x4096x64 ![0, 1, 2] bcast_S1x4096x64_S8x4096x64_0_1_2 (broadcastInDim S1x4096x64 ![1, 2] bcast_S4096x64_S1x4096x64_1_2 (a7)))) bitsLt_bf16_f32

def o5 (X : FVec Ideal S2x8x2048x2048 .f32) (a1 : FVec Ideal S2x2048x8x64 .f32) : FVec Ideal S4096x64 .f32 :=
  shapeCast _ (Host.dotGeneral (F := Ideal) (φ₁ := .f32) (φ₂ := .f32) dot_S2x2048x2048x8_S2x2048x8x64_S2x2048x64_23_12_1_3_0_0 none (transpose S2x2048x2048x8 [0, 3, 2, 1] (X) transposes_S2x8x2048x2048_S2x2048x2048x8_0_3_2_1) (a1)) shapeCasts_S2x2048x64_S4096x64

theorem out0 (m' : (ℓ : Loc nD τ sig) → Buf (Elt Ideal) ℓ) (c : Dev nD) : res_main_v76 m' c
    = o0 (gs (ex (sc (m' ((c : Thread nD τ).loc main_arg0)) (m' ((c : Thread nD τ).loc main_arg1)) (m' ((c : Thread nD τ).loc main_arg2)) (m' ((c : Thread nD τ).loc main_arg3)))) (gp (m' ((c : Thread nD τ).loc main_arg4)) (m' ((c : Thread nD τ).loc main_arg5)))) (m' ((c : Thread nD τ).loc main_arg2)) := by
  unfold res_main_v76
  rfl

theorem out1 (m' : (ℓ : Loc nD τ sig) → Buf (Elt Ideal) ℓ) (c : Dev nD) : res_main_v78 m' c
    = o1 (gs (ex (sc (m' ((c : Thread nD τ).loc main_arg0)) (m' ((c : Thread nD τ).loc main_arg1)) (m' ((c : Thread nD τ).loc main_arg2)) (m' ((c : Thread nD τ).loc main_arg3)))) (gp (m' ((c : Thread nD τ).loc main_arg4)) (m' ((c : Thread nD τ).loc main_arg5)))) (m' ((c : Thread nD τ).loc main_arg0)) := by
  unfold res_main_v78
  rfl

theorem out2 (m' : (ℓ : Loc nD τ sig) → Buf (Elt Ideal) ℓ) (c : Dev nD) : res_main_v80 m' c
    = o2 (prb (ex (sc (m' ((c : Thread nD τ).loc main_arg0)) (m' ((c : Thread nD τ).loc main_arg1)) (m' ((c : Thread nD τ).loc main_arg2)) (m' ((c : Thread nD τ).loc main_arg3))))) (m' ((c : Thread nD τ).loc main_arg5)) := by
  unfold res_main_v80
  rfl

theorem out3 (m' : (ℓ : Loc nD τ sig) → Buf (Elt Ideal) ℓ) (c : Dev nD) : res_main_v84 m' c
    = o3 (gs (ex (sc (m' ((c : Thread nD τ).loc main_arg0)) (m' ((c : Thread nD τ).loc main_arg1)) (m' ((c : Thread nD τ).loc main_arg2)) (m' ((c : Thread nD τ).loc main_arg3)))) (gp (m' ((c : Thread nD τ).loc main_arg4)) (m' ((c : Thread nD τ).loc main_arg5)))) (m' ((c : Thread nD τ).loc main_arg3)) (m' ((c : Thread nD τ).loc main_arg6)) := by
  unfold res_main_v84
  rfl

theorem out4 (m' : (ℓ : Loc nD τ sig) → Buf (Elt Ideal) ℓ) (c : Dev nD) : res_main_v88 m' c
    = o4 (gs (ex (sc (m' ((c : Thread nD τ).loc main_arg0)) (m' ((c : Thread nD τ).loc main_arg1)) (m' ((c : Thread nD τ).loc main_arg2)) (m' ((c : Thread nD τ).loc main_arg3)))) (gp (m' ((c : Thread nD τ).loc main_arg4)) (m' ((c : Thread nD τ).loc main_arg5)))) (m' ((c : Thread nD τ).loc main_arg3)) (m' ((c : Thread nD τ).loc main_arg7)) := by
  unfold res_main_v88
  rfl

theorem out5 (m' : (ℓ : Loc nD τ sig) → Buf (Elt Ideal) ℓ) (c : Dev nD) : res_main_v89 m' c
    = o5 (gs (ex (sc (m' ((c : Thread nD τ).loc main_arg0)) (m' ((c : Thread nD τ).loc main_arg1)) (m' ((c : Thread nD τ).loc main_arg2)) (m' ((c : Thread nD τ).loc main_arg3)))) (gp (m' ((c : Thread nD τ).loc main_arg4)) (m' ((c : Thread nD τ).loc main_arg5)))) (m' ((c : Thread nD τ).loc main_arg1)) := by
  unfold res_main_v89
  rfl

theorem sc_at (a0 : FVec Ideal S2x2048x8x128 .f32) (a1 : FVec Ideal S2x2048x8x64 .f32) (a2 : FVec Ideal S2x2048x8x128 .f32)
    (a3 : FVec Ideal S2x2048x64 .f32) (a4 a5 : FVec Ideal S2x2048x8x128 .f32) (b : Fin 2) (h : Fin 8) (r k : Fin 2048) :
    sc a0 a1 a2 a3 (ix4 b h r k) = (head a0 a1 a2 a3 a4 a5 b h).row r k :=
  masked a0 a1 a2 a3 a4 a5 b h r k

theorem floor (X : FVec Ideal S2x8x2048 .f32) (hb) (j : S2x8x2048.Idx) :
    maximumf (broadcastInDim S2x8x2048 ![] hb (constant S_ .f32 0xFF800000#32 : FVec Ideal S_ .f32)) X j = X j := by
  have h : maximumf (broadcastInDim S2x8x2048 ![] hb (constant S_ .f32 0xFF800000#32 : FVec Ideal S_ .f32)) X j
      = max (Ideal.ofBits .f32 0xFF800000#32) (X j) := rfl
  rw [h, neg_inf]
  exact max_eq_right bot_le

theorem ex_at (G : FVec Ideal S2x8x2048x2048 .f32) (b : Fin 2) (h : Fin 8) (r : Fin 2048) (row : Fin 2048 → EReal)
    (hG : ∀ k, G (ix4 b h r k) = row k) (k : Fin 2048) : ex G (ix4 b h r k) = Ideal.exp (row k - AttnRow.mx row) := by
  have hM := rowmax G b h r
  simp only [hG, neg_inf] at hM
  unfold ex
  refine (shifted _ _ _).trans ?_
  rw [hG]
  exact congrArg (fun y : EReal => Ideal.exp (row k - y)) ((spread _ _ _ b h r k).trans ((floor _ _ _).trans hM))

theorem tot_at (E : FVec Ideal S2x8x2048x2048 .f32) (b : Fin 2) (h : Fin 8) (r : Fin 2048) (z : Fin 1) :
    tot E (ix4 b h r z) = ∑ k, (E (ix4 b h r k) : EReal) := by
  pointwise [tot]

theorem prb_at (E : FVec Ideal S2x8x2048x2048 .f32) (b : Fin 2) (h : Fin 8) (r k : Fin 2048) :
    prb E (ix4 b h r k) = Ideal.div (E (ix4 b h r k)) (∑ k, (E (ix4 b h r k) : EReal)) := by
  have ht := tot_at E b h r 0
  unfold prb
  generalize tot E = T at ht
  pointwise []
  rw [ht]

theorem gp_at (a4 a5 : FVec Ideal S2x2048x8x128 .f32) (b : Fin 2) (h : Fin 8) (r k : Fin 2048) :
    gp a4 a5 (ix4 b h r k) = ∑ d, (a5 (ix4 b r h d) : EReal) * a4 (ix4 b k h d) := by
  pointwise [gp]

theorem inv_at (T : FVec Ideal S2x8x2048x1 .f32) (b : Fin 2) (h : Fin 8) (r : Fin 2048) (z : Fin 1) :
    inv T (ix4 b h r z) = Ideal.div 1 ((T (ix4 b h r z) : EReal) * T (ix4 b h r z)) := by
  pointwise [inv]

theorem wsum_at (Q E : FVec Ideal S2x8x2048x2048 .f32) (I : FVec Ideal S2x8x2048x1 .f32) (b : Fin 2) (h : Fin 8) (r : Fin 2048) :
    wsum Q E I (ix3 b h r) = ∑ k, (Q (ix4 b h r k) : EReal) * I (ix4 b h r 0) * E (ix4 b h r k) := by
  pointwise [wsum]

theorem opp_at (Y : FVec Ideal S2x8x2048 .f32) (b : Fin 2) (h : Fin 8) (r : Fin 2048) :
    opp Y (ix3 b h r) = -(Y (ix3 b h r) : EReal) := by
  pointwise [opp]
  exact Fin.sum_univ_one _

theorem mix_at (Q E : FVec Ideal S2x8x2048x2048 .f32) (T : FVec Ideal S2x8x2048x1 .f32) (Y : FVec Ideal S2x8x2048 .f32)
    (b : Fin 2) (h : Fin 8) (r k : Fin 2048) :
    mix Q E T Y (ix4 b h r k)
      = (if k.val ≤ r.val then (Ideal.div (Q (ix4 b h r k)) (T (ix4 b h r 0)) + (Y (ix3 b h r) : EReal)) * E (ix4 b h r k) else 0) * w := by
  pointwise [mix, seen]
  by_cases hk : k.val ≤ r.val
  · rw [if_pos hk, (WordCmp.cmpi_sle_ofNat_eq_one_iff (w := 32) (by omega) (by omega)).2 hk]
    rfl
  · rw [if_neg hk, zero_mul, (WordCmp.cmpi_sle_ofNat_eq_zero_iff (w := 32) (by omega) (by omega)).2 (by omega)]
    rfl

theorem gs_at (E Q : FVec Ideal S2x8x2048x2048 .f32) (b : Fin 2) (h : Fin 8) (r k : Fin 2048) :
    gs E Q (ix4 b h r k)
      = (if k.val ≤ r.val then (Ideal.div (Q (ix4 b h r k)) (∑ k, (E (ix4 b h r k) : EReal))
          + -∑ i, (Q (ix4 b h r i) : EReal) * Ideal.div 1 ((∑ k, (E (ix4 b h r k) : EReal)) * ∑ k, (E (ix4 b h r k) : EReal)) * E (ix4 b h r i))
          * E (ix4 b h r k) else 0) * w := by
  rw [gs, mix_at, opp_at, wsum_at, inv_at, tot_at]

theorem o0_at (X : FVec Ideal S2x8x2048x2048 .f32) (a2 : FVec Ideal S2x2048x8x128 .f32) (i : Fin 4096) (j : Fin 1024) :
    o0 X a2 (ix2 i j) = ∑ y, (X (ix4 (rowB i) (colH j) (rowR i) y) : EReal) * a2 (ix4 (rowB i) y (colH j) (colD j)) := by
  pointwise [o0]
  rfl

theorem o1_at (X : FVec Ideal S2x8x2048x2048 .f32) (a0 : FVec Ideal S2x2048x8x128 .f32) (i : Fin 4096) (j : Fin 1024) :
    o1 X a0 (ix2 i j) = ∑ r, (X (ix4 (rowB i) (colH j) r (rowR i)) : EReal) * a0 (ix4 (rowB i) r (colH j) (colD j)) := by
  pointwise [o1]
  rfl

theorem o2_at (X : FVec Ideal S2x8x2048x2048 .f32) (a5 : FVec Ideal S2x2048x8x128 .f32) (i : Fin 4096) (j : Fin 1024) :
    o2 X a5 (ix2 i j) = ∑ r, (a5 (ix4 (rowB i) r (colH j) (colD j)) : EReal) * X (ix4 (rowB i) (colH j) r (rowR i)) := by
  pointwise [o2]
  rfl

theorem o3_at (X : FVec Ideal S2x8x2048x2048 .f32) (a3 : FVec Ideal S2x2048x64 .f32) (a6 : FVec Ideal S4096x64 .f32) (h : Fin 8) (i : Fin 4096) (d : Fin 64) :
    o3 X a3 a6 (ix3 h i d) = (∑ y, (X (ix4 (rowB i) h (rowR i) y) : EReal) * a3 (ix3 (rowB i) y d)) * a6 (ix2 i d) := by
  pointwise [o3]
  rfl

theorem o4_at (X : FVec Ideal S2x8x2048x2048 .f32) (a3 : FVec Ideal S2x2048x64 .f32) (a7 : FVec Ideal S4096x64 .f32) (h : Fin 8) (i : Fin 4096) (d : Fin 64) :
    o4 X a3 a7 (ix3 h i d) = (∑ y, (X (ix4 (rowB i) h (rowR i) y) : EReal) * a3 (ix3 (rowB i) y d)) * a7 (ix2 i d) := by
  pointwise [o4]
  rfl

theorem o5_at (X : FVec Ideal S2x8x2048x2048 .f32) (a1 : FVec Ideal S2x2048x8x64 .f32) (i : Fin 4096) (d : Fin 64) :
    o5 X a1 (ix2 i d) = ∑ h, ∑ r, (X (ix4 (rowB i) h r (rowR i)) : EReal) * a1 (ix4 (rowB i) r h d) := by
  pointwise [o5]
  exact Finset.sum_comm

end Cert.Attn.Ref

end
-- ==== Proof.Attn.lean ====
/- The claim of the attention's gradient: the kernel's slices and the differentiated reference agree at real arrays. -/
module

public import proofs.«01_k».proof.Defs
public import proofs.«01_k».proof.Proof.Gen.Kernel2Ideal.Frame
public import proofs.«01_k».proof.Proof.Gen.Reference2Ideal.Run
public import proofs.«01_k».proof.Proof.Gen.Pre_finite_attn
public import proofs.«01_k».proof.Proof.AttnRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attn

theorem w_real : ∃ r : ℝ, w = r := by
  unfold w
  simp [Ideal.ofBits, Ideal.ieee]
  exact ⟨_, rfl⟩

/-- The rows of a head are real. -/
structure Head.Real (H : Head) : Prop where
  qn : ∀ r d, ∃ x : ℝ, H.qn r d = x
  qr : ∀ r d, ∃ x : ℝ, H.qr r d = x
  kn : ∀ r d, ∃ x : ℝ, H.kn r d = x
  kr : ∀ r d, ∃ x : ℝ, H.kr r d = x
  v : ∀ r d, ∃ x : ℝ, H.v r d = x
  o : ∀ r d, ∃ x : ℝ, H.o r d = x

theorem Head.Real.row {H : Head} (h : H.Real) (r : Fin 2048) : AttnRow.Row (H.row r) := by
  have hs : ∀ k, ∃ x : ℝ, H.score r k = x := fun k =>
    Finite.real_mul (Finite.real_add (Finite.real_sum _ _ fun d => Finite.real_mul (h.qn _ _) (h.kn _ _))
      (Finite.real_sum _ _ fun d => Finite.real_mul (h.qr _ _) (h.kr _ _))) w_real
  refine ⟨fun k => ?_, r, ?_⟩
  · by_cases hk : k.val ≤ r.val
    · left; rw [Head.row, if_pos hk]; exact hs k
    · right; rw [Head.row, if_neg hk]
  · rw [Head.row, if_pos (le_refl _)]; exact hs r

theorem Head.Real.dp {H : Head} (h : H.Real) (r k : Fin 2048) : ∃ x : ℝ, H.dp r k = x :=
  Finite.real_sum _ _ fun d => Finite.real_mul (h.o _ _) (h.v _ _)

section Arrays

variable (a0 : FVec Ideal Cert.Kernel2Ideal.S2x2048x8x128 .f32) (a1 : FVec Ideal Cert.Kernel2Ideal.S2x2048x8x64 .f32)
  (a2 : FVec Ideal Cert.Kernel2Ideal.S2x2048x8x128 .f32) (a3 : FVec Ideal Cert.Kernel2Ideal.S2x2048x64 .f32)
  (a4 a5 : FVec Ideal Cert.Kernel2Ideal.S2x2048x8x128 .f32) (b : Fin 2) (h : Fin 8)
  (hr : (head a0 a1 a2 a3 a4 a5 b h).Real)
include hr

/-- The reference's probabilities are the kernel's. -/
theorem prb_eq (r k : Fin 2048) :
    Ref.prb (Ref.ex (Ref.sc a0 a1 a2 a3)) (ix4 b h r k) = (head a0 a1 a2 a3 a4 a5 b h).p r k := by
  have he := Ref.ex_at (Ref.sc a0 a1 a2 a3) b h r _ (Ref.sc_at a0 a1 a2 a3 a4 a5 b h r)
  rw [Ref.prb_at, Head.p, AttnRow.share (hr.row r)]
  simp only [he]

/-- The reference's gradients of the scores are the kernel's. -/
theorem gs_eq (r k : Fin 2048) :
    Ref.gs (Ref.ex (Ref.sc a0 a1 a2 a3)) (Ref.gp a4 a5) (ix4 b h r k) = (head a0 a1 a2 a3 a4 a5 b h).ds r k := by
  have he := Ref.ex_at (Ref.sc a0 a1 a2 a3) b h r _ (Ref.sc_at a0 a1 a2 a3 a4 a5 b h r)
  have hg : ∀ k, Ref.gp a4 a5 (ix4 b h r k) = (head a0 a1 a2 a3 a4 a5 b h).dp r k := Ref.gp_at a4 a5 b h r
  rw [Ref.gs_at]
  by_cases hk : k.val ≤ r.val
  · rw [if_pos hk]
    simp only [he, hg]
    exact congrArg (fun s : EReal => s * w) (AttnRow.grad (hr.row r) (hr.dp r) k).symm
  · rw [if_neg hk, Head.ds_masked _ (by omega), zero_mul]

end Arrays

/-- The arrays the precondition speaks of are real. -/
theorem reals (a0 : FVec Ideal Cert.Kernel2Ideal.S2x2048x8x128 .f32) (a1 : FVec Ideal Cert.Kernel2Ideal.S2x2048x8x64 .f32) (a2 : FVec Ideal Cert.Kernel2Ideal.S2x2048x8x128 .f32) (a3 : FVec Ideal Cert.Kernel2Ideal.S2x2048x64 .f32) (a4 : FVec Ideal Cert.Kernel2Ideal.S2x2048x8x128 .f32) (a5 : FVec Ideal Cert.Kernel2Ideal.S2x2048x8x128 .f32) (a6 : FVec Ideal Cert.Kernel2Ideal.S4096x64 .f32) (a7 : FVec Ideal Cert.Kernel2Ideal.S4096x64 .f32)
    (h : (haveI := Cert.Pre_finite_attn.Gen.facts; Cert.Pre_finite_attn.fn (F := Ideal) a0 a1 a2 a3 a4 a5 a6 a7) = fun _ => 1#1) :
    Finite.AllReal a0 ∧ Finite.AllReal a1 ∧ Finite.AllReal a2 ∧ Finite.AllReal a3 ∧ Finite.AllReal a4 ∧ Finite.AllReal a5 := by
  have h := congrFun h ix0
  simp only [Cert.Pre_finite_attn.fn, Cert.Pre_finite_attn.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all_real a0 _ (fun _ => Finite.inf_word) _ _ _ _ h0,
    Finite.all_real a1 _ (fun _ => Finite.inf_word) _ _ _ _ h1,
    Finite.all_real a2 _ (fun _ => Finite.inf_word) _ _ _ _ h2,
    Finite.all_real a3 _ (fun _ => Finite.inf_word) _ _ _ _ h3,
    Finite.all_real a4 _ (fun _ => Finite.inf_word) _ _ _ _ h4,
    Finite.all_real a5 _ (fun _ => Finite.inf_word) _ _ _ _ h5⟩

section Claim

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The two launches hold the same arrays, and these are real where it matters. -/
structure Same (c : Dev Cert.Kernel2Ideal.nD) : Prop where
  e0 : m' ((c : Thread Cert.Reference2Ideal.nD Cert.Reference2Ideal.τ).loc Cert.Reference2Ideal.main_arg0) = m ((c : Thread Cert.Kernel2Ideal.nD Cert.Kernel2Ideal.τ).loc Cert.Kernel2Ideal.main_arg0)
  e1 : m' ((c : Thread Cert.Reference2Ideal.nD Cert.Reference2Ideal.τ).loc Cert.Reference2Ideal.main_arg1) = m ((c : Thread Cert.Kernel2Ideal.nD Cert.Kernel2Ideal.τ).loc Cert.Kernel2Ideal.main_arg1)
  e2 : m' ((c : Thread Cert.Reference2Ideal.nD Cert.Reference2Ideal.τ).loc Cert.Reference2Ideal.main_arg2) = m ((c : Thread Cert.Kernel2Ideal.nD Cert.Kernel2Ideal.τ).loc Cert.Kernel2Ideal.main_arg2)
  e3 : m' ((c : Thread Cert.Reference2Ideal.nD Cert.Reference2Ideal.τ).loc Cert.Reference2Ideal.main_arg3) = m ((c : Thread Cert.Kernel2Ideal.nD Cert.Kernel2Ideal.τ).loc Cert.Kernel2Ideal.main_arg3)
  e4 : m' ((c : Thread Cert.Reference2Ideal.nD Cert.Reference2Ideal.τ).loc Cert.Reference2Ideal.main_arg4) = m ((c : Thread Cert.Kernel2Ideal.nD Cert.Kernel2Ideal.τ).loc Cert.Kernel2Ideal.main_arg4)
  e5 : m' ((c : Thread Cert.Reference2Ideal.nD Cert.Reference2Ideal.τ).loc Cert.Reference2Ideal.main_arg5) = m ((c : Thread Cert.Kernel2Ideal.nD Cert.Kernel2Ideal.τ).loc Cert.Kernel2Ideal.main_arg5)
  e6 : m' ((c : Thread Cert.Reference2Ideal.nD Cert.Reference2Ideal.τ).loc Cert.Reference2Ideal.main_arg6) = m ((c : Thread Cert.Kernel2Ideal.nD Cert.Kernel2Ideal.τ).loc Cert.Kernel2Ideal.main_arg6)
  e7 : m' ((c : Thread Cert.Reference2Ideal.nD Cert.Reference2Ideal.τ).loc Cert.Reference2Ideal.main_arg7) = m ((c : Thread Cert.Kernel2Ideal.nD Cert.Kernel2Ideal.τ).loc Cert.Kernel2Ideal.main_arg7)
  r0 : Finite.AllReal (s := Cert.Kernel2Ideal.S2x2048x8x128) (m ((c : Thread Cert.Kernel2Ideal.nD Cert.Kernel2Ideal.τ).loc Cert.Kernel2Ideal.main_arg0))
  r1 : Finite.AllReal (s := Cert.Kernel2Ideal.S2x2048x8x64) (m ((c : Thread Cert.Kernel2Ideal.nD Cert.Kernel2Ideal.τ).loc Cert.Kernel2Ideal.main_arg1))
  r2 : Finite.AllReal (s := Cert.Kernel2Ideal.S2x2048x8x128) (m ((c : Thread Cert.Kernel2Ideal.nD Cert.Kernel2Ideal.τ).loc Cert.Kernel2Ideal.main_arg2))
  r3 : Finite.AllReal (s := Cert.Kernel2Ideal.S2x2048x64) (m ((c : Thread Cert.Kernel2Ideal.nD Cert.Kernel2Ideal.τ).loc Cert.Kernel2Ideal.main_arg3))
  r4 : Finite.AllReal (s := Cert.Kernel2Ideal.S2x2048x8x128) (m ((c : Thread Cert.Kernel2Ideal.nD Cert.Kernel2Ideal.τ).loc Cert.Kernel2Ideal.main_arg4))
  r5 : Finite.AllReal (s := Cert.Kernel2Ideal.S2x2048x8x128) (m ((c : Thread Cert.Kernel2Ideal.nD Cert.Kernel2Ideal.τ).loc Cert.Kernel2Ideal.main_arg5))

variable {m m'} {c : Dev Cert.Kernel2Ideal.nD} (S : Same m m' c)
include S

theorem head_real (b : Fin 2) (h : Fin 8) : (HD m c b h).Real :=
  ⟨fun _ _ => S.r0 _, fun _ _ => S.r1 _, fun _ _ => S.r2 _, fun _ _ => S.r3 _, fun _ _ => S.r4 _, fun _ _ => S.r5 _⟩

theorem eq0 (i : Fin 4096) (j : Fin 1024) : Cert.Reference2Ideal.Value.res_main_v76 m' c (ix2 i j) = wide (fun b h => (HD m c b h).dqn) i j := by
  rw [Ref.out0, S.e0, S.e1, S.e2, S.e3, S.e4, S.e5]
  refine (Ref.o0_at _ _ i j).trans ?_
  unfold wide Head.dqn
  refine Finset.sum_congr rfl fun y _ => ?_
  exact congrArg (fun s : EReal => s * _) (gs_eq _ _ _ _ _ _ _ _ (head_real S _ _) _ y)

theorem eq1 (i : Fin 4096) (j : Fin 1024) : Cert.Reference2Ideal.Value.res_main_v78 m' c (ix2 i j) = wide (fun b h => (HD m c b h).dkn) i j := by
  rw [Ref.out1, S.e0, S.e1, S.e2, S.e3, S.e4, S.e5]
  refine (Ref.o1_at _ _ i j).trans ?_
  unfold wide Head.dkn
  refine Finset.sum_congr rfl fun y _ => ?_
  exact congrArg (fun s : EReal => s * _) (gs_eq _ _ _ _ _ _ _ _ (head_real S _ _) y _)

theorem eq2 (i : Fin 4096) (j : Fin 1024) : Cert.Reference2Ideal.Value.res_main_v80 m' c (ix2 i j) = wide (fun b h => (HD m c b h).dv) i j := by
  rw [Ref.out2, S.e0, S.e1, S.e2, S.e3, S.e5]
  refine (Ref.o2_at _ _ i j).trans ?_
  unfold wide Head.dv
  refine Finset.sum_congr rfl fun y _ => ?_
  refine (mul_comm (_ : EReal) _).trans ?_
  exact congrArg (fun s : EReal => s * _) (prb_eq _ _ _ _ (m ((c : Thread Cert.Kernel2Ideal.nD Cert.Kernel2Ideal.τ).loc Cert.Kernel2Ideal.main_arg4)) _ _ _ (head_real S _ _) y _)

theorem eq3 (h : Fin 8) (i : Fin 4096) (d : Fin 64) : Cert.Reference2Ideal.Value.res_main_v84 m' c (ix3 h i d) = cosQ m c h i d := by
  rw [Ref.out3, S.e0, S.e1, S.e2, S.e3, S.e4, S.e5, S.e6]
  refine (Ref.o3_at _ _ _ h i d).trans (congrArg (fun s : EReal => s * _) (Finset.sum_congr rfl fun y _ => ?_))
  exact congrArg (fun s : EReal => s * _) (gs_eq _ _ _ _ _ _ _ _ (head_real S _ _) _ y)

theorem eq4 (h : Fin 8) (i : Fin 4096) (d : Fin 64) : Cert.Reference2Ideal.Value.res_main_v88 m' c (ix3 h i d) = sinQ m c h i d := by
  rw [Ref.out4, S.e0, S.e1, S.e2, S.e3, S.e4, S.e5, S.e7]
  refine (Ref.o4_at _ _ _ h i d).trans (congrArg (fun s : EReal => s * _) (Finset.sum_congr rfl fun y _ => ?_))
  exact congrArg (fun s : EReal => s * _) (gs_eq _ _ _ _ _ _ _ _ (head_real S _ _) _ y)

theorem eq5 (i : Fin 4096) (d : Fin 64) : Cert.Reference2Ideal.Value.res_main_v89 m' c (ix2 i d) = keyR m c i d := by
  rw [Ref.out5, S.e0, S.e1, S.e2, S.e3, S.e4, S.e5]
  refine (Ref.o5_at _ _ i d).trans (Finset.sum_congr rfl fun h _ => Finset.sum_congr rfl fun y _ => ?_)
  exact congrArg (fun s : EReal => s * _) (gs_eq _ _ _ _ _ _ _ _ (head_real S _ _) y _)

end Claim

set_option maxHeartbeats 4000000 in
theorem algebraic : Cert.algebraic_Kernel2Ideal_Reference2Ideal_pre_finite_attn := by
  pair_intro
  · run_from Cert.Kernel2Ideal.Gen.run_main m g
  · have S : ∀ c, Same m m' c := fun c => by
      obtain ⟨h0, h1, h2, h3, h4, h5, h6, h7⟩ := hagree c
      obtain ⟨r0, r1, r2, r3, r4, r5⟩ := reals _ _ _ _ _ _ _ _ (hpre c)
      exact ⟨h0, h1, h2, h3, h4, h5, h6, h7, r0, r1, r2, r3, r4, r5⟩
    run_from Cert.Reference2Ideal.Value.run m' g'
    · rw [final9 m c]; funext j; idx_vars j
      exact eq0 (S c) _ _
    · rw [final10 m c]; funext j; idx_vars j
      exact eq1 (S c) _ _
    · rw [final11 m c]; funext j; idx_vars j
      exact eq2 (S c) _ _
    · rw [final12 m c]; funext j; idx_vars j
      exact eq3 (S c) _ _ _
    · rw [final13 m c]; funext j; idx_vars j
      exact eq4 (S c) _ _ _
    · rw [final14 m c]; funext j; idx_vars j
      exact eq5 (S c) _ _

end Cert.Attn

end
-- ==== Proof.Words.lean ====
/- The float words of the programs as rationals, and the hyperbolic form of the logistic function. -/
module

public import Idealize.ShloMosaic.Lib.Pointwise
public import Idealize.ShloMosaic.PureOps

@[expose] public section

noncomputable section

namespace Cert.Words

open Idealize.ShloMosaic

/-- The word of one half. -/
theorem half : Ideal.ofBits .f32 0x3F000000#32 = ((1 / 2 : ℝ) : EReal) := by
  simp [Ideal.ofBits, Ideal.ieee, -EReal.coe_mul]; norm_num

/-- The logistic function of a real number by the hyperbolic tangent of its half. -/
theorem real_logistic (x : ℝ) : 1 / 2 * (1 + Real.tanh (1 / 2 * x)) = (1 + Real.exp (-x))⁻¹ := by
  have hp := Real.exp_pos (1 / 2 * x)
  have hx : Real.exp (-x) = (Real.exp (1 / 2 * x))⁻¹ * (Real.exp (1 / 2 * x))⁻¹ := by
    rw [← Real.exp_neg, ← Real.exp_add]; ring_nf
  rw [hx, Real.tanh_eq_sinh_div_cosh, Real.sinh_eq, Real.cosh_eq, Real.exp_neg]
  field_simp
  ring

/-- `½ (1 + tanh (x / 2))` is the logistic function, at the infinities too. -/
theorem logistic (x : EReal) :
    ((1 / 2 : ℝ) : EReal) * (1 + Ideal.tanh (((1 / 2 : ℝ) : EReal) * x)) = Ideal.logistic x := by
  induction x with
  | bot =>
    rw [EReal.coe_mul_bot_of_pos (by norm_num), Ideal.logistic_bot, Ideal.tanh_bot]
    rw [← EReal.coe_one, ← EReal.coe_neg, ← EReal.coe_add, ← EReal.coe_mul]; norm_num
  | coe r =>
    rw [← EReal.coe_mul, Ideal.tanh_coe, ← EReal.coe_one, ← EReal.coe_add, ← EReal.coe_mul, Ideal.logistic_coe,
      real_logistic]
  | top =>
    rw [EReal.coe_mul_top_of_pos (by norm_num), Ideal.logistic_top]
    simp only [Ideal.tanh_top]
    rw [← EReal.coe_one, ← EReal.coe_add, ← EReal.coe_mul]; norm_num

/-- The word of minus one half. -/
theorem neg_half : Ideal.ofBits .f32 0xBF000000#32 = ((-(1 / 2) : ℝ) : EReal) := by
  simp [Ideal.ofBits, Ideal.ieee, -EReal.coe_mul]; norm_num

/-- The word of 1024. -/
theorem w1024 : Ideal.ofBits .f32 0x44800000#32 = ((1024 : ℝ) : EReal) := by
  simp [Ideal.ofBits, Ideal.ieee, -EReal.coe_mul]; norm_num

/-- The word of the norms' small constant is a positive real. -/
theorem eps : ∃ e : ℝ, 0 < e ∧ Ideal.ofBits .f32 0x358637BD#32 = (e : EReal) := by
  refine ⟨_, ?_, by simp [Ideal.ofBits, Ideal.ieee, -EReal.coe_mul]; rfl⟩
  norm_num

end Cert.Words

end
-- ==== Proof.Norm.lean ====
/- The gradient of the root-mean-square norm over 1024 columns, in the kernels' form and in the form of the differentiated norm: equal at reals. -/
module

public import proofs.«01_k».proof.Proof.Words
public import proofs.«01_k».proof.Proof.Finite

@[expose] public section

noncomputable section

open Idealize.ShloMosaic

namespace Cert.Norm

/-- The mean square plus the small constant. -/
def ms (x : Fin 1024 → EReal) : EReal :=
  Ideal.div (∑ i, x i * x i) (Ideal.ofBits .f32 0x44800000#32) + Ideal.ofBits .f32 0x358637BD#32

/-- One over the root of it. -/
def inv (x : Fin 1024 → EReal) : EReal := Ideal.rsqrt (ms x)

/-- The kernels' gradient: `y` is the incoming gradient times the norm's gain. -/
def gradK (x y : Fin 1024 → EReal) (j : Fin 1024) : EReal :=
  inv x * y j - x j * (inv x * inv x * inv x) * Ideal.div (∑ i, y i * x i) (Ideal.ofBits .f32 0x44800000#32)

/-- The share of the gradient that comes through the mean square, over one entry. -/
def through (x y : Fin 1024 → EReal) : EReal :=
  Ideal.div ((∑ i, x i * y i) * (Ideal.ofBits .f32 0xBF000000#32 * Ideal.div (inv x) (ms x))) (Ideal.ofBits .f32 0x44800000#32)

/-- The differentiated norm. -/
def gradR (x y : Fin 1024 → EReal) (j : Fin 1024) : EReal :=
  y j * inv x + x j * through x y + through x y * x j

/-- The mean square of reals is a positive real. -/
theorem ms_real (x : Fin 1024 → ℝ) : ∃ v : ℝ, 0 < v ∧ ms (fun i => (x i : EReal)) = v := by
  obtain ⟨e, he, hw⟩ := Words.eps
  refine ⟨(∑ i, x i * x i) * (1 / 1024) + e, ?_, ?_⟩
  · have : 0 ≤ ∑ i, x i * x i := Finset.sum_nonneg fun i _ => mul_self_nonneg _
    positivity
  · rw [ms, hw, Words.w1024, Ideal.div_coe (by norm_num)]
    simp only [← EReal.coe_mul, Finite.coe_sum, ← EReal.coe_add]

theorem inv_real (x : Fin 1024 → ℝ) {v : ℝ} (hv : 0 < v) (h : ms (fun i => (x i : EReal)) = v) :
    inv (fun i => (x i : EReal)) = ((Real.sqrt v)⁻¹ : ℝ) := by
  rw [inv, h, Ideal.rsqrt_coe, if_neg (by linarith), if_neg (by linarith)]

theorem inv_is_real (x : Fin 1024 → EReal) (hx : ∀ i, ∃ r : ℝ, x i = r) : ∃ r : ℝ, inv x = r := by
  obtain ⟨x, rfl⟩ := Finite.choose_real x hx
  obtain ⟨v, hv, h⟩ := ms_real x
  exact ⟨_, inv_real x hv h⟩

/-- The two forms agree at reals, and are real. -/
theorem grad_eq (x y : Fin 1024 → EReal) (hx : ∀ i, ∃ r : ℝ, x i = r) (hy : ∀ i, ∃ r : ℝ, y i = r) (j : Fin 1024) :
    gradK x y j = gradR x y j ∧ ∃ r : ℝ, gradK x y j = r := by
  obtain ⟨x, rfl⟩ := Finite.choose_real x hx
  obtain ⟨y, rfl⟩ := Finite.choose_real y hy
  obtain ⟨v, hv, h⟩ := ms_real x
  have hs : (∑ i, x i * y i) = ∑ i, y i * x i := Finset.sum_congr rfl fun i _ => mul_comm _ _
  have hr : (Real.sqrt v)⁻¹ * (Real.sqrt v)⁻¹ = 1 / v := by
    rw [← mul_inv, Real.mul_self_sqrt hv.le, one_div]
  have hk : gradK (fun i => (x i : EReal)) (fun i => (y i : EReal)) j
      = (((Real.sqrt v)⁻¹ * y j - x j * ((Real.sqrt v)⁻¹ * (Real.sqrt v)⁻¹ * (Real.sqrt v)⁻¹) * ((∑ i, y i * x i) * (1 / 1024)) : ℝ) : EReal) := by
    rw [gradK, inv_real x hv h, Words.w1024, Ideal.div_coe (by norm_num)]
    simp only [← EReal.coe_mul, Finite.coe_sum, ← EReal.coe_sub]
  refine ⟨?_, _, hk⟩
  rw [hk, gradR, through, inv_real x hv h, h, Words.w1024, Words.neg_half, Ideal.div_coe (by norm_num), Ideal.div_coe hv.ne']
  simp only [← EReal.coe_mul, Finite.coe_sum, ← EReal.coe_add]
  rw [hs, ← hr]
  congr 1
  ring

end Cert.Norm
-- ==== Proof.DactKernel.lean ====
/- The gradient of the down product and of the gate: the norm's gradient of a token, times the down weight, through the gate. -/
module

public import proofs.«01_k».proof.Defs
public import proofs.«01_k».proof.Proof.Gen.Kernel3Ideal.Frame
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dact

/-- The down product of token `n` at model column `d`. -/
def down (g u : FVec Ideal Cert.Kernel3Ideal.S4096x2816 .f32) (w : FVec Ideal Cert.Kernel3Ideal.S2816x1024 .f32)
    (n : Fin 4096) (d : Fin 1024) : EReal :=
  ∑ k : Fin 2816, g (ix2 n k) * Ideal.div 1 (1 + Ideal.exp (-g (ix2 n k))) * u (ix2 n k) * w (ix2 k d)

/-- Half the incoming gradient times the norm's gain. -/
def dy (o : FVec Ideal Cert.Kernel3Ideal.S4096x1024 .f32) (p : FVec Ideal Cert.Kernel3Ideal.S1024 .f32)
    (n : Fin 4096) (d : Fin 1024) : EReal :=
  o (ix2 n d) * Ideal.ofBits .f32 0x3F000000#32 * p (ix1 d)

section Kernel
open Cert.Kernel3Ideal Cert.Kernel3Ideal.Gen

variable (m : (ℓ : Loc nD τ sig) → Buf (Elt Ideal) ℓ)

theorem idx : ∀ t : Fin cfg0.N, win0_0.index t = ![t.val, 0]
    ∧ win0_1.index t = ![t.val, 0]
    ∧ win0_2.index t = ![0, 0]
    ∧ win0_3.index t = ![0, 0, 0]
    ∧ win0_4.index t = ![0, t.val, 0]
    ∧ win0_5.index t = ![0, t.val, 0]
    ∧ win0_6.index t = ![t.val, 0]
    ∧ win0_7.index t = ![0, t.val, 0]
    ∧ win0_8.index t = ![0, t.val, 0]
    ∧ win0_9.index t = ![0, 0] :=
  (by decide +kernel : ∀ t : Fin grid0.N, _)

theorem lt_t (t : Fin cfg0.N) : t.val < 16 := lt_of_lt_of_eq t.isLt (show cfg0.N = 16 from N_0)

theorem inside (t : Fin cfg0.N) (r : Fin 256) : t.val * 256 + r.val < 4096 := by
  have := lt_t t
  omega

/-- The down product of the launch. -/
abbrev X (c : Dev nD) (n : Fin 4096) : Fin 1024 → EReal :=
  down (m ((c : Thread nD τ).loc main_arg0)) (m ((c : Thread nD τ).loc main_arg1)) (m ((c : Thread nD τ).loc main_arg2)) n

/-- The gradient that reaches the norm. -/
abbrev Y (c : Dev nD) (n : Fin 4096) : Fin 1024 → EReal :=
  dy (m ((c : Thread nD τ).loc main_arg4)) (m ((c : Thread nD τ).loc main_arg3)) n

/-- The host's down product, computed. -/
theorem host (c : Dev nD) : V m c main_v2 = fun j : S4096x1024.Idx => X m c (j 0) (j 1) := by
  have e : V m c main_v2 = Host.dotGeneral (F := Ideal) (φ₁ := .f32) (φ₂ := .f32) dot_S4096x2816_S2816x1024_S4096x1024_1_0_0_1_n_n none
      (mulf (mulf (m ((c : Thread nD τ).loc main_arg0)) (Host.divf (broadcastInDim S4096x2816 ![] bcast_S_S4096x2816 (constant S_ .f32 0x3F800000#32))
        (addf (broadcastInDim S4096x2816 ![] bcast_S_S4096x2816 (constant S_ .f32 0x3F800000#32)) (Host.exp (Host.negf (m ((c : Thread nD τ).loc main_arg0)))))))
        (m ((c : Thread nD τ).loc main_arg1))) (m ((c : Thread nD τ).loc main_arg2)) := by
    simp only [V, hostOps0, hostOps0_1, List.flatten_cons, List.flatten_nil, List.append_nil, List.cons_append, List.nil_append]
    entry_read
    rfl
  rw [e]
  funext j
  idx_vars j
  pointwise [down]

theorem read0 (c : Dev nD) (t : Fin cfg0.N) (i : Fin 256) (j : Fin 1024) :
    iblk m c 0 t (ix2 i j) = X m c ⟨t.val * 256 + i, inside t i⟩ j := by
  have e : iblk m c 0 t (ix2 i j) = V m c main_v2 (ix2 ⟨t.val * 256 + i, inside t i⟩ j) := by blk_point [iblk, idx t]
  rw [e, host]
  rfl

theorem read1 (c : Dev nD) (t : Fin cfg0.N) (i : Fin 256) (j : Fin 1024) :
    iblk m c 1 t (ix2 i j) = m ((c : Thread nD τ).loc main_arg4) (ix2 ⟨t.val * 256 + i, inside t i⟩ j) := by
  blk_point [iblk, V, idx t]

theorem read2 (c : Dev nD) (t : Fin cfg0.N) (j : Fin 1024) :
    iblk m c 2 t (ix2 0 j) = m ((c : Thread nD τ).loc main_arg3) (ix1 j) := by
  have e : iblk m c 2 t (ix2 0 j) = V m c main_v3 (ix2 0 j) := by blk_point [iblk, idx t]
  rw [e]
  simp only [V, hostOps0, hostOps0_1, List.flatten_cons, List.flatten_nil, List.append_nil, List.cons_append, List.nil_append]
  entry_read
  pointwise []

theorem read3 (c : Dev nD) (t : Fin cfg0.N) (s : Fin 4) (i : Fin 704) (j : Fin 1024) :
    iblk m c 3 t (ix3 s i j) = m ((c : Thread nD τ).loc main_arg2) (ix2 ⟨(s : ℕ) * 704 + i, by omega⟩ j) := by
  have e : iblk m c 3 t (ix3 s i j) = V m c main_v5 (ix3 s i j) := by blk_point [iblk, idx t]
  rw [e]
  simp only [V, hostOps0, hostOps0_1, List.flatten_cons, List.flatten_nil, List.append_nil, List.cons_append, List.nil_append]
  entry_read
  pointwise []

theorem read4 (c : Dev nD) (t : Fin cfg0.N) (s : Fin 4) (i : Fin 256) (j : Fin 704) :
    iblk m c 4 t (ix3 s i j) = m ((c : Thread nD τ).loc main_arg0) (ix2 ⟨t.val * 256 + i, inside t i⟩ ⟨(s : ℕ) * 704 + j, by omega⟩) := by
  have e : iblk m c 4 t (ix3 s i j) = V m c main_v8 (ix3 s ⟨t.val * 256 + i, inside t i⟩ j) := by blk_point [iblk, idx t]
  rw [e]
  simp only [V, hostOps0, hostOps0_1, List.flatten_cons, List.flatten_nil, List.append_nil, List.cons_append, List.nil_append]
  entry_read
  pointwise []

theorem read5 (c : Dev nD) (t : Fin cfg0.N) (s : Fin 4) (i : Fin 256) (j : Fin 704) :
    iblk m c 5 t (ix3 s i j) = m ((c : Thread nD τ).loc main_arg1) (ix2 ⟨t.val * 256 + i, inside t i⟩ ⟨(s : ℕ) * 704 + j, by omega⟩) := by
  have e : iblk m c 5 t (ix3 s i j) = V m c main_v11 (ix3 s ⟨t.val * 256 + i, inside t i⟩ j) := by blk_point [iblk, idx t]
  rw [e]
  simp only [V, hostOps0, hostOps0_1, List.flatten_cons, List.flatten_nil, List.append_nil, List.cons_append, List.nil_append]
  entry_read
  pointwise []

/-- The norm's gradient of a tile of tokens. -/
theorem tile (c : Dev nD) (t : Fin cfg0.N) (i : Fin 256) (j : Fin 1024) :
    k0_pay10 (F := Ideal) (iblk m c 0 t) (iblk m c 2 t) (iblk m c 1 t) (ix2 i j)
      = Norm.gradK (X m c ⟨t.val * 256 + i, inside t i⟩) (Y m c ⟨t.val * 256 + i, inside t i⟩) j := by
  pointwise [k0_pay10, k0_pay6, k0_pay7, k0_pay8]
  simp only [read0, read1, read2]
  rfl

theorem point6 (c : Dev nD) (t : Fin cfg0.N) (y) :
    k0_pay10 (F := Ideal) (iblk m c 0 t) (iblk m c 2 t) (iblk m c 1 t) y
      = (fun j : S4096x1024.Idx => Norm.gradK (X m c (j 0)) (Y m c (j 0)) (j 1)) (((cfg0.win 6).blk t).view.emb y) := by
  idx_vars y
  rw [tile m c t]
  have e0 : ((View.whole main_v12_0).slice (win0_6.rect t)).emb (ix2 y0 y1) 0 = (⟨t.val * 256 + y0, inside t y0⟩ : Fin 4096) := Fin.ext (by blk_point [idx t])
  have e1 : ((View.whole main_v12_0).slice (win0_6.rect t)).emb (ix2 y0 y1) 1 = (y1 : Fin 1024) := Fin.ext (by blk_point [idx t])
  exact (congr (congrArg (fun n => Norm.gradK (X m c n) (Y m c n)) e0) e1).symm

theorem final6 (c : Dev nD) : (dats m 0 c).arrAt 6 (cfgs 0).N = fun j => Norm.gradK (X m c (j 0)) (Y m c (j 0)) (j 1) := by
  refine (dats m 0 c).arrAt_eq_of_covers 6 _ (by decide +kernel) fun t hf y => ?_
  blk_simp; rw [after0_6]
  have ht : t.val < 16 := lt_t t
  by_cases h : t.val % 16 = 0
  · rw [outsAt0_A m c t h (by omega)]
    frame_out
    exact point6 m c t y
  · rw [outsAt0_B m c t h (by omega)]
    frame_out
    exact point6 m c t y

/-- The gradient that reaches the gate's product. -/
def back (c : Dev nD) (s : Fin 4) (n : Fin 4096) (f : Fin 704) : EReal :=
  ∑ x : Fin 1024, Norm.gradK (X m c n) (Y m c n) x * m ((c : Thread nD τ).loc main_arg2) (ix2 ⟨(s : ℕ) * 704 + f, by omega⟩ x)

/-- The gate's argument. -/
def gt (c : Dev nD) (s : Fin 4) (n : Fin 4096) (f : Fin 704) : EReal :=
  m ((c : Thread nD τ).loc main_arg0) (ix2 n ⟨(s : ℕ) * 704 + f, by omega⟩)

/-- The gate's gradient. -/
def dgate (c : Dev nD) (s : Fin 4) (n : Fin 4096) (f : Fin 704) : EReal :=
  back m c s n f * m ((c : Thread nD τ).loc main_arg1) (ix2 n ⟨(s : ℕ) * 704 + f, by omega⟩)
    * (Ideal.logistic (gt m c s n f) * (1 + gt m c s n f * (1 - Ideal.logistic (gt m c s n f))))

/-- The up product's gradient. -/
def dup (c : Dev nD) (s : Fin 4) (n : Fin 4096) (f : Fin 704) : EReal :=
  back m c s n f * (gt m c s n f * Ideal.logistic (gt m c s n f))

/-- The kernel's reads of a tile of the gate's argument and of the up product. -/
def rd4 (c : Dev nD) (t : Fin cfg0.N) (s : Fin 4) (i : Fin 256) (f : Fin 704) : EReal := iblk m c 4 t (ix3 s i f)
def rd5 (c : Dev nD) (t : Fin cfg0.N) (s : Fin 4) (i : Fin 256) (f : Fin 704) : EReal := iblk m c 5 t (ix3 s i f)

theorem part7 (c : Dev nD) (t : Fin cfg0.N) (s : Fin 4) (k : ℕ) (hk : (s : ℕ) = k) (v : EReal) (i : Fin 256) (f : Fin 704)
    (y : ((cfg0.win 7).xblock (cfg0.grid.coords t)).Idx)
    (h0 : (y 0).val = k) (h1 : (y 1).val = i) (h2 : (y 2).val = f)
    (hv : v = (∑ x, k0_pay10 (F := Ideal) (iblk m c 0 t) (iblk m c 2 t) (iblk m c 1 t) (ix2 i x) * iblk m c 3 t (ix3 s f x)) *
        rd5 m c t s i f *
      (Ideal.ofBits FTy.f32 0x3F000000#32 * (1 + Ideal.tanh (Ideal.ofBits FTy.f32 0x3F000000#32 * rd4 m c t s i f)) *
        (1 + rd4 m c t s i f *
            (1 - Ideal.ofBits FTy.f32 0x3F000000#32 * (1 + Ideal.tanh (Ideal.ofBits FTy.f32 0x3F000000#32 * rd4 m c t s i f)))))) :
    v = (fun j : S4x4096x704.Idx => dgate m c (j 0) (j 1) (j 2)) (((cfg0.win 7).blk t).view.emb y) := by
  have e0 : ((View.whole main_v12_1).slice (win0_7.rect t)).emb y 0 = (s : Fin 4) := Fin.ext (Eq.trans (b := (y 0).val) (by blk_point [idx t]) (h0.trans hk.symm))
  have e1 : ((View.whole main_v12_1).slice (win0_7.rect t)).emb y 1 = (⟨t.val * 256 + i, inside t i⟩ : Fin 4096) := Fin.ext (Eq.trans (b := t.val * 256 + (y 1).val) (by blk_point [idx t]) (congrArg _ h1))
  have e2 : ((View.whole main_v12_1).slice (win0_7.rect t)).emb y 2 = (f : Fin 704) := Fin.ext (Eq.trans (b := (y 2).val) (by blk_point [idx t]) h2)
  refine Eq.trans ?_ (congr (congr (congrArg (dgate m c) e0) e1) e2).symm
  rw [hv]
  simp only [rd4, rd5, tile, read3, read4, read5, Words.half, Words.logistic]
  rfl

theorem part8 (c : Dev nD) (t : Fin cfg0.N) (s : Fin 4) (k : ℕ) (hk : (s : ℕ) = k) (v : EReal) (i : Fin 256) (f : Fin 704)
    (y : ((cfg0.win 8).xblock (cfg0.grid.coords t)).Idx)
    (h0 : (y 0).val = k) (h1 : (y 1).val = i) (h2 : (y 2).val = f)
    (hv : v = (∑ x, k0_pay10 (F := Ideal) (iblk m c 0 t) (iblk m c 2 t) (iblk m c 1 t) (ix2 i x) * iblk m c 3 t (ix3 s f x)) *
      (rd4 m c t s i f *
        (Ideal.ofBits FTy.f32 0x3F000000#32 * (1 + Ideal.tanh (Ideal.ofBits FTy.f32 0x3F000000#32 * rd4 m c t s i f))))) :
    v = (fun j : S4x4096x704.Idx => dup m c (j 0) (j 1) (j 2)) (((cfg0.win 8).blk t).view.emb y) := by
  have e0 : ((View.whole main_v12_2).slice (win0_8.rect t)).emb y 0 = (s : Fin 4) := Fin.ext (Eq.trans (b := (y 0).val) (by blk_point [idx t]) (h0.trans hk.symm))
  have e1 : ((View.whole main_v12_2).slice (win0_8.rect t)).emb y 1 = (⟨t.val * 256 + i, inside t i⟩ : Fin 4096) := Fin.ext (Eq.trans (b := t.val * 256 + (y 1).val) (by blk_point [idx t]) (congrArg _ h1))
  have e2 : ((View.whole main_v12_2).slice (win0_8.rect t)).emb y 2 = (f : Fin 704) := Fin.ext (Eq.trans (b := (y 2).val) (by blk_point [idx t]) h2)
  refine Eq.trans ?_ (congr (congr (congrArg (dup m c) e0) e1) e2).symm
  rw [hv]
  simp only [rd4, rd5, tile, read3, read4, read5, Words.half, Words.logistic]
  rfl

set_option maxHeartbeats 1600000 in
theorem final7 (c : Dev nD) : (dats m 0 c).arrAt 7 (cfgs 0).N = fun j => dgate m c (j 0) (j 1) (j 2) := by
  refine (dats m 0 c).arrAt_eq_of_covers 7 _ (by decide +kernel) fun t hf y => ?_
  blk_simp; rw [after0_7]
  have ht : t.val < 16 := lt_t t
  by_cases h : t.val % 16 = 0
  · rw [outsAt0_A m c t h (by omega)]
    frame_out
    canon_tiles x h
    · idx_vars x
      pointwise [k0_pay4, k0_pay1, k0_pay2, k0_pay3]
      exact part7 m c t 3 3 rfl _ x1 x2 y (by omega) h1 h2 rfl
    · idx_vars x
      pointwise [k0_pay26, k0_pay23, k0_pay24, k0_pay25]
      exact part7 m c t 2 2 rfl _ x1 x2 y (by omega) h1 h2 rfl
    · idx_vars x
      pointwise [k0_pay21, k0_pay18, k0_pay19, k0_pay20]
      exact part7 m c t 1 1 rfl _ x1 x2 y (by omega) h1 h2 rfl
    · idx_vars x
      pointwise [k0_pay15, k0_pay12, k0_pay13, k0_pay14]
      exact part7 m c t 0 0 rfl _ x1 x2 y (by omega) h1 h2 rfl
  · rw [outsAt0_B m c t h (by omega)]
    frame_out
    canon_tiles x h
    · idx_vars x
      pointwise [k0_pay4, k0_pay1, k0_pay2, k0_pay3]
      exact part7 m c t 3 3 rfl _ x1 x2 y (by omega) h1 h2 rfl
    · idx_vars x
      pointwise [k0_pay26, k0_pay23, k0_pay24, k0_pay25]
      exact part7 m c t 2 2 rfl _ x1 x2 y (by omega) h1 h2 rfl
    · idx_vars x
      pointwise [k0_pay21, k0_pay18, k0_pay19, k0_pay20]
      exact part7 m c t 1 1 rfl _ x1 x2 y (by omega) h1 h2 rfl
    · idx_vars x
      pointwise [k0_pay15, k0_pay12, k0_pay13, k0_pay14]
      exact part7 m c t 0 0 rfl _ x1 x2 y (by omega) h1 h2 rfl

set_option maxHeartbeats 1600000 in
theorem final8 (c : Dev nD) : (dats m 0 c).arrAt 8 (cfgs 0).N = fun j => dup m c (j 0) (j 1) (j 2) := by
  refine (dats m 0 c).arrAt_eq_of_covers 8 _ (by decide +kernel) fun t hf y => ?_
  blk_simp; rw [after0_8]
  have ht : t.val < 16 := lt_t t
  by_cases h : t.val % 16 = 0
  · rw [outsAt0_A m c t h (by omega)]
    frame_out
    canon_tiles x h
    · idx_vars x
      pointwise [k0_pay5, k0_pay1, k0_pay2, k0_pay3]
      exact part8 m c t 3 3 rfl _ x1 x2 y (by omega) h1 h2 rfl
    · idx_vars x
      pointwise [k0_pay27, k0_pay23, k0_pay24, k0_pay25]
      exact part8 m c t 2 2 rfl _ x1 x2 y (by omega) h1 h2 rfl
    · idx_vars x
      pointwise [k0_pay22, k0_pay18, k0_pay19, k0_pay20]
      exact part8 m c t 1 1 rfl _ x1 x2 y (by omega) h1 h2 rfl
    · idx_vars x
      pointwise [k0_pay17, k0_pay16, k0_pay12, k0_pay13, k0_pay14]
      exact part8 m c t 0 0 rfl _ x1 x2 y (by omega) h1 h2 rfl
  · rw [outsAt0_B m c t h (by omega)]
    frame_out
    canon_tiles x h
    · idx_vars x
      pointwise [k0_pay5, k0_pay1, k0_pay2, k0_pay3]
      exact part8 m c t 3 3 rfl _ x1 x2 y (by omega) h1 h2 rfl
    · idx_vars x
      pointwise [k0_pay27, k0_pay23, k0_pay24, k0_pay25]
      exact part8 m c t 2 2 rfl _ x1 x2 y (by omega) h1 h2 rfl
    · idx_vars x
      pointwise [k0_pay22, k0_pay18, k0_pay19, k0_pay20]
      exact part8 m c t 1 1 rfl _ x1 x2 y (by omega) h1 h2 rfl
    · idx_vars x
      pointwise [k0_pay17, k0_pay16, k0_pay12, k0_pay13, k0_pay14]
      exact part8 m c t 0 0 rfl _ x1 x2 y (by omega) h1 h2 rfl

/-- One token's share of the gain's gradient. -/
def dgain (o : FVec Ideal S4096x1024 .f32) (x : Fin 4096 → Fin 1024 → EReal) (n : Fin 4096) (d : Fin 1024) : EReal :=
  o (ix2 n d) * Ideal.ofBits .f32 0x3F000000#32 * x n d * Norm.inv (x n)

/-- The gain's gradient of the launch. -/
abbrev DGAIN (c : Dev nD) : Fin 4096 → Fin 1024 → EReal := dgain (m ((c : Thread nD τ).loc main_arg4)) (X m c)

/-- A tile's sum of it. -/
def tsum (c : Dev nD) (t : Fin cfg0.N) (j : Fin 1024) : EReal := ∑ i : Fin 256, DGAIN m c ⟨t.val * 256 + i, inside t i⟩ j

theorem gain (c : Dev nD) (t : Fin cfg0.N) (o : Fin 1) (j : Fin 1024) :
    k0_pay9 (F := Ideal) (iblk m c 0 t) (iblk m c 1 t) (ix2 o j) = tsum m c t j := by
  pointwise [k0_pay9, k0_pay6, k0_pay7, k0_pay8]
  simp only [read0, read1]
  rfl

/-- The whole sum. -/
def gsum (c : Dev nD) (j : Fin 1024) : EReal := ∑ n : Fin 4096, DGAIN m c n j

theorem final9 (c : Dev nD) : (dats m 0 c).arrAt 9 (cfgs 0).N = fun j : S1x1024.Idx => gsum m c (j 1) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => (0 : EReal))
    (fun t (j : S1x1024.Idx) => tsum m c t (j 1))
    (fun t h j => by
      have ht := lt_t t
      rw [outsAt0_A m c t h (by omega)]; frame_out; idx_vars j; rw [gain m c t, zero_add])
    (fun t h j => by
      have ht := lt_t t
      rw [outsAt0_B m c t h (by omega)]; frame_out; idx_vars j; pointwise [k0_pay11]; rw [gain m c t])
    (le_of_eq N_0) t0_15 rfl j, zero_add]
  idx_vars j
  unfold gsum tsum
  rw [Fin.sum_univ_tiles 16 256 rfl]
  rfl
end Kernel

end Cert.Dact

end
-- ==== Proof.DactRef.lean ====
/- What the differentiated reference of the same gradients computes, entry by entry. -/
module

public import proofs.«01_k».proof.Defs
public import proofs.«01_k».proof.Proof.Gen.Reference3Ideal.Run
public import proofs.«01_k».proof.Proof.DactKernel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dact

section Reference
open Cert.Reference3Ideal Cert.Reference3Ideal.Gen Cert.Reference3Ideal.Value

variable (m' : (ℓ : Loc nD τ sig) → Buf (Elt Ideal) ℓ)

/-- The norm's gradient, as the reference composes it. -/
theorem ref0 (c : Dev nD) (n : Fin 4096) (d : Fin 1024) : res_main_v47 m' c (ix2 n d)
    = Norm.gradR (down (m' ((c : Thread nD τ).loc main_arg0)) (m' ((c : Thread nD τ).loc main_arg1)) (m' ((c : Thread nD τ).loc main_arg2)) n)
        (fun d => Ideal.ofBits .f32 0x3F000000#32 * m' ((c : Thread nD τ).loc main_arg4) (ix2 n d) * m' ((c : Thread nD τ).loc main_arg3) (ix1 d)) d := by
  have hd : ∀ d, down (m' ((c : Thread nD τ).loc main_arg0)) (m' ((c : Thread nD τ).loc main_arg1)) (m' ((c : Thread nD τ).loc main_arg2)) n d
      = Host.dotGeneral (F := Ideal) (φ₁ := .f32) (φ₂ := .f32) dot_S4096x2816_S2816x1024_S4096x1024_1_0_0_1_n_n none
      (mulf (mulf (m' ((c : Thread nD τ).loc main_arg0)) (Host.divf (broadcastInDim S4096x2816 ![] bcast_S_S4096x2816 (constant S_ .f32 0x3F800000#32))
        (addf (broadcastInDim S4096x2816 ![] bcast_S_S4096x2816 (constant S_ .f32 0x3F800000#32)) (Host.exp (Host.negf (m' ((c : Thread nD τ).loc main_arg0)))))))
        (m' ((c : Thread nD τ).loc main_arg1))) (m' ((c : Thread nD τ).loc main_arg2)) (ix2 n d) := by
    intro d
    pointwise [down]
  rw [funext hd]
  unfold res_main_v47
  generalize Host.dotGeneral (F := Ideal) dot_S4096x2816_S2816x1024_S4096x1024_1_0_0_1_n_n none _ _ = G
  pointwise []
  simp only [Fin.sum_univ_one]
  rfl

/-- The norm's gradient of the reference at one entry. -/
def DF (c : Dev nD) (n : Fin 4096) (d : Fin 1024) : EReal := res_main_v47 m' c (ix2 n d)

/-- A gate's gradient in the differentiated form. -/
def dsilu (b u g : EReal) : EReal :=
  b * u * Ideal.logistic g + g * (b * u) * (Ideal.logistic g * (1 - Ideal.logistic g))

theorem ref1 (c : Dev nD) (s : Fin 4) (n : Fin 4096) (f : Fin 704) : res_main_v50 m' c (ix3 s n f)
    = dsilu (∑ x : Fin 1024, DF m' c n x * m' ((c : Thread nD τ).loc main_arg2) (ix2 ⟨(s : ℕ) * 704 + f, by omega⟩ x))
        (m' ((c : Thread nD τ).loc main_arg1) (ix2 n ⟨(s : ℕ) * 704 + f, by omega⟩))
        (m' ((c : Thread nD τ).loc main_arg0) (ix2 n ⟨(s : ℕ) * 704 + f, by omega⟩)) := by
  unfold res_main_v50 DF
  generalize hG : addf (F := Ideal) (s := S4096x1024) (φ := .f32) _ _ = G
  have hr : res_main_v47 m' c = truncf (F := Ideal) (φ := .f32) .bf16 G := by rw [← hG]; rfl
  clear hG
  rw [hr]
  pointwise [dsilu]
  rfl

theorem ref2 (c : Dev nD) (s : Fin 4) (n : Fin 4096) (f : Fin 704) : res_main_v53 m' c (ix3 s n f)
    = (fun (b g : EReal) => g * Ideal.logistic g * b)
        (∑ x : Fin 1024, DF m' c n x * m' ((c : Thread nD τ).loc main_arg2) (ix2 ⟨(s : ℕ) * 704 + f, by omega⟩ x))
        (m' ((c : Thread nD τ).loc main_arg0) (ix2 n ⟨(s : ℕ) * 704 + f, by omega⟩)) := by
  unfold res_main_v53 DF
  generalize hG : addf (F := Ideal) (s := S4096x1024) (φ := .f32) _ _ = G
  have hr : res_main_v47 m' c = truncf (F := Ideal) (φ := .f32) .bf16 G := by rw [← hG]; rfl
  clear hG
  rw [hr]
  pointwise []
  rfl

/-- The down product as the reference's operations spell it. -/
def downV (g u : FVec Ideal S4096x2816 .f32) (w : FVec Ideal S2816x1024 .f32) : FVec Ideal S4096x1024 .f32 :=
  Host.dotGeneral (F := Ideal) (φ₁ := .f32) (φ₂ := .f32) dot_S4096x2816_S2816x1024_S4096x1024_1_0_0_1_n_n none
      (mulf (mulf g (Host.divf (broadcastInDim S4096x2816 ![] bcast_S_S4096x2816 (constant S_ .f32 0x3F800000#32))
        (addf (broadcastInDim S4096x2816 ![] bcast_S_S4096x2816 (constant S_ .f32 0x3F800000#32)) (Host.exp (Host.negf g)))))
        u) w

theorem downV_eq (g u : FVec Ideal S4096x2816 .f32) (w : FVec Ideal S2816x1024 .f32) (n : Fin 4096) (d : Fin 1024) :
    downV g u w (ix2 n d) = down g u w n d := by
  unfold downV
  pointwise [down]

/-- The gain's gradient over any down product. -/
theorem ref3 (G o : FVec Ideal S4096x1024 .f32) (j : Fin 1024) (k : Fin 1) :
    shapeCast S1x1024
      (Host.reduceAdd
        (shapeCast S1x1024
          (Host.reduceAdd
            (mulf
              (mulf G
                (broadcastInDim S4096x1024 ![0, 1] bcast_S4096x1_S4096x1024_0_1
                  (Host.rsqrt
                    (addf
                      (Host.divf
                        (broadcastInDim S4096x1 ![0] bcast_S4096_S4096x1_0
                          (Host.reduceAdd (mulf G G) (constant S_ .f32 0#32) reducesTo_S4096x1024_S4096_d1 h_S_))
                        (broadcastInDim S4096x1 ![] bcast_S_S4096x1 (constant S_ .f32 1149239296#32)))
                      (broadcastInDim S4096x1 ![] bcast_S_S4096x1 (constant S_ .f32 897988541#32))))))
              (mulf (broadcastInDim S4096x1024 ![] bcast_S_S4096x1024 (constant S_ .f32 1056964608#32)) o))
            (constant S_ .f32 0#32) reducesTo_S4096x1024_S1024_d0 h_S_)
          shapeCasts_S1024_S1x1024)
        (constant S_ .f32 0#32) reducesTo_S1x1024_S1024_d0 h_S_)
      shapeCasts_S1024_S1x1024 (ix2 k j)
    = ∑ n : Fin 4096, G (ix2 n j) * Norm.inv (fun d => G (ix2 n d)) * (Ideal.ofBits .f32 0x3F000000#32 * o (ix2 n j)) := by
  pointwise []
  simp only [Fin.sum_univ_one]
  rfl

end Reference

end Cert.Dact

end
-- ==== Proof.Dact.lean ====
/- The claim of the down product's and the gate's gradients: the kernel's form and the differentiated reference agree at real arrays. -/
module

public import proofs.«01_k».proof.Defs
public import proofs.«01_k».proof.Proof.Gen.Kernel3Ideal.Frame
public import proofs.«01_k».proof.Proof.Gen.Reference3Ideal.Run
public import proofs.«01_k».proof.Proof.Gen.Pre_finite_dact
public import proofs.«01_k».proof.Proof.DactRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dact

/-- The arrays the precondition speaks of are real. -/
theorem reals (a0 a1 : FVec Ideal Cert.Kernel3Ideal.S4096x2816 .f32) (a2 : FVec Ideal Cert.Kernel3Ideal.S2816x1024 .f32)
    (a3 : FVec Ideal Cert.Kernel3Ideal.S1024 .f32) (a4 : FVec Ideal Cert.Kernel3Ideal.S4096x1024 .f32)
    (h : (haveI := Cert.Pre_finite_dact.Gen.facts; Cert.Pre_finite_dact.fn (F := Ideal) a0 a1 a2 a3 a4) = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ ∀ i, ∃ r : ℝ, a4 i = r := by
  have h := congrFun h ix0
  simp only [Cert.Pre_finite_dact.fn, Cert.Pre_finite_dact.fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all_real a0 _ (fun _ => Finite.inf_word) _ _ _ _ h0, Finite.all_real a1 _ (fun _ => Finite.inf_word) _ _ _ _ h1,
    Finite.all_real a2 _ (fun _ => Finite.inf_word) _ _ _ _ h2, Finite.all_real a3 _ (fun _ => Finite.inf_word) _ _ _ _ h3,
    Finite.all_real a4 _ (fun _ => Finite.inf_word) _ _ _ _ h4⟩

/-- The gate's gradient, factored and differentiated, at reals. -/
theorem gate_eq {b u g : EReal} (hb : ∃ r : ℝ, b = r) (hu : ∃ r : ℝ, u = r) (hg : ∃ r : ℝ, g = r) :
    b * u * (Ideal.logistic g * (1 + g * (1 - Ideal.logistic g))) = dsilu b u g := by
  obtain ⟨b, rfl⟩ := hb; obtain ⟨u, rfl⟩ := hu; obtain ⟨g, rfl⟩ := hg
  obtain ⟨s, hs⟩ := Finite.real_logistic ⟨g, rfl⟩
  rw [dsilu, hs, ← EReal.coe_one]
  simp only [← EReal.coe_mul, ← EReal.coe_add, ← EReal.coe_sub]
  congr 1
  ring

/-- The down product of reals is real. -/
theorem down_real (g u : FVec Ideal Cert.Kernel3Ideal.S4096x2816 .f32) (w : FVec Ideal Cert.Kernel3Ideal.S2816x1024 .f32)
    (hg : ∀ i, ∃ r : ℝ, g i = r) (hu : ∀ i, ∃ r : ℝ, u i = r) (hw : ∀ i, ∃ r : ℝ, w i = r) (n : Fin 4096) (d : Fin 1024) :
    ∃ r : ℝ, down g u w n d = r :=
  Finite.real_sum _ _ fun k => Finite.real_mul (Finite.real_mul (Finite.real_mul (hg _) (Finite.real_logistic (hg _))) (hu _)) (hw _)

/-- Half the incoming gradient times the gain is real. -/
theorem dy_real (o : FVec Ideal Cert.Kernel3Ideal.S4096x1024 .f32) (p : FVec Ideal Cert.Kernel3Ideal.S1024 .f32)
    (ho : ∀ i, ∃ r : ℝ, o i = r) (hp : ∀ i, ∃ r : ℝ, p i = r) (n : Fin 4096) (d : Fin 1024) : ∃ r : ℝ, dy o p n d = r :=
  Finite.real_mul (Finite.real_mul (ho _) ⟨_, Words.half⟩) (hp _)

theorem dy_comm (o : FVec Ideal Cert.Kernel3Ideal.S4096x1024 .f32) (p : FVec Ideal Cert.Kernel3Ideal.S1024 .f32) (n : Fin 4096) :
    (fun d => Ideal.ofBits .f32 0x3F000000#32 * o (ix2 n d) * p (ix1 d)) = dy o p n := by
  funext d
  rw [dy, mul_comm (o (ix2 n d))]

section Claim

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The two launches hold the same arrays, and these are real. -/
structure Same (c : Dev Cert.Kernel3Ideal.nD) : Prop where
  e0 : m' ((c : Thread Cert.Reference3Ideal.nD Cert.Reference3Ideal.τ).loc Cert.Reference3Ideal.main_arg0) = m ((c : Thread Cert.Kernel3Ideal.nD Cert.Kernel3Ideal.τ).loc Cert.Kernel3Ideal.main_arg0)
  e1 : m' ((c : Thread Cert.Reference3Ideal.nD Cert.Reference3Ideal.τ).loc Cert.Reference3Ideal.main_arg1) = m ((c : Thread Cert.Kernel3Ideal.nD Cert.Kernel3Ideal.τ).loc Cert.Kernel3Ideal.main_arg1)
  e2 : m' ((c : Thread Cert.Reference3Ideal.nD Cert.Reference3Ideal.τ).loc Cert.Reference3Ideal.main_arg2) = m ((c : Thread Cert.Kernel3Ideal.nD Cert.Kernel3Ideal.τ).loc Cert.Kernel3Ideal.main_arg2)
  e3 : m' ((c : Thread Cert.Reference3Ideal.nD Cert.Reference3Ideal.τ).loc Cert.Reference3Ideal.main_arg3) = m ((c : Thread Cert.Kernel3Ideal.nD Cert.Kernel3Ideal.τ).loc Cert.Kernel3Ideal.main_arg3)
  e4 : m' ((c : Thread Cert.Reference3Ideal.nD Cert.Reference3Ideal.τ).loc Cert.Reference3Ideal.main_arg4) = m ((c : Thread Cert.Kernel3Ideal.nD Cert.Kernel3Ideal.τ).loc Cert.Kernel3Ideal.main_arg4)
  r0 : Finite.AllReal (s := Cert.Kernel3Ideal.S4096x2816) (m ((c : Thread Cert.Kernel3Ideal.nD Cert.Kernel3Ideal.τ).loc Cert.Kernel3Ideal.main_arg0))
  r1 : Finite.AllReal (s := Cert.Kernel3Ideal.S4096x2816) (m ((c : Thread Cert.Kernel3Ideal.nD Cert.Kernel3Ideal.τ).loc Cert.Kernel3Ideal.main_arg1))
  r2 : Finite.AllReal (s := Cert.Kernel3Ideal.S2816x1024) (m ((c : Thread Cert.Kernel3Ideal.nD Cert.Kernel3Ideal.τ).loc Cert.Kernel3Ideal.main_arg2))
  r3 : Finite.AllReal (s := Cert.Kernel3Ideal.S1024) (m ((c : Thread Cert.Kernel3Ideal.nD Cert.Kernel3Ideal.τ).loc Cert.Kernel3Ideal.main_arg3))
  r4 : Finite.AllReal (s := Cert.Kernel3Ideal.S4096x1024) (m ((c : Thread Cert.Kernel3Ideal.nD Cert.Kernel3Ideal.τ).loc Cert.Kernel3Ideal.main_arg4))

variable {m m'} {c : Dev Cert.Kernel3Ideal.nD} (S : Same m m' c)
include S

theorem X_real (n d) : ∃ r : ℝ, X m c n d = r := down_real _ _ _ S.r0 S.r1 S.r2 n d

theorem Y_real (n d) : ∃ r : ℝ, Y m c n d = r := dy_real _ _ S.r4 S.r3 n d

/-- The norm's gradient, both ways. -/
theorem dfinal (n : Fin 4096) (d : Fin 1024) :
    Cert.Reference3Ideal.Value.res_main_v47 m' c (ix2 n d) = Norm.gradK (X m c n) (Y m c n) d := by
  rw [ref0, S.e0, S.e1, S.e2, S.e3, S.e4, dy_comm]
  exact (Norm.grad_eq _ _ (X_real S n) (Y_real S n) d).1.symm

theorem back_eq (s : Fin 4) (n : Fin 4096) (f : Fin 704) :
    (∑ x : Fin 1024, DF m' c n x * m' ((c : Thread Cert.Reference3Ideal.nD Cert.Reference3Ideal.τ).loc Cert.Reference3Ideal.main_arg2) (ix2 ⟨(s : ℕ) * 704 + f, by omega⟩ x))
      = back m c s n f := by
  refine Finset.sum_congr rfl fun x _ => ?_
  rw [DF, dfinal S, S.e2]

theorem back_real (s n f) : ∃ r : ℝ, back m c s n f = r :=
  Finite.real_sum _ _ fun x => Finite.real_mul (Norm.grad_eq _ _ (X_real S n) (Y_real S n) x).2 (S.r2 _)

theorem dgate_eq (s : Fin 4) (n : Fin 4096) (f : Fin 704) :
    Cert.Reference3Ideal.Value.res_main_v50 m' c (ix3 s n f) = dgate m c s n f := by
  rw [ref1, back_eq S, S.e0, S.e1]
  exact (gate_eq (back_real S s n f) (S.r1 _) (S.r0 _)).symm

theorem dup_eq (s : Fin 4) (n : Fin 4096) (f : Fin 704) :
    Cert.Reference3Ideal.Value.res_main_v53 m' c (ix3 s n f) = dup m c s n f := by
  rw [ref2, back_eq S, S.e0]
  exact mul_comm (gt m c s n f * Ideal.logistic (gt m c s n f)) (back m c s n f)

end Claim

/-- The gain's gradient, in the reference's order of factors. -/
theorem gain_eq (g u : FVec Ideal Cert.Kernel3Ideal.S4096x2816 .f32) (w : FVec Ideal Cert.Kernel3Ideal.S2816x1024 .f32)
    (o : FVec Ideal Cert.Kernel3Ideal.S4096x1024 .f32) (j : Fin 1024) :
    (∑ n : Fin 4096, downV g u w (ix2 n j) * Norm.inv (fun d => downV g u w (ix2 n d)) * (Ideal.ofBits .f32 0x3F000000#32 * o (ix2 n j)))
      = ∑ n : Fin 4096, dgain o (down g u w) n j := by
  refine Finset.sum_congr rfl fun n _ => ?_
  have key : ∀ x i h o : EReal, x * i * (h * o) = o * h * x * i := fun x i h o => by
    rw [mul_comm h o, mul_comm, ← mul_assoc]
  simp only [downV_eq, dgain]
  exact key _ _ _ _

set_option maxHeartbeats 4000000 in
theorem algebraic : Cert.algebraic_Kernel3Ideal_Reference3Ideal_pre_finite_dact := by
  pair_intro
  · run_from Cert.Kernel3Ideal.Gen.run_main m g
    all_goals first
      | exact Cert.Kernel3Ideal.Gen.V_main_arg0 m c
      | exact Cert.Kernel3Ideal.Gen.V_main_arg1 m c
      | exact Cert.Kernel3Ideal.Gen.V_main_arg2 m c
      | exact Cert.Kernel3Ideal.Gen.V_main_arg3 m c
      | exact Cert.Kernel3Ideal.Gen.V_main_arg4 m c
  · have S : ∀ c, Same m m' c := fun c => by
      obtain ⟨h0, h1, h2, h3, h4⟩ := hagree c
      obtain ⟨r0, r1, r2, r3, r4⟩ := reals _ _ _ _ _ (hpre c)
      exact ⟨h0, h1, h2, h3, h4, r0, r1, r2, r3, r4⟩
    run_from Cert.Reference3Ideal.Value.run m' g'
    · rw [final6 m c]; funext j; idx_vars j
      exact dfinal (S c) _ _
    · rw [final7 m c]; funext j; idx_vars j
      exact dgate_eq (S c) _ _ _
    · rw [final8 m c]; funext j; idx_vars j
      exact dup_eq (S c) _ _ _
    · rw [final9 m c]; funext j; idx_vars j
      refine (ref3 (downV _ _ _) _ _ _).trans ?_
      exact gain_eq _ _ _ _ _

end Cert.Dact

end
-- ==== Proof.DnKernel.lean ====
/- The gradient of the gate's and the up product's input: eight products of a tile of tokens, through the norm before them. -/
module

public import proofs.«01_k».proof.Defs
public import proofs.«01_k».proof.Proof.Gen.Kernel4Ideal.Frame
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dn

/-- The gradient that reaches the norm's output: both products' gradients, added. -/
def back (wg wu : FVec Ideal Cert.Kernel4Ideal.S1024x2816 .f32) (dg du : FVec Ideal Cert.Kernel4Ideal.S4096x2816 .f32)
    (n : Fin 4096) (d : Fin 1024) : EReal :=
  (∑ k : Fin 2816, du (ix2 n k) * wu (ix2 d k)) + ∑ k : Fin 2816, dg (ix2 n k) * wg (ix2 d k)

section Kernel
open Cert.Kernel4Ideal Cert.Kernel4Ideal.Gen

variable (m : (ℓ : Loc nD τ sig) → Buf (Elt Ideal) ℓ)

theorem idx : ∀ t : Fin cfg0.N, win0_0.index t = ![0, t.val, 0]
    ∧ win0_1.index t = ![0, 0, 0]
    ∧ win0_2.index t = ![0, t.val, 0]
    ∧ win0_3.index t = ![0, 0, 0]
    ∧ win0_4.index t = ![t.val, 0]
    ∧ win0_5.index t = ![t.val, 0]
    ∧ win0_6.index t = ![0, 0]
    ∧ win0_7.index t = ![t.val, 0]
    ∧ win0_8.index t = ![0, 0] :=
  (by decide +kernel : ∀ t : Fin grid0.N, _)

theorem lt_t (t : Fin cfg0.N) : t.val < 8 := lt_of_lt_of_eq t.isLt (show cfg0.N = 8 from N_0)

theorem inside (t : Fin cfg0.N) (r : Fin 512) : t.val * 512 + r.val < 4096 := by
  have := lt_t t
  omega

/-- A token's activations before the norm. -/
abbrev H (c : Dev nD) (n : Fin 4096) : Fin 1024 → EReal := fun d => (m ((c : Thread nD τ).loc main_arg0) : FVec Ideal S4096x1024 .f32) (ix2 n d)

/-- The gradient that reaches the norm's output in the launch. -/
abbrev B (c : Dev nD) (n : Fin 4096) : Fin 1024 → EReal :=
  back (m ((c : Thread nD τ).loc main_arg2)) (m ((c : Thread nD τ).loc main_arg3)) (m ((c : Thread nD τ).loc main_arg4)) (m ((c : Thread nD τ).loc main_arg5)) n

/-- The same, times the norm's gain. -/
abbrev Y (c : Dev nD) (n : Fin 4096) : Fin 1024 → EReal := fun d => B m c n d * (m ((c : Thread nD τ).loc main_arg1) : FVec Ideal S1024 .f32) (ix1 d)

theorem read0 (c : Dev nD) (t : Fin cfg0.N) (s : Fin 4) (i : Fin 512) (j : Fin 704) :
    iblk m c 0 t (ix3 s i j) = m ((c : Thread nD τ).loc main_arg4) (ix2 ⟨t.val * 512 + i, inside t i⟩ ⟨(s : ℕ) * 704 + j, by omega⟩) := by
  have e : iblk m c 0 t (ix3 s i j) = V m c main_v2 (ix3 s ⟨t.val * 512 + i, inside t i⟩ j) := by blk_point [iblk, idx t]
  rw [e]
  entry_read
  pointwise []

theorem read1 (c : Dev nD) (t : Fin cfg0.N) (s : Fin 4) (i : Fin 704) (j : Fin 1024) :
    iblk m c 1 t (ix3 s i j) = m ((c : Thread nD τ).loc main_arg2) (ix2 j ⟨(s : ℕ) * 704 + i, by omega⟩) := by
  have e : iblk m c 1 t (ix3 s i j) = V m c main_v8 (ix3 s i j) := by blk_point [iblk, idx t]
  rw [e]
  entry_read
  pointwise []

theorem read2 (c : Dev nD) (t : Fin cfg0.N) (s : Fin 4) (i : Fin 512) (j : Fin 704) :
    iblk m c 2 t (ix3 s i j) = m ((c : Thread nD τ).loc main_arg5) (ix2 ⟨t.val * 512 + i, inside t i⟩ ⟨(s : ℕ) * 704 + j, by omega⟩) := by
  have e : iblk m c 2 t (ix3 s i j) = V m c main_v5 (ix3 s ⟨t.val * 512 + i, inside t i⟩ j) := by blk_point [iblk, idx t]
  rw [e]
  entry_read
  pointwise []

theorem read3 (c : Dev nD) (t : Fin cfg0.N) (s : Fin 4) (i : Fin 704) (j : Fin 1024) :
    iblk m c 3 t (ix3 s i j) = m ((c : Thread nD τ).loc main_arg3) (ix2 j ⟨(s : ℕ) * 704 + i, by omega⟩) := by
  have e : iblk m c 3 t (ix3 s i j) = V m c main_v11 (ix3 s i j) := by blk_point [iblk, idx t]
  rw [e]
  entry_read
  pointwise []

theorem read4 (c : Dev nD) (t : Fin cfg0.N) (i : Fin 512) (j : Fin 1024) :
    iblk m c 4 t (ix2 i j) = m ((c : Thread nD τ).loc main_arg0) (ix2 ⟨t.val * 512 + i, inside t i⟩ j) := by
  blk_point [iblk, V, idx t]

theorem read5 (c : Dev nD) (t : Fin cfg0.N) (i : Fin 512) (j : Fin 1024) :
    iblk m c 5 t (ix2 i j) = m ((c : Thread nD τ).loc main_arg6) (ix2 ⟨t.val * 512 + i, inside t i⟩ j) := by
  blk_point [iblk, V, idx t]

theorem read6 (c : Dev nD) (t : Fin cfg0.N) (i : Fin 1) (j : Fin 1024) :
    iblk m c 6 t (ix2 i j) = m ((c : Thread nD τ).loc main_arg1) (ix1 j) := by
  have e : iblk m c 6 t (ix2 i j) = V m c main_v12 (ix2 i j) := by blk_point [iblk, idx t]
  rw [e]
  entry_read
  pointwise []

/-- The eight products of a tile, summed in the kernel's order. -/
def prods (b0 b2 : Vec Ideal S4x512x704 .bf16) (b1 b3 : Vec Ideal S4x704x1024 .bf16) : FVec Ideal S512x1024 .f32 :=
  k0_pay7 (F := Ideal)
    (k0_pay5 (F := Ideal) (View.ld (Val := Elt Ideal) (e' := .bf16) b0 (Rect.unit (s := S4x512x704) ![0, 0, 0] ![1, 512, 704] inb_S4x512x704_S1x512x704_0_0_0))
      (View.ld (Val := Elt Ideal) (e' := .bf16) b1 (Rect.unit (s := S4x704x1024) ![0, 0, 0] ![1, 704, 1024] inb_S4x704x1024_S1x704x1024_0_0_0))
      (View.ld (Val := Elt Ideal) (e' := .bf16) b0 (Rect.unit (s := S4x512x704) ![1, 0, 0] ![1, 512, 704] inb_S4x512x704_S1x512x704_1_0_0))
      (View.ld (Val := Elt Ideal) (e' := .bf16) b1 (Rect.unit (s := S4x704x1024) ![1, 0, 0] ![1, 704, 1024] inb_S4x704x1024_S1x704x1024_1_0_0))
      (View.ld (Val := Elt Ideal) (e' := .bf16) b0 (Rect.unit (s := S4x512x704) ![2, 0, 0] ![1, 512, 704] inb_S4x512x704_S1x512x704_2_0_0))
      (View.ld (Val := Elt Ideal) (e' := .bf16) b1 (Rect.unit (s := S4x704x1024) ![2, 0, 0] ![1, 704, 1024] inb_S4x704x1024_S1x704x1024_2_0_0))
      (View.ld (Val := Elt Ideal) (e' := .bf16) b0 (Rect.unit (s := S4x512x704) ![3, 0, 0] ![1, 512, 704] inb_S4x512x704_S1x512x704_3_0_0))
      (View.ld (Val := Elt Ideal) (e' := .bf16) b1 (Rect.unit (s := S4x704x1024) ![3, 0, 0] ![1, 704, 1024] inb_S4x704x1024_S1x704x1024_3_0_0)))
    (k0_pay6 (F := Ideal) (View.ld (Val := Elt Ideal) (e' := .bf16) b2 (Rect.unit (s := S4x512x704) ![0, 0, 0] ![1, 512, 704] inb_S4x512x704_S1x512x704_0_0_0)))
    (View.ld (Val := Elt Ideal) (e' := .bf16) b3 (Rect.unit (s := S4x704x1024) ![0, 0, 0] ![1, 704, 1024] inb_S4x704x1024_S1x704x1024_0_0_0))
    (View.ld (Val := Elt Ideal) (e' := .bf16) b2 (Rect.unit (s := S4x512x704) ![1, 0, 0] ![1, 512, 704] inb_S4x512x704_S1x512x704_1_0_0))
    (View.ld (Val := Elt Ideal) (e' := .bf16) b3 (Rect.unit (s := S4x704x1024) ![1, 0, 0] ![1, 704, 1024] inb_S4x704x1024_S1x704x1024_1_0_0))
    (View.ld (Val := Elt Ideal) (e' := .bf16) b2 (Rect.unit (s := S4x512x704) ![2, 0, 0] ![1, 512, 704] inb_S4x512x704_S1x512x704_2_0_0))
    (View.ld (Val := Elt Ideal) (e' := .bf16) b3 (Rect.unit (s := S4x704x1024) ![2, 0, 0] ![1, 704, 1024] inb_S4x704x1024_S1x704x1024_2_0_0))
    (View.ld (Val := Elt Ideal) (e' := .bf16) b2 (Rect.unit (s := S4x512x704) ![3, 0, 0] ![1, 512, 704] inb_S4x512x704_S1x512x704_3_0_0))
    (View.ld (Val := Elt Ideal) (e' := .bf16) b3 (Rect.unit (s := S4x704x1024) ![3, 0, 0] ![1, 704, 1024] inb_S4x704x1024_S1x704x1024_3_0_0))

theorem prods_eq (c : Dev nD) (t : Fin cfg0.N) (i : Fin 512) (j : Fin 1024) :
    prods (iblk m c 0 t) (iblk m c 2 t) (iblk m c 1 t) (iblk m c 3 t) (ix2 i j) = B m c ⟨t.val * 512 + i, inside t i⟩ j := by
  unfold prods
  pointwise [k0_pay5, k0_pay6, k0_pay7]
  simp only [read0, read1, read2, read3]
  have key : ∀ a0 a1 a2 a3 b0 b1 b2 b3 : EReal,
      a0 + a1 + a2 + a3 + b0 + b1 + b2 + b3 = (b0 + b1 + b2 + b3) + (a0 + a1 + a2 + a3) := by
    intro a0 a1 a2 a3 b0 b1 b2 b3
    rw [add_comm (b0 + b1 + b2 + b3)]
    simp only [add_assoc]
  unfold B back
  rw [Fin.sum_univ_tiles 4 704 rfl, Fin.sum_univ_tiles 4 704 rfl, Fin.sum_univ_four, Fin.sum_univ_four]
  exact key _ _ _ _ _ _ _ _

theorem tile (G h o : FVec Ideal S512x1024 .f32) (g : FVec Ideal S1x1024 .f32) (i : Fin 512) (j : Fin 1024) :
    k0_pay3 (F := Ideal) G h o (k0_pay8 (F := Ideal) g) (k0_pay9 (F := Ideal) h) (ix2 i j)
      = (fun (a b : EReal) => a + b) (o (ix2 i j)) (Norm.gradK (fun d => h (ix2 i d)) (fun d => G (ix2 i d) * g (ix2 0 d)) j) := by
  pointwise [k0_pay3, k0_pay8, k0_pay9, k0_pay1]
  rfl

theorem gain (G h : FVec Ideal S512x1024 .f32) (i : Fin 1) (j : Fin 1024) :
    k0_pay2 (F := Ideal) G h (k0_pay9 (F := Ideal) h) (ix2 i j)
      = ∑ n : Fin 512, G (ix2 n j) * h (ix2 n j) * Norm.inv (fun d => h (ix2 n d)) := by
  pointwise [k0_pay2, k0_pay9, k0_pay1]
  rfl

/-- The activations' gradient: what passed by, and the norm's. -/
def OUT (c : Dev nD) (n : Fin 4096) (d : Fin 1024) : EReal :=
  (fun (a b : EReal) => a + b) (m ((c : Thread nD τ).loc main_arg6) (ix2 n d)) (Norm.gradK (H m c n) (Y m c n) d)

theorem point7 (c : Dev nD) (t : Fin cfg0.N) (y) :
    k0_pay3 (F := Ideal) (prods (iblk m c 0 t) (iblk m c 2 t) (iblk m c 1 t) (iblk m c 3 t)) (iblk m c 4 t) (iblk m c 5 t)
      (k0_pay8 (F := Ideal) (iblk m c 6 t)) (k0_pay9 (F := Ideal) (iblk m c 4 t)) y
      = (fun j : S4096x1024.Idx => OUT m c (j 0) (j 1)) (((cfg0.win 7).blk t).view.emb y) := by
  idx_vars y
  refine (tile _ _ _ _ y0 y1).trans ?_
  simp only [prods_eq, read4, read5, read6]
  have e0 : ((View.whole main_v13_0).slice (win0_7.rect t)).emb (ix2 y0 y1) 0 = (⟨t.val * 512 + y0, inside t y0⟩ : Fin 4096) := Fin.ext (by blk_point [idx t])
  have e1 : ((View.whole main_v13_0).slice (win0_7.rect t)).emb (ix2 y0 y1) 1 = (y1 : Fin 1024) := Fin.ext (by blk_point [idx t])
  exact (congr (congrArg (fun n => OUT m c n) e0) e1).symm

theorem final7 (c : Dev nD) : (dats m 0 c).arrAt 7 (cfgs 0).N = fun j : S4096x1024.Idx => OUT m c (j 0) (j 1) := by
  refine (dats m 0 c).arrAt_eq_of_covers 7 _ (by decide +kernel) fun t hf y => ?_
  blk_simp; rw [after0_7]
  have ht : t.val < 8 := lt_t t
  by_cases h : t.val % 8 = 0
  · rw [outsAt0_A m c t h (by omega)]
    frame_out
    exact point7 m c t y
  · rw [outsAt0_B m c t h (by omega)]
    frame_out
    exact point7 m c t y

/-- One token's share of the gain's gradient. -/
def dgain (c : Dev nD) (n : Fin 4096) (d : Fin 1024) : EReal := B m c n d * H m c n d * Norm.inv (H m c n)

/-- A tile's sum of it. -/
def tsum (c : Dev nD) (t : Fin cfg0.N) (j : Fin 1024) : EReal := ∑ i : Fin 512, dgain m c ⟨t.val * 512 + i, inside t i⟩ j

/-- The whole sum. -/
def gsum (c : Dev nD) (j : Fin 1024) : EReal := ∑ n : Fin 4096, dgain m c n j

theorem gain_tile (c : Dev nD) (t : Fin cfg0.N) (i : Fin 1) (j : Fin 1024) :
    k0_pay2 (F := Ideal) (prods (iblk m c 0 t) (iblk m c 2 t) (iblk m c 1 t) (iblk m c 3 t)) (iblk m c 4 t)
      (k0_pay9 (F := Ideal) (iblk m c 4 t)) (ix2 i j) = tsum m c t j := by
  refine (gain _ _ i j).trans ?_
  simp only [prods_eq, read4]
  rfl

theorem step (G h : FVec Ideal S512x1024 .f32) (v : FVec Ideal S512x1 .f32) (a : FVec Ideal S1x1024 .f32) (i : Fin 1) (j : Fin 1024) :
    k0_pay4 (F := Ideal) G h v a (ix2 i j) = (fun (a b : EReal) => a + b) (a (ix2 i j)) (k0_pay2 (F := Ideal) G h v (ix2 i j)) := by
  unfold k0_pay4
  generalize k0_pay2 (F := Ideal) G h v = P
  pointwise []

theorem final8 (c : Dev nD) : (dats m 0 c).arrAt 8 (cfgs 0).N = fun j : S1x1024.Idx => gsum m c (j 1) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => (0 : EReal))
    (fun t (j : S1x1024.Idx) => tsum m c t (j 1))
    (fun t h j => by
      have ht := lt_t t
      rw [outsAt0_A m c t h (by omega)]; frame_out; idx_vars j; rw [zero_add]; exact gain_tile m c t _ _)
    (fun t h j => by
      have ht := lt_t t
      rw [outsAt0_B m c t h (by omega)]; frame_out; idx_vars j
      refine (step _ _ _ _ _ _).trans ?_
      exact congrArg _ (gain_tile m c t _ _))
    (le_of_eq N_0) t0_7 rfl j, zero_add]
  idx_vars j
  unfold gsum tsum
  rw [Fin.sum_univ_tiles 8 512 rfl]
  rfl

end Kernel

end Cert.Dn

end
-- ==== Proof.DnRef.lean ====
/- What the differentiated reference of the same gradients computes, entry by entry. -/
module

public import proofs.«01_k».proof.Defs
public import proofs.«01_k».proof.Proof.Gen.Reference4Ideal.Run
public import proofs.«01_k».proof.Proof.DnKernel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dn

section Reference
open Cert.Reference4Ideal Cert.Reference4Ideal.Gen Cert.Reference4Ideal.Value

/-- Both products' gradients as the reference's operations spell them. -/
def backV (wg wu : FVec Ideal S1024x2816 .f32) (dg du : FVec Ideal S4096x2816 .f32) : FVec Ideal S4096x1024 .f32 :=
  addf (F := Ideal) (Host.dotGeneral (F := Ideal) (φ₁ := .f32) (φ₂ := .f32) dot_S4096x2816_S1024x2816_S4096x1024_1_1_0_0_n_n none du wu)
    (Host.dotGeneral (F := Ideal) (φ₁ := .f32) (φ₂ := .f32) dot_S4096x2816_S1024x2816_S4096x1024_1_1_0_0_n_n none dg wg)

theorem backV_eq (wg wu : FVec Ideal S1024x2816 .f32) (dg du : FVec Ideal S4096x2816 .f32) (n : Fin 4096) (d : Fin 1024) :
    backV wg wu dg du (ix2 n d) = back wg wu dg du n d := by
  unfold backV
  pointwise [back]

variable (m' : (ℓ : Loc nD τ sig) → Buf (Elt Ideal) ℓ)

/-- The differentiated norm, added to what passed by. -/
theorem ref0 (c : Dev nD) (n : Fin 4096) (d : Fin 1024) : res_main_v41 m' c (ix2 n d)
    = (fun (a b : EReal) => a + b) (m' ((c : Thread nD τ).loc main_arg6) (ix2 n d))
      (Norm.gradR (fun d => (m' ((c : Thread nD τ).loc main_arg0) : FVec Ideal S4096x1024 .f32) (ix2 n d))
        (fun d => back (m' ((c : Thread nD τ).loc main_arg2)) (m' ((c : Thread nD τ).loc main_arg3)) (m' ((c : Thread nD τ).loc main_arg4)) (m' ((c : Thread nD τ).loc main_arg5)) n d
          * (m' ((c : Thread nD τ).loc main_arg1) : FVec Ideal S1024 .f32) (ix1 d)) d) := by
  simp only [← backV_eq]
  unfold res_main_v41
  generalize hG : addf (F := Ideal) (s := S4096x1024) (φ := .f32) (Host.dotGeneral (F := Ideal) dot_S4096x2816_S1024x2816_S4096x1024_1_1_0_0_n_n none _ _) _ = G
  have hr : backV (m' ((c : Thread nD τ).loc main_arg2)) (m' ((c : Thread nD τ).loc main_arg3)) (m' ((c : Thread nD τ).loc main_arg4)) (m' ((c : Thread nD τ).loc main_arg5)) = G := by
    rw [← hG]; rfl
  clear hG
  rw [hr]
  pointwise []
  simp only [Fin.sum_univ_one]
  have key : ∀ a b c d : EReal, a + b + c + d = a + (b + c + d) := by
    intro a b c d
    simp only [add_assoc]
  exact key _ _ _ _

/-- The gain's gradient over any incoming gradient. -/
theorem ref1 (G x : FVec Ideal S4096x1024 .f32) (j : Fin 1024) (k : Fin 1) :
    shapeCast S1x1024
      (Host.reduceAdd
        (shapeCast S1x1024
          (Host.reduceAdd
            (mulf
              (mulf x
                (broadcastInDim S4096x1024 ![0, 1] bcast_S4096x1_S4096x1024_0_1
                  (Host.rsqrt
                    (addf
                      (Host.divf
                        (broadcastInDim S4096x1 ![0] bcast_S4096_S4096x1_0
                          (Host.reduceAdd (mulf x x) (constant S_ .f32 0#32) reducesTo_S4096x1024_S4096_d1 h_S_))
                        (broadcastInDim S4096x1 ![] bcast_S_S4096x1 (constant S_ .f32 1149239296#32)))
                      (broadcastInDim S4096x1 ![] bcast_S_S4096x1 (constant S_ .f32 897988541#32))))))
              G)
            (constant S_ .f32 0#32) reducesTo_S4096x1024_S1024_d0 h_S_)
          shapeCasts_S1024_S1x1024)
        (constant S_ .f32 0#32) reducesTo_S1x1024_S1024_d0 h_S_)
      shapeCasts_S1024_S1x1024 (ix2 k j)
    = ∑ n : Fin 4096, x (ix2 n j) * Norm.inv (fun d => x (ix2 n d)) * G (ix2 n j) := by
  pointwise []
  simp only [Fin.sum_univ_one]
  rfl

end Reference

end Cert.Dn

end
-- ==== Proof.Dn.lean ====
/- The claim of the FFN input's gradient: the kernel's form and the differentiated reference agree at real arrays. -/
module

public import proofs.«01_k».proof.Defs
public import proofs.«01_k».proof.Proof.Gen.Kernel4Ideal.Frame
public import proofs.«01_k».proof.Proof.Gen.Reference4Ideal.Run
public import proofs.«01_k».proof.Proof.Gen.Pre_finite_dn
public import proofs.«01_k».proof.Proof.DnRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dn

/-- The arrays the precondition speaks of are real. -/
theorem reals (a0 : FVec Ideal Cert.Kernel4Ideal.S4096x1024 .f32) (a1 : FVec Ideal Cert.Kernel4Ideal.S1024 .f32) (a2 : FVec Ideal Cert.Kernel4Ideal.S1024x2816 .f32) (a3 : FVec Ideal Cert.Kernel4Ideal.S1024x2816 .f32) (a4 : FVec Ideal Cert.Kernel4Ideal.S4096x2816 .f32) (a5 : FVec Ideal Cert.Kernel4Ideal.S4096x2816 .f32) (a6 : FVec Ideal Cert.Kernel4Ideal.S4096x1024 .f32)
    (h : (haveI := Cert.Pre_finite_dn.Gen.facts; Cert.Pre_finite_dn.fn (F := Ideal) a0 a1 a2 a3 a4 a5 a6) = fun _ => 1#1) :
    Finite.AllReal a0 ∧ Finite.AllReal a1 ∧ Finite.AllReal a2 ∧ Finite.AllReal a3 ∧ Finite.AllReal a4 ∧ Finite.AllReal a5 ∧ Finite.AllReal a6 := by
  have h := congrFun h ix0
  simp only [Cert.Pre_finite_dn.fn, Cert.Pre_finite_dn.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all_real a0 _ (fun _ => Finite.inf_word) _ _ _ _ h0,
    Finite.all_real a1 _ (fun _ => Finite.inf_word) _ _ _ _ h1,
    Finite.all_real a2 _ (fun _ => Finite.inf_word) _ _ _ _ h2,
    Finite.all_real a3 _ (fun _ => Finite.inf_word) _ _ _ _ h3,
    Finite.all_real a4 _ (fun _ => Finite.inf_word) _ _ _ _ h4,
    Finite.all_real a5 _ (fun _ => Finite.inf_word) _ _ _ _ h5,
    Finite.all_real a6 _ (fun _ => Finite.inf_word) _ _ _ _ h6⟩

section Claim

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)

/-- The two launches hold the same arrays, and these are real. -/
structure Same (c : Dev Cert.Kernel4Ideal.nD) : Prop where
  e0 : m' ((c : Thread Cert.Reference4Ideal.nD Cert.Reference4Ideal.τ).loc Cert.Reference4Ideal.main_arg0) = m ((c : Thread Cert.Kernel4Ideal.nD Cert.Kernel4Ideal.τ).loc Cert.Kernel4Ideal.main_arg0)
  e1 : m' ((c : Thread Cert.Reference4Ideal.nD Cert.Reference4Ideal.τ).loc Cert.Reference4Ideal.main_arg1) = m ((c : Thread Cert.Kernel4Ideal.nD Cert.Kernel4Ideal.τ).loc Cert.Kernel4Ideal.main_arg1)
  e2 : m' ((c : Thread Cert.Reference4Ideal.nD Cert.Reference4Ideal.τ).loc Cert.Reference4Ideal.main_arg2) = m ((c : Thread Cert.Kernel4Ideal.nD Cert.Kernel4Ideal.τ).loc Cert.Kernel4Ideal.main_arg2)
  e3 : m' ((c : Thread Cert.Reference4Ideal.nD Cert.Reference4Ideal.τ).loc Cert.Reference4Ideal.main_arg3) = m ((c : Thread Cert.Kernel4Ideal.nD Cert.Kernel4Ideal.τ).loc Cert.Kernel4Ideal.main_arg3)
  e4 : m' ((c : Thread Cert.Reference4Ideal.nD Cert.Reference4Ideal.τ).loc Cert.Reference4Ideal.main_arg4) = m ((c : Thread Cert.Kernel4Ideal.nD Cert.Kernel4Ideal.τ).loc Cert.Kernel4Ideal.main_arg4)
  e5 : m' ((c : Thread Cert.Reference4Ideal.nD Cert.Reference4Ideal.τ).loc Cert.Reference4Ideal.main_arg5) = m ((c : Thread Cert.Kernel4Ideal.nD Cert.Kernel4Ideal.τ).loc Cert.Kernel4Ideal.main_arg5)
  e6 : m' ((c : Thread Cert.Reference4Ideal.nD Cert.Reference4Ideal.τ).loc Cert.Reference4Ideal.main_arg6) = m ((c : Thread Cert.Kernel4Ideal.nD Cert.Kernel4Ideal.τ).loc Cert.Kernel4Ideal.main_arg6)
  r0 : Finite.AllReal (s := Cert.Kernel4Ideal.S4096x1024) (m ((c : Thread Cert.Kernel4Ideal.nD Cert.Kernel4Ideal.τ).loc Cert.Kernel4Ideal.main_arg0))
  r1 : Finite.AllReal (s := Cert.Kernel4Ideal.S1024) (m ((c : Thread Cert.Kernel4Ideal.nD Cert.Kernel4Ideal.τ).loc Cert.Kernel4Ideal.main_arg1))
  r2 : Finite.AllReal (s := Cert.Kernel4Ideal.S1024x2816) (m ((c : Thread Cert.Kernel4Ideal.nD Cert.Kernel4Ideal.τ).loc Cert.Kernel4Ideal.main_arg2))
  r3 : Finite.AllReal (s := Cert.Kernel4Ideal.S1024x2816) (m ((c : Thread Cert.Kernel4Ideal.nD Cert.Kernel4Ideal.τ).loc Cert.Kernel4Ideal.main_arg3))
  r4 : Finite.AllReal (s := Cert.Kernel4Ideal.S4096x2816) (m ((c : Thread Cert.Kernel4Ideal.nD Cert.Kernel4Ideal.τ).loc Cert.Kernel4Ideal.main_arg4))
  r5 : Finite.AllReal (s := Cert.Kernel4Ideal.S4096x2816) (m ((c : Thread Cert.Kernel4Ideal.nD Cert.Kernel4Ideal.τ).loc Cert.Kernel4Ideal.main_arg5))
  r6 : Finite.AllReal (s := Cert.Kernel4Ideal.S4096x1024) (m ((c : Thread Cert.Kernel4Ideal.nD Cert.Kernel4Ideal.τ).loc Cert.Kernel4Ideal.main_arg6))

variable {m m'} {c : Dev Cert.Kernel4Ideal.nD} (S : Same m m' c)
include S

theorem B_real (n d) : ∃ r : ℝ, B m c n d = r :=
  Finite.real_add (Finite.real_sum _ _ fun _ => Finite.real_mul (S.r5 _) (S.r3 _)) (Finite.real_sum _ _ fun _ => Finite.real_mul (S.r4 _) (S.r2 _))

theorem Y_real (n d) : ∃ r : ℝ, Y m c n d = r := Finite.real_mul (B_real S n d) (S.r1 _)

/-- The activations' gradient, both ways. -/
theorem out_eq (n : Fin 4096) (d : Fin 1024) : Cert.Reference4Ideal.Value.res_main_v41 m' c (ix2 n d) = OUT m c n d := by
  rw [ref0, S.e0, S.e1, S.e2, S.e3, S.e4, S.e5, S.e6]
  exact congrArg (fun z : EReal => (fun (a b : EReal) => a + b) (m ((c : Thread Cert.Kernel4Ideal.nD Cert.Kernel4Ideal.τ).loc Cert.Kernel4Ideal.main_arg6) (ix2 n d)) z)
    (Norm.grad_eq (H m c n) (Y m c n) (fun _ => S.r0 _) (Y_real S n) d).1.symm

end Claim

/-- The gain's gradient, in the reference's order of factors. -/
theorem gain_eq (m : (ℓ : Loc Cert.Kernel4Ideal.nD Cert.Kernel4Ideal.τ Cert.Kernel4Ideal.sig) → Buf (Elt Ideal) ℓ) (c : Dev Cert.Kernel4Ideal.nD)
    (x G : FVec Ideal Cert.Kernel4Ideal.S4096x1024 .f32) (hx : ∀ n d, x (ix2 n d) = H m c n d) (hG : ∀ n d, G (ix2 n d) = B m c n d) (j : Fin 1024) :
    (∑ n : Fin 4096, x (ix2 n j) * Norm.inv (fun d => x (ix2 n d)) * G (ix2 n j)) = gsum m c j := by
  refine Finset.sum_congr rfl fun n _ => ?_
  have key : ∀ x i g : EReal, x * i * g = g * x * i := fun x i g => by rw [mul_comm, ← mul_assoc]
  simp only [hx, hG]
  exact key _ _ _

set_option maxHeartbeats 4000000 in
theorem algebraic : Cert.algebraic_Kernel4Ideal_Reference4Ideal_pre_finite_dn := by
  pair_intro
  · run_from Cert.Kernel4Ideal.Gen.run_main m g
  · have S : ∀ c, Same m m' c := fun c => by
      obtain ⟨h0, h1, h2, h3, h4, h5, h6⟩ := hagree c
      obtain ⟨r0, r1, r2, r3, r4, r5, r6⟩ := reals _ _ _ _ _ _ _ (hpre c)
      exact ⟨h0, h1, h2, h3, h4, h5, h6, r0, r1, r2, r3, r4, r5, r6⟩
    run_from Cert.Reference4Ideal.Value.run m' g'
    · rw [final7 m c]; funext j; idx_vars j
      exact out_eq (S c) _ _
    · rw [final8 m c]; funext j; idx_vars j
      refine (ref1 (backV _ _ _ _) _ _ _).trans ?_
      exact gain_eq m c _ _ (fun _ _ => rfl) (fun _ _ => backV_eq _ _ _ _ _ _) _

end Cert.Dn

end
-- ==== Proof.DnxKernel.lean ====
/- The gradient of the input of the up products and of a second norm, the keys' and values'. -/
module

public import proofs.«01_k».proof.Defs
public import proofs.«01_k».proof.Proof.Gen.Kernel9Ideal.Frame
public import proofs.«01_k».proof.Proof.DnKernel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dnx

section Kernel
open Cert.Kernel9Ideal Cert.Kernel9Ideal.Gen

variable (m : (ℓ : Loc nD τ sig) → Buf (Elt Ideal) ℓ)

theorem idx : ∀ t : Fin cfg0.N, win0_0.index t = ![0, t.val, 0]
    ∧ win0_1.index t = ![0, 0, 0]
    ∧ win0_2.index t = ![0, t.val, 0]
    ∧ win0_3.index t = ![0, 0, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![t.val, 0]
    ∧ win0_10.index t = ![0, 0]
    ∧ win0_11.index t = ![0, 0] :=
  (by decide +kernel : ∀ t : Fin grid0.N, _)

theorem lt_t (t : Fin cfg0.N) : t.val < 8 := lt_of_lt_of_eq t.isLt (show cfg0.N = 8 from N_0)

theorem inside (t : Fin cfg0.N) (r : Fin 512) : t.val * 512 + r.val < 4096 := by
  have := lt_t t
  omega

/-- A token's activations before the norm. -/
abbrev H (c : Dev nD) (n : Fin 4096) : Fin 1024 → EReal := fun d => (m ((c : Thread nD τ).loc main_arg0) : FVec Ideal S4096x1024 .f32) (ix2 n d)

/-- The gradient that reaches the norm's output in the launch. -/
abbrev B (c : Dev nD) (n : Fin 4096) : Fin 1024 → EReal :=
  Dn.back (m ((c : Thread nD τ).loc main_arg2)) (m ((c : Thread nD τ).loc main_arg3)) (m ((c : Thread nD τ).loc main_arg4)) (m ((c : Thread nD τ).loc main_arg5)) n

/-- The same, times the norm's gain. -/
abbrev Y (c : Dev nD) (n : Fin 4096) : Fin 1024 → EReal := fun d => B m c n d * (m ((c : Thread nD τ).loc main_arg1) : FVec Ideal S1024 .f32) (ix1 d)

theorem read0 (c : Dev nD) (t : Fin cfg0.N) (s : Fin 4) (i : Fin 512) (j : Fin 704) :
    iblk m c 0 t (ix3 s i j) = m ((c : Thread nD τ).loc main_arg4) (ix2 ⟨t.val * 512 + i, inside t i⟩ ⟨(s : ℕ) * 704 + j, by omega⟩) := by
  have e : iblk m c 0 t (ix3 s i j) = V m c main_v2 (ix3 s ⟨t.val * 512 + i, inside t i⟩ j) := by blk_point [iblk, idx t]
  rw [e]
  entry_read
  pointwise []

theorem read1 (c : Dev nD) (t : Fin cfg0.N) (s : Fin 4) (i : Fin 704) (j : Fin 1024) :
    iblk m c 1 t (ix3 s i j) = m ((c : Thread nD τ).loc main_arg2) (ix2 j ⟨(s : ℕ) * 704 + i, by omega⟩) := by
  have e : iblk m c 1 t (ix3 s i j) = V m c main_v8 (ix3 s i j) := by blk_point [iblk, idx t]
  rw [e]
  entry_read
  pointwise []

theorem read2 (c : Dev nD) (t : Fin cfg0.N) (s : Fin 4) (i : Fin 512) (j : Fin 704) :
    iblk m c 2 t (ix3 s i j) = m ((c : Thread nD τ).loc main_arg5) (ix2 ⟨t.val * 512 + i, inside t i⟩ ⟨(s : ℕ) * 704 + j, by omega⟩) := by
  have e : iblk m c 2 t (ix3 s i j) = V m c main_v5 (ix3 s ⟨t.val * 512 + i, inside t i⟩ j) := by blk_point [iblk, idx t]
  rw [e]
  entry_read
  pointwise []

theorem read3 (c : Dev nD) (t : Fin cfg0.N) (s : Fin 4) (i : Fin 704) (j : Fin 1024) :
    iblk m c 3 t (ix3 s i j) = m ((c : Thread nD τ).loc main_arg3) (ix2 j ⟨(s : ℕ) * 704 + i, by omega⟩) := by
  have e : iblk m c 3 t (ix3 s i j) = V m c main_v11 (ix3 s i j) := by blk_point [iblk, idx t]
  rw [e]
  entry_read
  pointwise []

theorem read4 (c : Dev nD) (t : Fin cfg0.N) (i : Fin 512) (j : Fin 1024) :
    iblk m c 4 t (ix2 i j) = m ((c : Thread nD τ).loc main_arg0) (ix2 ⟨t.val * 512 + i, inside t i⟩ j) := by
  blk_point [iblk, V, idx t]

theorem read5 (c : Dev nD) (t : Fin cfg0.N) (i : Fin 512) (j : Fin 1024) :
    iblk m c 5 t (ix2 i j) = m ((c : Thread nD τ).loc main_arg6) (ix2 ⟨t.val * 512 + i, inside t i⟩ j) := by
  blk_point [iblk, V, idx t]

theorem read6 (c : Dev nD) (t : Fin cfg0.N) (i : Fin 512) (j : Fin 1024) :
    iblk m c 6 t (ix2 i j) = m ((c : Thread nD τ).loc main_arg8) (ix2 ⟨t.val * 512 + i, inside t i⟩ j) := by
  blk_point [iblk, V, idx t]

theorem read7 (c : Dev nD) (t : Fin cfg0.N) (i : Fin 1) (j : Fin 1024) :
    iblk m c 7 t (ix2 i j) = m ((c : Thread nD τ).loc main_arg1) (ix1 j) := by
  have e : iblk m c 7 t (ix2 i j) = V m c main_v12 (ix2 i j) := by blk_point [iblk, idx t]
  rw [e]
  entry_read
  pointwise []

theorem read8 (c : Dev nD) (t : Fin cfg0.N) (i : Fin 1) (j : Fin 1024) :
    iblk m c 8 t (ix2 i j) = m ((c : Thread nD τ).loc main_arg7) (ix1 j) := by
  have e : iblk m c 8 t (ix2 i j) = V m c main_v13 (ix2 i j) := by blk_point [iblk, idx t]
  rw [e]
  entry_read
  pointwise []

/-- The eight products of a tile, summed in the kernel's order. -/
def prods (b0 b2 : Vec Ideal S4x512x704 .bf16) (b1 b3 : Vec Ideal S4x704x1024 .bf16) : FVec Ideal S512x1024 .f32 :=
  k0_pay7 (F := Ideal)
    (k0_pay5 (F := Ideal) (View.ld (Val := Elt Ideal) (e' := .bf16) b0 (Rect.unit (s := S4x512x704) ![0, 0, 0] ![1, 512, 704] inb_S4x512x704_S1x512x704_0_0_0))
      (View.ld (Val := Elt Ideal) (e' := .bf16) b1 (Rect.unit (s := S4x704x1024) ![0, 0, 0] ![1, 704, 1024] inb_S4x704x1024_S1x704x1024_0_0_0))
      (View.ld (Val := Elt Ideal) (e' := .bf16) b0 (Rect.unit (s := S4x512x704) ![1, 0, 0] ![1, 512, 704] inb_S4x512x704_S1x512x704_1_0_0))
      (View.ld (Val := Elt Ideal) (e' := .bf16) b1 (Rect.unit (s := S4x704x1024) ![1, 0, 0] ![1, 704, 1024] inb_S4x704x1024_S1x704x1024_1_0_0))
      (View.ld (Val := Elt Ideal) (e' := .bf16) b0 (Rect.unit (s := S4x512x704) ![2, 0, 0] ![1, 512, 704] inb_S4x512x704_S1x512x704_2_0_0))
      (View.ld (Val := Elt Ideal) (e' := .bf16) b1 (Rect.unit (s := S4x704x1024) ![2, 0, 0] ![1, 704, 1024] inb_S4x704x1024_S1x704x1024_2_0_0))
      (View.ld (Val := Elt Ideal) (e' := .bf16) b0 (Rect.unit (s := S4x512x704) ![3, 0, 0] ![1, 512, 704] inb_S4x512x704_S1x512x704_3_0_0))
      (View.ld (Val := Elt Ideal) (e' := .bf16) b1 (Rect.unit (s := S4x704x1024) ![3, 0, 0] ![1, 704, 1024] inb_S4x704x1024_S1x704x1024_3_0_0)))
    (k0_pay6 (F := Ideal) (View.ld (Val := Elt Ideal) (e' := .bf16) b2 (Rect.unit (s := S4x512x704) ![0, 0, 0] ![1, 512, 704] inb_S4x512x704_S1x512x704_0_0_0)))
    (View.ld (Val := Elt Ideal) (e' := .bf16) b3 (Rect.unit (s := S4x704x1024) ![0, 0, 0] ![1, 704, 1024] inb_S4x704x1024_S1x704x1024_0_0_0))
    (View.ld (Val := Elt Ideal) (e' := .bf16) b2 (Rect.unit (s := S4x512x704) ![1, 0, 0] ![1, 512, 704] inb_S4x512x704_S1x512x704_1_0_0))
    (View.ld (Val := Elt Ideal) (e' := .bf16) b3 (Rect.unit (s := S4x704x1024) ![1, 0, 0] ![1, 704, 1024] inb_S4x704x1024_S1x704x1024_1_0_0))
    (View.ld (Val := Elt Ideal) (e' := .bf16) b2 (Rect.unit (s := S4x512x704) ![2, 0, 0] ![1, 512, 704] inb_S4x512x704_S1x512x704_2_0_0))
    (View.ld (Val := Elt Ideal) (e' := .bf16) b3 (Rect.unit (s := S4x704x1024) ![2, 0, 0] ![1, 704, 1024] inb_S4x704x1024_S1x704x1024_2_0_0))
    (View.ld (Val := Elt Ideal) (e' := .bf16) b2 (Rect.unit (s := S4x512x704) ![3, 0, 0] ![1, 512, 704] inb_S4x512x704_S1x512x704_3_0_0))
    (View.ld (Val := Elt Ideal) (e' := .bf16) b3 (Rect.unit (s := S4x704x1024) ![3, 0, 0] ![1, 704, 1024] inb_S4x704x1024_S1x704x1024_3_0_0))

theorem prods_eq (c : Dev nD) (t : Fin cfg0.N) (i : Fin 512) (j : Fin 1024) :
    prods (iblk m c 0 t) (iblk m c 2 t) (iblk m c 1 t) (iblk m c 3 t) (ix2 i j) = B m c ⟨t.val * 512 + i, inside t i⟩ j := by
  unfold prods
  pointwise [k0_pay5, k0_pay6, k0_pay7]
  simp only [read0, read1, read2, read3]
  have key : ∀ a0 a1 a2 a3 b0 b1 b2 b3 : EReal,
      a0 + a1 + a2 + a3 + b0 + b1 + b2 + b3 = (b0 + b1 + b2 + b3) + (a0 + a1 + a2 + a3) := by
    intro a0 a1 a2 a3 b0 b1 b2 b3
    rw [add_comm (b0 + b1 + b2 + b3)]
    simp only [add_assoc]
  unfold B Dn.back
  rw [Fin.sum_univ_tiles 4 704 rfl, Fin.sum_univ_tiles 4 704 rfl, Fin.sum_univ_four, Fin.sum_univ_four]
  exact key _ _ _ _ _ _ _ _

theorem tile (G h o : FVec Ideal S512x1024 .f32) (g : FVec Ideal S1x1024 .f32) (i : Fin 512) (j : Fin 1024) :
    k0_pay11 (F := Ideal) G h o (k0_pay8 (F := Ideal) g) (ix2 i j)
      = (fun (a b : EReal) => a + b) (o (ix2 i j)) (Norm.gradK (fun d => h (ix2 i d)) (fun d => G (ix2 i d) * g (ix2 0 d)) j) := by
  pointwise [k0_pay11, k0_pay8, k0_pay9]
  rfl

/-- The second norm's gradient, added. -/
theorem tile2 (P h e : FVec Ideal S512x1024 .f32) (q : FVec Ideal S1x1024 .f32) (i : Fin 512) (j : Fin 1024) :
    k0_pay2 (F := Ideal) P (k0_pay14 (F := Ideal) h e q) (k0_pay15 (F := Ideal) h) (k0_pay16 (F := Ideal) h e q) (ix2 i j)
      = (fun (a b : EReal) => a + b) (P (ix2 i j)) (Norm.gradK (fun d => h (ix2 i d)) (fun d => e (ix2 i d) * q (ix2 0 d)) j) := by
  pointwise [k0_pay2, k0_pay14, k0_pay15, k0_pay16, k0_pay13, k0_pay12]
  rfl

theorem gain (G h : FVec Ideal S512x1024 .f32) (i : Fin 1) (j : Fin 1024) :
    k0_pay10 (F := Ideal) G h (ix2 i j)
      = ∑ n : Fin 512, G (ix2 n j) * h (ix2 n j) * Norm.inv (fun d => h (ix2 n d)) := by
  pointwise [k0_pay10, k0_pay9]
  rfl

theorem gain2 (h e : FVec Ideal S512x1024 .f32) (i : Fin 1) (j : Fin 1024) :
    k0_pay1 (F := Ideal) h e (k0_pay12 (F := Ideal) h) (ix2 i j)
      = ∑ n : Fin 512, e (ix2 n j) * h (ix2 n j) * Norm.inv (fun d => h (ix2 n d)) := by
  pointwise [k0_pay1, k0_pay12]
  rfl

/-- The gradient that reaches the second norm's output. -/
abbrev K (c : Dev nD) (n : Fin 4096) : Fin 1024 → EReal := fun d => (m ((c : Thread nD τ).loc main_arg8) : FVec Ideal S4096x1024 .f32) (ix2 n d)

/-- The same, times that norm's gain. -/
abbrev Z (c : Dev nD) (n : Fin 4096) : Fin 1024 → EReal := fun d => K m c n d * (m ((c : Thread nD τ).loc main_arg7) : FVec Ideal S1024 .f32) (ix1 d)

/-- What passed by, and both norms' gradients. -/
def OUT (c : Dev nD) (n : Fin 4096) (d : Fin 1024) : EReal :=
  (fun (a b e : EReal) => a + b + e) (m ((c : Thread nD τ).loc main_arg6) (ix2 n d)) (Norm.gradK (H m c n) (Y m c n) d) (Norm.gradK (H m c n) (Z m c n) d)

theorem OUT_eq (c : Dev nD) (t : Fin cfg0.N) (i : Fin 512) (j : Fin 1024) :
    k0_pay2 (F := Ideal) (k0_pay11 (F := Ideal) (prods (iblk m c 0 t) (iblk m c 2 t) (iblk m c 1 t) (iblk m c 3 t)) (iblk m c 4 t) (iblk m c 5 t) (k0_pay8 (F := Ideal) (iblk m c 7 t))) (k0_pay14 (F := Ideal) (iblk m c 4 t) (iblk m c 6 t) (iblk m c 8 t)) (k0_pay15 (F := Ideal) (iblk m c 4 t)) (k0_pay16 (F := Ideal) (iblk m c 4 t) (iblk m c 6 t) (iblk m c 8 t)) (ix2 i j)
      = OUT m c ⟨t.val * 512 + i, inside t i⟩ j := by
  refine (tile2 _ _ _ _ i j).trans ?_
  rw [tile]
  simp only [prods_eq, read4, read5, read6, read7, read8]
  rfl

theorem point9 (c : Dev nD) (t : Fin cfg0.N) (y) :
    k0_pay2 (F := Ideal) (k0_pay11 (F := Ideal) (prods (iblk m c 0 t) (iblk m c 2 t) (iblk m c 1 t) (iblk m c 3 t)) (iblk m c 4 t) (iblk m c 5 t) (k0_pay8 (F := Ideal) (iblk m c 7 t))) (k0_pay14 (F := Ideal) (iblk m c 4 t) (iblk m c 6 t) (iblk m c 8 t)) (k0_pay15 (F := Ideal) (iblk m c 4 t)) (k0_pay16 (F := Ideal) (iblk m c 4 t) (iblk m c 6 t) (iblk m c 8 t)) y
      = (fun j : S4096x1024.Idx => OUT m c (j 0) (j 1)) (((cfg0.win 9).blk t).view.emb y) := by
  idx_vars y
  refine (OUT_eq m c t y0 y1).trans ?_
  have e0 : ((View.whole main_v14_0).slice (win0_9.rect t)).emb (ix2 y0 y1) 0 = (⟨t.val * 512 + y0, inside t y0⟩ : Fin 4096) := Fin.ext (by blk_point [idx t])
  have e1 : ((View.whole main_v14_0).slice (win0_9.rect t)).emb (ix2 y0 y1) 1 = (y1 : Fin 1024) := Fin.ext (by blk_point [idx t])
  exact (congr (congrArg (fun n => OUT m c n) e0) e1).symm

theorem final9 (c : Dev nD) : (dats m 0 c).arrAt 9 (cfgs 0).N = fun j : S4096x1024.Idx => OUT m c (j 0) (j 1) := by
  refine (dats m 0 c).arrAt_eq_of_covers 9 _ (by decide +kernel) fun t hf y => ?_
  blk_simp; rw [after0_9]
  have ht : t.val < 8 := lt_t t
  by_cases h : t.val % 8 = 0
  · rw [outsAt0_A m c t h (by omega) h (by omega)]
    frame_out
    exact point9 m c t y
  · rw [outsAt0_B m c t h (by omega) h (by omega)]
    frame_out
    exact point9 m c t y

/-- One token's share of the gain's gradient. -/
def dgain (c : Dev nD) (n : Fin 4096) (d : Fin 1024) : EReal := B m c n d * H m c n d * Norm.inv (H m c n)

/-- A tile's sum of it. -/
def tsum (c : Dev nD) (t : Fin cfg0.N) (j : Fin 1024) : EReal := ∑ i : Fin 512, dgain m c ⟨t.val * 512 + i, inside t i⟩ j

/-- The whole sum. -/
def gsum (c : Dev nD) (j : Fin 1024) : EReal := ∑ n : Fin 4096, dgain m c n j

theorem gain_tile (c : Dev nD) (t : Fin cfg0.N) (i : Fin 1) (j : Fin 1024) :
    k0_pay10 (F := Ideal) (prods (iblk m c 0 t) (iblk m c 2 t) (iblk m c 1 t) (iblk m c 3 t)) (iblk m c 4 t) (ix2 i j) = tsum m c t j := by
  refine (gain _ _ i j).trans ?_
  simp only [prods_eq, read4]
  rfl

theorem step (P a : FVec Ideal S1x1024 .f32) (i : Fin 1) (j : Fin 1024) :
    k0_pay3 (F := Ideal) P a (ix2 i j) = (fun (a b : EReal) => a + b) (a (ix2 i j)) (P (ix2 i j)) := by
  pointwise [k0_pay3]

theorem final10 (c : Dev nD) : (dats m 0 c).arrAt 10 (cfgs 0).N = fun j : S1x1024.Idx => gsum m c (j 1) := by
  refine (dats m 0 c).arrAt_eq_of_after_last 10 t0_7 (by decide +kernel) _ fun j => ?_
  blk_simp
  rw [after0_10, Pipeline.eq_sum_fin_of_reset_step_apply_last (fun n h => (outsAt0 m c n h).2.1) 8 (fun _ => (0 : EReal))
    (fun t (j : S1x1024.Idx) => tsum m c t (j 1))
    (fun t h j => by
      have ht := lt_t t
      rw [outsAt0_A m c t h (by omega) h (by omega)]; frame_out; idx_vars j; rw [zero_add]; exact gain_tile m c t _ _)
    (fun t h j => by
      have ht := lt_t t
      rw [outsAt0_B m c t h (by omega) h (by omega)]; frame_out; idx_vars j
      refine (step _ _ _ _).trans ?_
      exact congrArg _ (gain_tile m c t _ _))
    (le_of_eq N_0) t0_7 rfl j, zero_add]
  idx_vars j
  unfold gsum tsum
  rw [Fin.sum_univ_tiles 8 512 rfl]
  rfl

/-- One token's share of the second gain's gradient. -/
def dkv (c : Dev nD) (n : Fin 4096) (d : Fin 1024) : EReal := K m c n d * H m c n d * Norm.inv (H m c n)

/-- A tile's sum of it. -/
def ktsum (c : Dev nD) (t : Fin cfg0.N) (j : Fin 1024) : EReal := ∑ i : Fin 512, dkv m c ⟨t.val * 512 + i, inside t i⟩ j

/-- The whole sum. -/
def ksum (c : Dev nD) (j : Fin 1024) : EReal := ∑ n : Fin 4096, dkv m c n j

theorem kv_tile (c : Dev nD) (t : Fin cfg0.N) (i : Fin 1) (j : Fin 1024) :
    k0_pay1 (F := Ideal) (iblk m c 4 t) (iblk m c 6 t) (k0_pay12 (F := Ideal) (iblk m c 4 t)) (ix2 i j) = ktsum m c t j := by
  refine (gain2 _ _ i j).trans ?_
  simp only [read4, read6]
  rfl

theorem step2 (x D : FVec Ideal S512x1024 .f32) (v : FVec Ideal S512x1 .f32) (a : FVec Ideal S1x1024 .f32) (i : Fin 1) (j : Fin 1024) :
    k0_pay4 (F := Ideal) x D v a (ix2 i j) = (fun (a b : EReal) => a + b) (a (ix2 i j)) (k0_pay1 (F := Ideal) x D v (ix2 i j)) := by
  unfold k0_pay4
  generalize k0_pay1 (F := Ideal) x D v = P
  pointwise []

theorem final11 (c : Dev nD) : (dats m 0 c).arrAt 11 (cfgs 0).N = fun j : S1x1024.Idx => ksum m c (j 1) := by
  refine (dats m 0 c).arrAt_eq_of_after_last 11 t0_7 (by decide +kernel) _ fun j => ?_
  blk_simp
  rw [after0_11, Pipeline.eq_sum_fin_of_reset_step_apply_last (fun n h => (outsAt0 m c n h).2.2) 8 (fun _ => (0 : EReal))
    (fun t (j : S1x1024.Idx) => ktsum m c t (j 1))
    (fun t h j => by
      have ht := lt_t t
      rw [outsAt0_A m c t h (by omega) h (by omega)]; frame_out; idx_vars j; rw [zero_add]; exact kv_tile m c t _ _)
    (fun t h j => by
      have ht := lt_t t
      rw [outsAt0_B m c t h (by omega) h (by omega)]; frame_out; idx_vars j
      refine (step2 _ _ _ _ _ _).trans ?_
      exact congrArg _ (kv_tile m c t _ _))
    (le_of_eq N_0) t0_7 rfl j, zero_add]
  idx_vars j
  unfold ksum ktsum
  rw [Fin.sum_univ_tiles 8 512 rfl]
  rfl

end Kernel

end Cert.Dnx

end
-- ==== Proof.DnxRef.lean ====
/- What the differentiated reference of the same gradients computes, entry by entry. -/
module

public import proofs.«01_k».proof.Defs
public import proofs.«01_k».proof.Proof.Gen.Reference9Ideal.Run
public import proofs.«01_k».proof.Proof.DnxKernel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dnx.Ref

section Reference
open Cert.Reference9Ideal Cert.Reference9Ideal.Gen Cert.Reference9Ideal.Value

/-- Both products' gradients as the reference's operations spell them. -/
def backV (wg wu : FVec Ideal S1024x2816 .f32) (dg du : FVec Ideal S4096x2816 .f32) : FVec Ideal S4096x1024 .f32 :=
  addf (F := Ideal) (Host.dotGeneral (F := Ideal) (φ₁ := .f32) (φ₂ := .f32) dot_S4096x2816_S1024x2816_S4096x1024_1_1_0_0_n_n none du wu)
    (Host.dotGeneral (F := Ideal) (φ₁ := .f32) (φ₂ := .f32) dot_S4096x2816_S1024x2816_S4096x1024_1_1_0_0_n_n none dg wg)

theorem backV_eq (wg wu : FVec Ideal S1024x2816 .f32) (dg du : FVec Ideal S4096x2816 .f32) (n : Fin 4096) (d : Fin 1024) :
    backV wg wu dg du (ix2 n d) = Dn.back wg wu dg du n d := by
  unfold backV
  pointwise [Dn.back]

/-- The differentiated norm of `x` with gain `g`, over the incoming gradient `G`, added to `o`. -/
def addN (o G x : FVec Ideal S4096x1024 .f32) (g : FVec Ideal S1024 .f32) : FVec Ideal S4096x1024 .f32 :=
  addf (F := Ideal) (addf (F := Ideal) (addf (F := Ideal) o (mulf (F := Ideal) (mulf G (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x (broadcastInDim S4096x1024 ![0] bcast_S4096_S4096x1024_0 (Host.reduceAdd (Host.divf (mulf (shapeCast _ (Host.reduceAdd (mulf x (mulf G (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf G (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)

theorem addN_at (o G x : FVec Ideal S4096x1024 .f32) (g : FVec Ideal S1024 .f32) (n : Fin 4096) (d : Fin 1024) : addN o G x g (ix2 n d)
    = (fun (a b : EReal) => a + b) (o (ix2 n d)) (Norm.gradR (fun d => x (ix2 n d)) (fun d => G (ix2 n d) * g (ix1 d)) d) := by
  unfold addN
  pointwise []
  simp only [Fin.sum_univ_one]
  have key : ∀ a b c d : EReal, a + b + c + d = a + (b + c + d) := by
    intro a b c d
    simp only [add_assoc]
  exact key _ _ _ _

/-- The gain's gradient. -/
def gainV (G x : FVec Ideal S4096x1024 .f32) : FVec Ideal S1x1024 .f32 :=
  shapeCast _ (Host.reduceAdd (F := Ideal) (shapeCast _ (Host.reduceAdd (F := Ideal) (mulf (F := Ideal) (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) G) (constant S_ .f32 0x00000000#32) reducesTo_S4096x1024_S1024_d0 h_S_) shapeCasts_S1024_S1x1024) (constant S_ .f32 0x00000000#32) reducesTo_S1x1024_S1024_d0 h_S_) shapeCasts_S1024_S1x1024

theorem gainV_at (G x : FVec Ideal S4096x1024 .f32) (k : Fin 1) (j : Fin 1024) :
    gainV G x (ix2 k j) = ∑ n : Fin 4096, G (ix2 n j) * x (ix2 n j) * Norm.inv (fun d => x (ix2 n d)) := by
  have key : ∀ x i g : EReal, x * i * g = g * x * i := fun x i g => by rw [mul_comm, ← mul_assoc]
  have e : gainV G x (ix2 k j) = ∑ n : Fin 4096, x (ix2 n j) * Norm.inv (fun d => x (ix2 n d)) * G (ix2 n j) := by
    unfold gainV
    pointwise []
    simp only [Fin.sum_univ_one]
    rfl
  exact e.trans (Finset.sum_congr rfl fun n _ => key _ _ _)

variable (m' : (ℓ : Loc nD τ sig) → Buf (Elt Ideal) ℓ)

theorem out0 (c : Dev nD) : res_main_v78 m' c = addN (addN (m' ((c : Thread nD τ).loc main_arg6)) (m' ((c : Thread nD τ).loc main_arg8)) (m' ((c : Thread nD τ).loc main_arg0)) (m' ((c : Thread nD τ).loc main_arg7))) (backV (m' ((c : Thread nD τ).loc main_arg2)) (m' ((c : Thread nD τ).loc main_arg3)) (m' ((c : Thread nD τ).loc main_arg4)) (m' ((c : Thread nD τ).loc main_arg5))) (m' ((c : Thread nD τ).loc main_arg0)) (m' ((c : Thread nD τ).loc main_arg1)) := by
  unfold res_main_v78 addN backV
  rfl

end Reference

end Cert.Dnx.Ref

end
-- ==== Proof.Dnx.lean ====
/- The claim of these gradients: the kernel's form and the differentiated reference agree at real arrays. -/
module

public import proofs.«01_k».proof.Defs
public import proofs.«01_k».proof.Proof.Gen.Reference9Ideal.Run
public import proofs.«01_k».proof.Proof.Gen.Kernel9Ideal.Frame
public import proofs.«01_k».proof.Proof.Gen.Pre_finite_dnx
public import proofs.«01_k».proof.Proof.DnxRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dnx

/-- The arrays the precondition speaks of are real. -/
theorem reals (a0 : FVec Ideal Cert.Kernel9Ideal.S4096x1024 .f32) (a1 : FVec Ideal Cert.Kernel9Ideal.S1024 .f32) (a2 : FVec Ideal Cert.Kernel9Ideal.S1024x2816 .f32) (a3 : FVec Ideal Cert.Kernel9Ideal.S1024x2816 .f32) (a4 : FVec Ideal Cert.Kernel9Ideal.S4096x2816 .f32) (a5 : FVec Ideal Cert.Kernel9Ideal.S4096x2816 .f32) (a6 : FVec Ideal Cert.Kernel9Ideal.S4096x1024 .f32) (a7 : FVec Ideal Cert.Kernel9Ideal.S1024 .f32) (a8 : FVec Ideal Cert.Kernel9Ideal.S4096x1024 .f32)
    (h : (haveI := Cert.Pre_finite_dnx.Gen.facts; Cert.Pre_finite_dnx.fn (F := Ideal) a0 a1 a2 a3 a4 a5 a6 a7 a8) = fun _ => 1#1) :
    Finite.AllReal a0 ∧ Finite.AllReal a1 ∧ Finite.AllReal a2 ∧ Finite.AllReal a3 ∧ Finite.AllReal a4 ∧ Finite.AllReal a5 ∧ Finite.AllReal a7 ∧ Finite.AllReal a8 := by
  have h := congrFun h ix0
  simp only [Cert.Pre_finite_dnx.fn, Cert.Pre_finite_dnx.fn_part1] at h
  obtain ⟨h, h8⟩ := IntOp.andi_eq_one.1 h
  obtain ⟨h, h7⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all_real a0 _ (fun _ => Finite.inf_word) _ _ _ _ h0,
    Finite.all_real a1 _ (fun _ => Finite.inf_word) _ _ _ _ h1,
    Finite.all_real a2 _ (fun _ => Finite.inf_word) _ _ _ _ h2,
    Finite.all_real a3 _ (fun _ => Finite.inf_word) _ _ _ _ h3,
    Finite.all_real a4 _ (fun _ => Finite.inf_word) _ _ _ _ h4,
    Finite.all_real a5 _ (fun _ => Finite.inf_word) _ _ _ _ h5,
    Finite.all_real a7 _ (fun _ => Finite.inf_word) _ _ _ _ h7,
    Finite.all_real a8 _ (fun _ => Finite.inf_word) _ _ _ _ h8⟩

section Claim

variable (m : (ℓ : Loc Cert.Kernel9Ideal.nD Cert.Kernel9Ideal.τ Cert.Kernel9Ideal.sig) → Buf (Elt Ideal) ℓ)
  (m' : (ℓ : Loc Cert.Reference9Ideal.nD Cert.Reference9Ideal.τ Cert.Reference9Ideal.sig) → Buf (Elt Ideal) ℓ)

/-- The two launches hold the same arrays, and these are real where it matters. -/
structure Same (c : Dev Cert.Kernel9Ideal.nD) : Prop where
  e0 : m' ((c : Thread Cert.Reference9Ideal.nD Cert.Reference9Ideal.τ).loc Cert.Reference9Ideal.main_arg0) = m ((c : Thread Cert.Kernel9Ideal.nD Cert.Kernel9Ideal.τ).loc Cert.Kernel9Ideal.main_arg0)
  e1 : m' ((c : Thread Cert.Reference9Ideal.nD Cert.Reference9Ideal.τ).loc Cert.Reference9Ideal.main_arg1) = m ((c : Thread Cert.Kernel9Ideal.nD Cert.Kernel9Ideal.τ).loc Cert.Kernel9Ideal.main_arg1)
  e2 : m' ((c : Thread Cert.Reference9Ideal.nD Cert.Reference9Ideal.τ).loc Cert.Reference9Ideal.main_arg2) = m ((c : Thread Cert.Kernel9Ideal.nD Cert.Kernel9Ideal.τ).loc Cert.Kernel9Ideal.main_arg2)
  e3 : m' ((c : Thread Cert.Reference9Ideal.nD Cert.Reference9Ideal.τ).loc Cert.Reference9Ideal.main_arg3) = m ((c : Thread Cert.Kernel9Ideal.nD Cert.Kernel9Ideal.τ).loc Cert.Kernel9Ideal.main_arg3)
  e4 : m' ((c : Thread Cert.Reference9Ideal.nD Cert.Reference9Ideal.τ).loc Cert.Reference9Ideal.main_arg4) = m ((c : Thread Cert.Kernel9Ideal.nD Cert.Kernel9Ideal.τ).loc Cert.Kernel9Ideal.main_arg4)
  e5 : m' ((c : Thread Cert.Reference9Ideal.nD Cert.Reference9Ideal.τ).loc Cert.Reference9Ideal.main_arg5) = m ((c : Thread Cert.Kernel9Ideal.nD Cert.Kernel9Ideal.τ).loc Cert.Kernel9Ideal.main_arg5)
  e6 : m' ((c : Thread Cert.Reference9Ideal.nD Cert.Reference9Ideal.τ).loc Cert.Reference9Ideal.main_arg6) = m ((c : Thread Cert.Kernel9Ideal.nD Cert.Kernel9Ideal.τ).loc Cert.Kernel9Ideal.main_arg6)
  e7 : m' ((c : Thread Cert.Reference9Ideal.nD Cert.Reference9Ideal.τ).loc Cert.Reference9Ideal.main_arg7) = m ((c : Thread Cert.Kernel9Ideal.nD Cert.Kernel9Ideal.τ).loc Cert.Kernel9Ideal.main_arg7)
  e8 : m' ((c : Thread Cert.Reference9Ideal.nD Cert.Reference9Ideal.τ).loc Cert.Reference9Ideal.main_arg8) = m ((c : Thread Cert.Kernel9Ideal.nD Cert.Kernel9Ideal.τ).loc Cert.Kernel9Ideal.main_arg8)
  r0 : Finite.AllReal (s := Cert.Kernel9Ideal.S4096x1024) (m ((c : Thread Cert.Kernel9Ideal.nD Cert.Kernel9Ideal.τ).loc Cert.Kernel9Ideal.main_arg0))
  r1 : Finite.AllReal (s := Cert.Kernel9Ideal.S1024) (m ((c : Thread Cert.Kernel9Ideal.nD Cert.Kernel9Ideal.τ).loc Cert.Kernel9Ideal.main_arg1))
  r2 : Finite.AllReal (s := Cert.Kernel9Ideal.S1024x2816) (m ((c : Thread Cert.Kernel9Ideal.nD Cert.Kernel9Ideal.τ).loc Cert.Kernel9Ideal.main_arg2))
  r3 : Finite.AllReal (s := Cert.Kernel9Ideal.S1024x2816) (m ((c : Thread Cert.Kernel9Ideal.nD Cert.Kernel9Ideal.τ).loc Cert.Kernel9Ideal.main_arg3))
  r4 : Finite.AllReal (s := Cert.Kernel9Ideal.S4096x2816) (m ((c : Thread Cert.Kernel9Ideal.nD Cert.Kernel9Ideal.τ).loc Cert.Kernel9Ideal.main_arg4))
  r5 : Finite.AllReal (s := Cert.Kernel9Ideal.S4096x2816) (m ((c : Thread Cert.Kernel9Ideal.nD Cert.Kernel9Ideal.τ).loc Cert.Kernel9Ideal.main_arg5))
  r7 : Finite.AllReal (s := Cert.Kernel9Ideal.S1024) (m ((c : Thread Cert.Kernel9Ideal.nD Cert.Kernel9Ideal.τ).loc Cert.Kernel9Ideal.main_arg7))
  r8 : Finite.AllReal (s := Cert.Kernel9Ideal.S4096x1024) (m ((c : Thread Cert.Kernel9Ideal.nD Cert.Kernel9Ideal.τ).loc Cert.Kernel9Ideal.main_arg8))

variable {m m'} {c : Dev Cert.Kernel9Ideal.nD} (S : Same m m' c)
include S

theorem B_real (n d) : ∃ r : ℝ, B m c n d = r :=
  Finite.real_add (Finite.real_sum _ _ fun _ => Finite.real_mul (S.r5 _) (S.r3 _)) (Finite.real_sum _ _ fun _ => Finite.real_mul (S.r4 _) (S.r2 _))

theorem Y_real (n d) : ∃ r : ℝ, Y m c n d = r := Finite.real_mul (B_real S n d) (S.r1 _)

theorem out_eq (n : Fin 4096) (d : Fin 1024) : Cert.Reference9Ideal.Value.res_main_v78 m' c (ix2 n d) = OUT m c n d := by
  rw [Ref.out0, S.e0, S.e1, S.e2, S.e3, S.e4, S.e5, S.e6, S.e7, S.e8]
  refine (Ref.addN_at _ _ _ _ n d).trans ?_
  rw [Ref.addN_at]
  simp only [Ref.backV_eq]
  have h1 := (Norm.grad_eq (H m c n) (Y m c n) (fun _ => S.r0 _) (Y_real S n) d).1
  have h2 := (Norm.grad_eq (H m c n) (Z m c n) (fun _ => S.r0 _) (fun _ => Finite.real_mul (S.r8 _) (S.r7 _)) d).1
  unfold OUT
  rw [h1, h2]
  exact add_right_comm (_ : EReal) _ _

theorem gsum_eq (k : Fin 1) (j : Fin 1024) :
    Ref.gainV (Ref.backV (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3)) (m ((c : Thread Cert.Kernel9Ideal.nD Cert.Kernel9Ideal.τ).loc Cert.Kernel9Ideal.main_arg4)) (m ((c : Thread Cert.Kernel9Ideal.nD Cert.Kernel9Ideal.τ).loc Cert.Kernel9Ideal.main_arg5))) (m ((c : Thread Cert.Kernel9Ideal.nD Cert.Kernel9Ideal.τ).loc Cert.Kernel9Ideal.main_arg0)) (ix2 k j) = gsum m c j := by
  refine (Ref.gainV_at _ _ k j).trans ?_
  simp only [Ref.backV_eq]
  rfl

theorem ksum_eq (k : Fin 1) (j : Fin 1024) : Ref.gainV (m ((c : Thread Cert.Kernel9Ideal.nD Cert.Kernel9Ideal.τ).loc Cert.Kernel9Ideal.main_arg8)) (m ((c : Thread Cert.Kernel9Ideal.nD Cert.Kernel9Ideal.τ).loc Cert.Kernel9Ideal.main_arg0)) (ix2 k j) = ksum m c j :=
  (Ref.gainV_at _ _ k j).trans rfl

end Claim

set_option maxHeartbeats 4000000 in
theorem algebraic : Cert.algebraic_Kernel9Ideal_Reference9Ideal_pre_finite_dnx := by
  pair_intro
  · run_from Cert.Kernel9Ideal.Gen.run_main m g
  · have S : ∀ c, Same m m' c := fun c => by
      obtain ⟨h0, h1, h2, h3, h4, h5, h6, h7, h8⟩ := hagree c
      obtain ⟨r0, r1, r2, r3, r4, r5, r7, r8⟩ := reals _ _ _ _ _ _ _ _ _ (hpre c)
      exact ⟨h0, h1, h2, h3, h4, h5, h6, h7, h8, r0, r1, r2, r3, r4, r5, r7, r8⟩
    run_from Cert.Reference9Ideal.Value.run m' g'
    · rw [final9 m c]; funext j; idx_vars j
      exact out_eq (S c) _ _
    · rw [final10 m c]; funext j; idx_vars j
      exact gsum_eq (S c) _ _
    · rw [final11 m c]; funext j; idx_vars j
      exact ksum_eq (S c) _ _

end Cert.Dnx

end
-- ==== Proof.DntKernel.lean ====
/- The gradient of the up products' input that goes on through the norm of the mixer before them. -/
module

public import proofs.«01_k».proof.Defs
public import proofs.«01_k».proof.Proof.Gen.Kernel10Ideal.Frame
public import proofs.«01_k».proof.Proof.DnKernel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dnt

section Kernel
open Cert.Kernel10Ideal Cert.Kernel10Ideal.Gen

variable (m : (ℓ : Loc nD τ sig) → Buf (Elt Ideal) ℓ)

theorem idx : ∀ t : Fin cfg0.N, win0_0.index t = ![0, t.val, 0]
    ∧ win0_1.index t = ![0, 0, 0]
    ∧ win0_2.index t = ![0, t.val, 0]
    ∧ win0_3.index t = ![0, 0, 0]
    ∧ win0_4.index t = ![t.val, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![t.val, 0]
    ∧ win0_11.index t = ![0, 0]
    ∧ win0_12.index t = ![0, 0] :=
  (by decide +kernel : ∀ t : Fin grid0.N, _)

theorem lt_t (t : Fin cfg0.N) : t.val < 8 := lt_of_lt_of_eq t.isLt (show cfg0.N = 8 from N_0)

theorem inside (t : Fin cfg0.N) (r : Fin 512) : t.val * 512 + r.val < 4096 := by
  have := lt_t t
  omega

/-- A token's activations before the norm. -/
abbrev H (c : Dev nD) (n : Fin 4096) : Fin 1024 → EReal := fun d => (m ((c : Thread nD τ).loc main_arg0) : FVec Ideal S4096x1024 .f32) (ix2 n d)

/-- The gradient that reaches the norm's output in the launch. -/
abbrev B (c : Dev nD) (n : Fin 4096) : Fin 1024 → EReal :=
  Dn.back (m ((c : Thread nD τ).loc main_arg2)) (m ((c : Thread nD τ).loc main_arg3)) (m ((c : Thread nD τ).loc main_arg4)) (m ((c : Thread nD τ).loc main_arg5)) n

/-- The same, times the norm's gain. -/
abbrev Y (c : Dev nD) (n : Fin 4096) : Fin 1024 → EReal := fun d => B m c n d * (m ((c : Thread nD τ).loc main_arg1) : FVec Ideal S1024 .f32) (ix1 d)

theorem read0 (c : Dev nD) (t : Fin cfg0.N) (s : Fin 4) (i : Fin 512) (j : Fin 704) :
    iblk m c 0 t (ix3 s i j) = m ((c : Thread nD τ).loc main_arg4) (ix2 ⟨t.val * 512 + i, inside t i⟩ ⟨(s : ℕ) * 704 + j, by omega⟩) := by
  have e : iblk m c 0 t (ix3 s i j) = V m c main_v2 (ix3 s ⟨t.val * 512 + i, inside t i⟩ j) := by blk_point [iblk, idx t]
  rw [e]
  entry_read
  pointwise []

theorem read1 (c : Dev nD) (t : Fin cfg0.N) (s : Fin 4) (i : Fin 704) (j : Fin 1024) :
    iblk m c 1 t (ix3 s i j) = m ((c : Thread nD τ).loc main_arg2) (ix2 j ⟨(s : ℕ) * 704 + i, by omega⟩) := by
  have e : iblk m c 1 t (ix3 s i j) = V m c main_v8 (ix3 s i j) := by blk_point [iblk, idx t]
  rw [e]
  entry_read
  pointwise []

theorem read2 (c : Dev nD) (t : Fin cfg0.N) (s : Fin 4) (i : Fin 512) (j : Fin 704) :
    iblk m c 2 t (ix3 s i j) = m ((c : Thread nD τ).loc main_arg5) (ix2 ⟨t.val * 512 + i, inside t i⟩ ⟨(s : ℕ) * 704 + j, by omega⟩) := by
  have e : iblk m c 2 t (ix3 s i j) = V m c main_v5 (ix3 s ⟨t.val * 512 + i, inside t i⟩ j) := by blk_point [iblk, idx t]
  rw [e]
  entry_read
  pointwise []

theorem read3 (c : Dev nD) (t : Fin cfg0.N) (s : Fin 4) (i : Fin 704) (j : Fin 1024) :
    iblk m c 3 t (ix3 s i j) = m ((c : Thread nD τ).loc main_arg3) (ix2 j ⟨(s : ℕ) * 704 + i, by omega⟩) := by
  have e : iblk m c 3 t (ix3 s i j) = V m c main_v11 (ix3 s i j) := by blk_point [iblk, idx t]
  rw [e]
  entry_read
  pointwise []

theorem read4 (c : Dev nD) (t : Fin cfg0.N) (i : Fin 512) (j : Fin 1024) :
    iblk m c 4 t (ix2 i j) = m ((c : Thread nD τ).loc main_arg0) (ix2 ⟨t.val * 512 + i, inside t i⟩ j) := by
  blk_point [iblk, V, idx t]

theorem read5 (c : Dev nD) (t : Fin cfg0.N) (i : Fin 512) (j : Fin 1024) :
    iblk m c 5 t (ix2 i j) = m ((c : Thread nD τ).loc main_arg6) (ix2 ⟨t.val * 512 + i, inside t i⟩ j) := by
  blk_point [iblk, V, idx t]

theorem read6 (c : Dev nD) (t : Fin cfg0.N) (i : Fin 1) (j : Fin 1024) :
    iblk m c 6 t (ix2 i j) = m ((c : Thread nD τ).loc main_arg1) (ix1 j) := by
  have e : iblk m c 6 t (ix2 i j) = V m c main_v12 (ix2 i j) := by blk_point [iblk, idx t]
  rw [e]
  entry_read
  pointwise []

theorem read7 (c : Dev nD) (t : Fin cfg0.N) (i : Fin 1) (j : Fin 1024) :
    iblk m c 7 t (ix2 i j) = m ((c : Thread nD τ).loc main_arg8) (ix1 j) := by
  have e : iblk m c 7 t (ix2 i j) = V m c main_v13 (ix2 i j) := by blk_point [iblk, idx t]
  rw [e]
  entry_read
  pointwise []

theorem read8 (c : Dev nD) (t : Fin cfg0.N) (i : Fin 512) (j : Fin 1024) :
    iblk m c 8 t (ix2 i j) = m ((c : Thread nD τ).loc main_arg7) (ix2 ⟨t.val * 512 + i, inside t i⟩ j) := by
  blk_point [iblk, V, idx t]

/-- The eight products of a tile, summed in the kernel's order. -/
def prods (b0 b2 : Vec Ideal S4x512x704 .bf16) (b1 b3 : Vec Ideal S4x704x1024 .bf16) : FVec Ideal S512x1024 .f32 :=
  k0_pay7 (F := Ideal)
    (k0_pay5 (F := Ideal) (View.ld (Val := Elt Ideal) (e' := .bf16) b0 (Rect.unit (s := S4x512x704) ![0, 0, 0] ![1, 512, 704] inb_S4x512x704_S1x512x704_0_0_0))
      (View.ld (Val := Elt Ideal) (e' := .bf16) b1 (Rect.unit (s := S4x704x1024) ![0, 0, 0] ![1, 704, 1024] inb_S4x704x1024_S1x704x1024_0_0_0))
      (View.ld (Val := Elt Ideal) (e' := .bf16) b0 (Rect.unit (s := S4x512x704) ![1, 0, 0] ![1, 512, 704] inb_S4x512x704_S1x512x704_1_0_0))
      (View.ld (Val := Elt Ideal) (e' := .bf16) b1 (Rect.unit (s := S4x704x1024) ![1, 0, 0] ![1, 704, 1024] inb_S4x704x1024_S1x704x1024_1_0_0))
      (View.ld (Val := Elt Ideal) (e' := .bf16) b0 (Rect.unit (s := S4x512x704) ![2, 0, 0] ![1, 512, 704] inb_S4x512x704_S1x512x704_2_0_0))
      (View.ld (Val := Elt Ideal) (e' := .bf16) b1 (Rect.unit (s := S4x704x1024) ![2, 0, 0] ![1, 704, 1024] inb_S4x704x1024_S1x704x1024_2_0_0))
      (View.ld (Val := Elt Ideal) (e' := .bf16) b0 (Rect.unit (s := S4x512x704) ![3, 0, 0] ![1, 512, 704] inb_S4x512x704_S1x512x704_3_0_0))
      (View.ld (Val := Elt Ideal) (e' := .bf16) b1 (Rect.unit (s := S4x704x1024) ![3, 0, 0] ![1, 704, 1024] inb_S4x704x1024_S1x704x1024_3_0_0)))
    (k0_pay6 (F := Ideal) (View.ld (Val := Elt Ideal) (e' := .bf16) b2 (Rect.unit (s := S4x512x704) ![0, 0, 0] ![1, 512, 704] inb_S4x512x704_S1x512x704_0_0_0)))
    (View.ld (Val := Elt Ideal) (e' := .bf16) b3 (Rect.unit (s := S4x704x1024) ![0, 0, 0] ![1, 704, 1024] inb_S4x704x1024_S1x704x1024_0_0_0))
    (View.ld (Val := Elt Ideal) (e' := .bf16) b2 (Rect.unit (s := S4x512x704) ![1, 0, 0] ![1, 512, 704] inb_S4x512x704_S1x512x704_1_0_0))
    (View.ld (Val := Elt Ideal) (e' := .bf16) b3 (Rect.unit (s := S4x704x1024) ![1, 0, 0] ![1, 704, 1024] inb_S4x704x1024_S1x704x1024_1_0_0))
    (View.ld (Val := Elt Ideal) (e' := .bf16) b2 (Rect.unit (s := S4x512x704) ![2, 0, 0] ![1, 512, 704] inb_S4x512x704_S1x512x704_2_0_0))
    (View.ld (Val := Elt Ideal) (e' := .bf16) b3 (Rect.unit (s := S4x704x1024) ![2, 0, 0] ![1, 704, 1024] inb_S4x704x1024_S1x704x1024_2_0_0))
    (View.ld (Val := Elt Ideal) (e' := .bf16) b2 (Rect.unit (s := S4x512x704) ![3, 0, 0] ![1, 512, 704] inb_S4x512x704_S1x512x704_3_0_0))
    (View.ld (Val := Elt Ideal) (e' := .bf16) b3 (Rect.unit (s := S4x704x1024) ![3, 0, 0] ![1, 704, 1024] inb_S4x704x1024_S1x704x1024_3_0_0))

theorem prods_eq (c : Dev nD) (t : Fin cfg0.N) (i : Fin 512) (j : Fin 1024) :
    prods (iblk m c 0 t) (iblk m c 2 t) (iblk m c 1 t) (iblk m c 3 t) (ix2 i j) = B m c ⟨t.val * 512 + i, inside t i⟩ j := by
  unfold prods
  pointwise [k0_pay5, k0_pay6, k0_pay7]
  simp only [read0, read1, read2, read3]
  have key : ∀ a0 a1 a2 a3 b0 b1 b2 b3 : EReal,
      a0 + a1 + a2 + a3 + b0 + b1 + b2 + b3 = (b0 + b1 + b2 + b3) + (a0 + a1 + a2 + a3) := by
    intro a0 a1 a2 a3 b0 b1 b2 b3
    rw [add_comm (b0 + b1 + b2 + b3)]
    simp only [add_assoc]
  unfold B Dn.back
  rw [Fin.sum_univ_tiles 4 704 rfl, Fin.sum_univ_tiles 4 704 rfl, Fin.sum_univ_four, Fin.sum_univ_four]
  exact key _ _ _ _ _ _ _ _

theorem tile (G h o : FVec Ideal S512x1024 .f32) (g : FVec Ideal S1x1024 .f32) (i : Fin 512) (j : Fin 1024) :
    k0_pay12 (F := Ideal) G h o (k0_pay8 (F := Ideal) g) (ix2 i j)
      = (fun (a b : EReal) => a + b) (o (ix2 i j)) (Norm.gradK (fun d => h (ix2 i d)) (fun d => G (ix2 i d) * g (ix2 0 d)) j) := by
  pointwise [k0_pay12, k0_pay8, k0_pay10]
  rfl

/-- The gradient that goes on through the second norm is the first result. -/
theorem scaled (G h o : FVec Ideal S512x1024 .f32) (g : FVec Ideal S1x1024 .f32) (i : Fin 512) (j : Fin 1024) :
    k0_pay13 (F := Ideal) G h o g (ix2 i j) = k0_pay12 (F := Ideal) G h o g (ix2 i j) := by
  unfold k0_pay13
  generalize k0_pay12 (F := Ideal) G h o g = P
  pointwise []

/-- The second norm's gradient over any incoming gradient. -/
theorem mixTile (G h o x : FVec Ideal S512x1024 .f32) (g q : FVec Ideal S1x1024 .f32) (i : Fin 512) (j : Fin 1024) :
    k0_pay2 (F := Ideal) x (k0_pay15 (F := Ideal) G h o g (k0_pay9 (F := Ideal) q)) (k0_pay16 (F := Ideal) G h o g (k0_pay9 (F := Ideal) q) x) (k0_pay17 (F := Ideal) x) (ix2 i j)
      = Norm.gradK (fun d => x (ix2 i d)) (fun d => (k0_pay12 (F := Ideal) G h o g (ix2 i d) : EReal) * q (ix2 0 d)) j := by
  simp only [← scaled]
  unfold k0_pay16 k0_pay15
  generalize k0_pay13 (F := Ideal) G h o g = P
  pointwise [k0_pay2, k0_pay17, k0_pay14, k0_pay9]
  rfl

theorem gain (G h : FVec Ideal S512x1024 .f32) (i : Fin 1) (j : Fin 1024) :
    k0_pay11 (F := Ideal) G h (ix2 i j)
      = ∑ n : Fin 512, G (ix2 n j) * h (ix2 n j) * Norm.inv (fun d => h (ix2 n d)) := by
  pointwise [k0_pay11, k0_pay10]
  rfl

theorem mixGain (G h o x : FVec Ideal S512x1024 .f32) (g : FVec Ideal S1x1024 .f32) (i : Fin 1) (j : Fin 1024) :
    k0_pay1 (F := Ideal) x (k0_pay13 (F := Ideal) G h o g) (k0_pay14 (F := Ideal) x) (ix2 i j)
      = ∑ n : Fin 512, (k0_pay12 (F := Ideal) G h o g (ix2 n j) : EReal) * x (ix2 n j) * Norm.inv (fun d => x (ix2 n d)) := by
  simp only [← scaled]
  generalize k0_pay13 (F := Ideal) G h o g = P
  pointwise [k0_pay1, k0_pay14]
  rfl

/-- What passed by, and the norm's gradient. -/
def OUT (c : Dev nD) (n : Fin 4096) (d : Fin 1024) : EReal :=
  (fun (a b : EReal) => a + b) (m ((c : Thread nD τ).loc main_arg6) (ix2 n d)) (Norm.gradK (H m c n) (Y m c n) d)

/-- The tile's first result in the launch. -/
abbrev DH (c : Dev nD) (t : Fin cfg0.N) : FVec Ideal S512x1024 .f32 :=
  k0_pay12 (F := Ideal) (prods (iblk m c 0 t) (iblk m c 2 t) (iblk m c 1 t) (iblk m c 3 t)) (iblk m c 4 t) (iblk m c 5 t) (k0_pay8 (F := Ideal) (iblk m c 6 t))

theorem DH_eq (c : Dev nD) (t : Fin cfg0.N) (i : Fin 512) (j : Fin 1024) : DH m c t (ix2 i j) = OUT m c ⟨t.val * 512 + i, inside t i⟩ j := by
  refine (tile _ _ _ _ i j).trans ?_
  simp only [prods_eq, read4, read5, read6]
  rfl

/-- A token's output of the mixer, before its norm. -/
abbrev X (c : Dev nD) (n : Fin 4096) : Fin 1024 → EReal := fun d => (m ((c : Thread nD τ).loc main_arg7) : FVec Ideal S4096x1024 .f32) (ix2 n d)

/-- The gradient of it. -/
def MIX (c : Dev nD) (n : Fin 4096) (d : Fin 1024) : EReal :=
  Norm.gradK (X m c n) (fun d => OUT m c n d * (m ((c : Thread nD τ).loc main_arg8) : FVec Ideal S1024 .f32) (ix1 d)) d

theorem MIX_eq (c : Dev nD) (t : Fin cfg0.N) (i : Fin 512) (j : Fin 1024) :
    k0_pay2 (F := Ideal) (iblk m c 8 t)
      (k0_pay15 (F := Ideal) (prods (iblk m c 0 t) (iblk m c 2 t) (iblk m c 1 t) (iblk m c 3 t)) (iblk m c 4 t) (iblk m c 5 t) (k0_pay8 (F := Ideal) (iblk m c 6 t)) (k0_pay9 (F := Ideal) (iblk m c 7 t)))
      (k0_pay16 (F := Ideal) (prods (iblk m c 0 t) (iblk m c 2 t) (iblk m c 1 t) (iblk m c 3 t)) (iblk m c 4 t) (iblk m c 5 t) (k0_pay8 (F := Ideal) (iblk m c 6 t)) (k0_pay9 (F := Ideal) (iblk m c 7 t)) (iblk m c 8 t))
      (k0_pay17 (F := Ideal) (iblk m c 8 t)) (ix2 i j) = MIX m c ⟨t.val * 512 + i, inside t i⟩ j := by
  refine (mixTile _ _ _ _ _ _ i j).trans ?_
  have h := fun d => DH_eq m c t i d
  unfold DH at h
  simp only [h, read7, read8]
  rfl

theorem point9 (c : Dev nD) (t : Fin cfg0.N) (y) :
    DH m c t y
      = (fun j : S4096x1024.Idx => OUT m c (j 0) (j 1)) (((cfg0.win 9).blk t).view.emb y) := by
  idx_vars y
  refine (DH_eq m c t y0 y1).trans ?_
  have e0 : ((View.whole main_v14_0).slice (win0_9.rect t)).emb (ix2 y0 y1) 0 = (⟨t.val * 512 + y0, inside t y0⟩ : Fin 4096) := Fin.ext (by blk_point [idx t])
  have e1 : ((View.whole main_v14_0).slice (win0_9.rect t)).emb (ix2 y0 y1) 1 = (y1 : Fin 1024) := Fin.ext (by blk_point [idx t])
  exact (congr (congrArg (fun n => OUT m c n) e0) e1).symm

theorem final9 (c : Dev nD) : (dats m 0 c).arrAt 9 (cfgs 0).N = fun j : S4096x1024.Idx => OUT m c (j 0) (j 1) := by
  refine (dats m 0 c).arrAt_eq_of_covers 9 _ (by decide +kernel) fun t hf y => ?_
  blk_simp; rw [after0_9]
  have ht : t.val < 8 := lt_t t
  by_cases h : t.val % 8 = 0
  · rw [outsAt0_A m c t h (by omega) h (by omega)]
    frame_out
    exact point9 m c t y
  · rw [outsAt0_B m c t h (by omega) h (by omega)]
    frame_out
    exact point9 m c t y

theorem point10 (c : Dev nD) (t : Fin cfg0.N) (y) :
    k0_pay2 (F := Ideal) (iblk m c 8 t)
      (k0_pay15 (F := Ideal) (prods (iblk m c 0 t) (iblk m c 2 t) (iblk m c 1 t) (iblk m c 3 t)) (iblk m c 4 t) (iblk m c 5 t) (k0_pay8 (F := Ideal) (iblk m c 6 t)) (k0_pay9 (F := Ideal) (iblk m c 7 t)))
      (k0_pay16 (F := Ideal) (prods (iblk m c 0 t) (iblk m c 2 t) (iblk m c 1 t) (iblk m c 3 t)) (iblk m c 4 t) (iblk m c 5 t) (k0_pay8 (F := Ideal) (iblk m c 6 t)) (k0_pay9 (F := Ideal) (iblk m c 7 t)) (iblk m c 8 t))
      (k0_pay17 (F := Ideal) (iblk m c 8 t)) y
      = (fun j : S4096x1024.Idx => MIX m c (j 0) (j 1)) (((cfg0.win 10).blk t).view.emb y) := by
  idx_vars y
  refine (MIX_eq m c t y0 y1).trans ?_
  have e0 : ((View.whole main_v14_1).slice (win0_10.rect t)).emb (ix2 y0 y1) 0 = (⟨t.val * 512 + y0, inside t y0⟩ : Fin 4096) := Fin.ext (by blk_point [idx t])
  have e1 : ((View.whole main_v14_1).slice (win0_10.rect t)).emb (ix2 y0 y1) 1 = (y1 : Fin 1024) := Fin.ext (by blk_point [idx t])
  exact (congr (congrArg (fun n => MIX m c n) e0) e1).symm

theorem final10 (c : Dev nD) : (dats m 0 c).arrAt 10 (cfgs 0).N = fun j : S4096x1024.Idx => MIX m c (j 0) (j 1) := by
  refine (dats m 0 c).arrAt_eq_of_covers 10 _ (by decide +kernel) fun t hf y => ?_
  blk_simp; rw [after0_10]
  have ht : t.val < 8 := lt_t t
  by_cases h : t.val % 8 = 0
  · rw [outsAt0_A m c t h (by omega) h (by omega)]
    frame_out
    exact point10 m c t y
  · rw [outsAt0_B m c t h (by omega) h (by omega)]
    frame_out
    exact point10 m c t y

/-- One token's share of the gain's gradient. -/
def dgain (c : Dev nD) (n : Fin 4096) (d : Fin 1024) : EReal := B m c n d * H m c n d * Norm.inv (H m c n)

/-- A tile's sum of it. -/
def tsum (c : Dev nD) (t : Fin cfg0.N) (j : Fin 1024) : EReal := ∑ i : Fin 512, dgain m c ⟨t.val * 512 + i, inside t i⟩ j

/-- The whole sum. -/
def gsum (c : Dev nD) (j : Fin 1024) : EReal := ∑ n : Fin 4096, dgain m c n j

theorem gain_tile (c : Dev nD) (t : Fin cfg0.N) (i : Fin 1) (j : Fin 1024) :
    k0_pay11 (F := Ideal) (prods (iblk m c 0 t) (iblk m c 2 t) (iblk m c 1 t) (iblk m c 3 t)) (iblk m c 4 t) (ix2 i j) = tsum m c t j := by
  refine (gain _ _ i j).trans ?_
  simp only [prods_eq, read4]
  rfl

theorem step (P a : FVec Ideal S1x1024 .f32) (i : Fin 1) (j : Fin 1024) :
    k0_pay3 (F := Ideal) P a (ix2 i j) = (fun (a b : EReal) => a + b) (a (ix2 i j)) (P (ix2 i j)) := by
  pointwise [k0_pay3]

theorem final11 (c : Dev nD) : (dats m 0 c).arrAt 11 (cfgs 0).N = fun j : S1x1024.Idx => gsum m c (j 1) := by
  refine (dats m 0 c).arrAt_eq_of_after_last 11 t0_7 (by decide +kernel) _ fun j => ?_
  blk_simp
  rw [after0_11, Pipeline.eq_sum_fin_of_reset_step_apply_last (fun n h => (outsAt0 m c n h).2.2.1) 8 (fun _ => (0 : EReal))
    (fun t (j : S1x1024.Idx) => tsum m c t (j 1))
    (fun t h j => by
      have ht := lt_t t
      rw [outsAt0_A m c t h (by omega) h (by omega)]; frame_out; idx_vars j; rw [zero_add]; exact gain_tile m c t _ _)
    (fun t h j => by
      have ht := lt_t t
      rw [outsAt0_B m c t h (by omega) h (by omega)]; frame_out; idx_vars j
      refine (step _ _ _ _).trans ?_
      exact congrArg _ (gain_tile m c t _ _))
    (le_of_eq N_0) t0_7 rfl j, zero_add]
  idx_vars j
  unfold gsum tsum
  rw [Fin.sum_univ_tiles 8 512 rfl]
  rfl

/-- One token's share of the second gain's gradient. -/
def dmix (c : Dev nD) (n : Fin 4096) (d : Fin 1024) : EReal := OUT m c n d * X m c n d * Norm.inv (X m c n)

/-- A tile's sum of it. -/
def mtsum (c : Dev nD) (t : Fin cfg0.N) (j : Fin 1024) : EReal := ∑ i : Fin 512, dmix m c ⟨t.val * 512 + i, inside t i⟩ j

/-- The whole sum. -/
def msum (c : Dev nD) (j : Fin 1024) : EReal := ∑ n : Fin 4096, dmix m c n j

theorem mix_tile (c : Dev nD) (t : Fin cfg0.N) (i : Fin 1) (j : Fin 1024) :
    k0_pay1 (F := Ideal) (iblk m c 8 t) (k0_pay13 (F := Ideal) (prods (iblk m c 0 t) (iblk m c 2 t) (iblk m c 1 t) (iblk m c 3 t)) (iblk m c 4 t) (iblk m c 5 t) (k0_pay8 (F := Ideal) (iblk m c 6 t)))
      (k0_pay14 (F := Ideal) (iblk m c 8 t)) (ix2 i j) = mtsum m c t j := by
  refine (mixGain _ _ _ _ _ i j).trans ?_
  have h := fun i => DH_eq m c t i j
  unfold DH at h
  simp only [h, read8]
  rfl

theorem step2 (x D : FVec Ideal S512x1024 .f32) (v : FVec Ideal S512x1 .f32) (a : FVec Ideal S1x1024 .f32) (i : Fin 1) (j : Fin 1024) :
    k0_pay4 (F := Ideal) x D v a (ix2 i j) = (fun (a b : EReal) => a + b) (a (ix2 i j)) (k0_pay1 (F := Ideal) x D v (ix2 i j)) := by
  unfold k0_pay4
  generalize k0_pay1 (F := Ideal) x D v = P
  pointwise []

theorem final12 (c : Dev nD) : (dats m 0 c).arrAt 12 (cfgs 0).N = fun j : S1x1024.Idx => msum m c (j 1) := by
  refine (dats m 0 c).arrAt_eq_of_after_last 12 t0_7 (by decide +kernel) _ fun j => ?_
  blk_simp
  rw [after0_12, Pipeline.eq_sum_fin_of_reset_step_apply_last (fun n h => (outsAt0 m c n h).2.2.2) 8 (fun _ => (0 : EReal))
    (fun t (j : S1x1024.Idx) => mtsum m c t (j 1))
    (fun t h j => by
      have ht := lt_t t
      rw [outsAt0_A m c t h (by omega) h (by omega)]; frame_out; idx_vars j; rw [zero_add]; exact mix_tile m c t _ _)
    (fun t h j => by
      have ht := lt_t t
      rw [outsAt0_B m c t h (by omega) h (by omega)]; frame_out; idx_vars j
      refine (step2 _ _ _ _ _ _).trans ?_
      exact congrArg _ (mix_tile m c t _ _))
    (le_of_eq N_0) t0_7 rfl j, zero_add]
  idx_vars j
  unfold msum mtsum
  rw [Fin.sum_univ_tiles 8 512 rfl]
  rfl

end Kernel

end Cert.Dnt

end
-- ==== Proof.DntRef.lean ====
/- What the differentiated reference of the same gradients computes, entry by entry. -/
module

public import proofs.«01_k».proof.Defs
public import proofs.«01_k».proof.Proof.Gen.Reference10Ideal.Run
public import proofs.«01_k».proof.Proof.DntKernel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dnt.Ref

section Reference
open Cert.Reference10Ideal Cert.Reference10Ideal.Gen Cert.Reference10Ideal.Value

/-- Both products' gradients as the reference's operations spell them. -/
def backV (wg wu : FVec Ideal S1024x2816 .f32) (dg du : FVec Ideal S4096x2816 .f32) : FVec Ideal S4096x1024 .f32 :=
  addf (F := Ideal) (Host.dotGeneral (F := Ideal) (φ₁ := .f32) (φ₂ := .f32) dot_S4096x2816_S1024x2816_S4096x1024_1_1_0_0_n_n none du wu)
    (Host.dotGeneral (F := Ideal) (φ₁ := .f32) (φ₂ := .f32) dot_S4096x2816_S1024x2816_S4096x1024_1_1_0_0_n_n none dg wg)

theorem backV_eq (wg wu : FVec Ideal S1024x2816 .f32) (dg du : FVec Ideal S4096x2816 .f32) (n : Fin 4096) (d : Fin 1024) :
    backV wg wu dg du (ix2 n d) = Dn.back wg wu dg du n d := by
  unfold backV
  pointwise [Dn.back]

/-- The differentiated norm of `x` with gain `g`, over the incoming gradient `G`, added to `o`. -/
def addN (o G x : FVec Ideal S4096x1024 .f32) (g : FVec Ideal S1024 .f32) : FVec Ideal S4096x1024 .f32 :=
  addf (F := Ideal) (addf (F := Ideal) (addf (F := Ideal) o (mulf (F := Ideal) (mulf G (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x (broadcastInDim S4096x1024 ![0] bcast_S4096_S4096x1024_0 (Host.reduceAdd (Host.divf (mulf (shapeCast _ (Host.reduceAdd (mulf x (mulf G (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf G (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)

theorem addN_at (o G x : FVec Ideal S4096x1024 .f32) (g : FVec Ideal S1024 .f32) (n : Fin 4096) (d : Fin 1024) : addN o G x g (ix2 n d)
    = (fun (a b : EReal) => a + b) (o (ix2 n d)) (Norm.gradR (fun d => x (ix2 n d)) (fun d => G (ix2 n d) * g (ix1 d)) d) := by
  unfold addN
  pointwise []
  simp only [Fin.sum_univ_one]
  have key : ∀ a b c d : EReal, a + b + c + d = a + (b + c + d) := by
    intro a b c d
    simp only [add_assoc]
  exact key _ _ _ _

/-- The gain's gradient. -/
def gainV (G x : FVec Ideal S4096x1024 .f32) : FVec Ideal S1x1024 .f32 :=
  shapeCast _ (Host.reduceAdd (F := Ideal) (shapeCast _ (Host.reduceAdd (F := Ideal) (mulf (F := Ideal) (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) G) (constant S_ .f32 0x00000000#32) reducesTo_S4096x1024_S1024_d0 h_S_) shapeCasts_S1024_S1x1024) (constant S_ .f32 0x00000000#32) reducesTo_S1x1024_S1024_d0 h_S_) shapeCasts_S1024_S1x1024

theorem gainV_at (G x : FVec Ideal S4096x1024 .f32) (k : Fin 1) (j : Fin 1024) :
    gainV G x (ix2 k j) = ∑ n : Fin 4096, G (ix2 n j) * x (ix2 n j) * Norm.inv (fun d => x (ix2 n d)) := by
  have key : ∀ x i g : EReal, x * i * g = g * x * i := fun x i g => by rw [mul_comm, ← mul_assoc]
  have e : gainV G x (ix2 k j) = ∑ n : Fin 4096, x (ix2 n j) * Norm.inv (fun d => x (ix2 n d)) * G (ix2 n j) := by
    unfold gainV
    pointwise []
    simp only [Fin.sum_univ_one]
    rfl
  exact e.trans (Finset.sum_congr rfl fun n _ => key _ _ _)

/-- The differentiated norm alone. -/
def normV (G x : FVec Ideal S4096x1024 .f32) (g : FVec Ideal S1024 .f32) : FVec Ideal S4096x1024 .bf16 :=
  truncf .bf16 (addf (F := Ideal) (addf (F := Ideal) (mulf (F := Ideal) (mulf G (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast _ (Host.reduceAdd (mulf x (mulf G (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf G (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) bitsLt_bf16_f32

theorem normV_at (G x : FVec Ideal S4096x1024 .f32) (g : FVec Ideal S1024 .f32) (n : Fin 4096) (d : Fin 1024) : normV G x g (ix2 n d)
    = Norm.gradR (fun d => x (ix2 n d)) (fun d => G (ix2 n d) * g (ix1 d)) d := by
  unfold normV
  pointwise []
  simp only [Fin.sum_univ_one]
  rfl

variable (m' : (ℓ : Loc nD τ sig) → Buf (Elt Ideal) ℓ)

theorem out0 (c : Dev nD) : res_main_v41 m' c = addN (m' ((c : Thread nD τ).loc main_arg6)) (backV (m' ((c : Thread nD τ).loc main_arg2)) (m' ((c : Thread nD τ).loc main_arg3)) (m' ((c : Thread nD τ).loc main_arg4)) (m' ((c : Thread nD τ).loc main_arg5))) (m' ((c : Thread nD τ).loc main_arg0)) (m' ((c : Thread nD τ).loc main_arg1)) := by
  unfold res_main_v41 addN backV
  rfl

theorem out1 (c : Dev nD) : res_main_v78 m' c = normV (res_main_v41 m' c) (m' ((c : Thread nD τ).loc main_arg7)) (m' ((c : Thread nD τ).loc main_arg8)) := by
  unfold res_main_v78 normV res_main_v41
  rfl

theorem out3 (c : Dev nD) : res_main_v80 m' c = gainV (res_main_v41 m' c) (m' ((c : Thread nD τ).loc main_arg7)) := by
  unfold res_main_v80 gainV res_main_v41
  rfl

end Reference

end Cert.Dnt.Ref

end
-- ==== Proof.Dnt.lean ====
/- The claim of these gradients: the kernel's form and the differentiated reference agree at real arrays. -/
module

public import proofs.«01_k».proof.Defs
public import proofs.«01_k».proof.Proof.Gen.Reference10Ideal.Run
public import proofs.«01_k».proof.Proof.Gen.Kernel10Ideal.Frame
public import proofs.«01_k».proof.Proof.Gen.Pre_finite_dnt
public import proofs.«01_k».proof.Proof.DntRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dnt

/-- The arrays the precondition speaks of are real. -/
theorem reals (a0 : FVec Ideal Cert.Kernel10Ideal.S4096x1024 .f32) (a1 : FVec Ideal Cert.Kernel10Ideal.S1024 .f32) (a2 : FVec Ideal Cert.Kernel10Ideal.S1024x2816 .f32) (a3 : FVec Ideal Cert.Kernel10Ideal.S1024x2816 .f32) (a4 : FVec Ideal Cert.Kernel10Ideal.S4096x2816 .f32) (a5 : FVec Ideal Cert.Kernel10Ideal.S4096x2816 .f32) (a6 : FVec Ideal Cert.Kernel10Ideal.S4096x1024 .f32) (a7 : FVec Ideal Cert.Kernel10Ideal.S4096x1024 .f32) (a8 : FVec Ideal Cert.Kernel10Ideal.S1024 .f32)
    (h : (haveI := Cert.Pre_finite_dnt.Gen.facts; Cert.Pre_finite_dnt.fn (F := Ideal) a0 a1 a2 a3 a4 a5 a6 a7 a8) = fun _ => 1#1) :
    Finite.AllReal a0 ∧ Finite.AllReal a1 ∧ Finite.AllReal a2 ∧ Finite.AllReal a3 ∧ Finite.AllReal a4 ∧ Finite.AllReal a5 ∧ Finite.AllReal a6 ∧ Finite.AllReal a7 ∧ Finite.AllReal a8 := by
  have h := congrFun h ix0
  simp only [Cert.Pre_finite_dnt.fn, Cert.Pre_finite_dnt.fn_part1] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨Finite.all_real a0 _ (fun _ => Finite.inf_word) _ _ _ _ h0,
    Finite.all_real a1 _ (fun _ => Finite.inf_word) _ _ _ _ h1,
    Finite.all_real a2 _ (fun _ => Finite.inf_word) _ _ _ _ h2,
    Finite.all_real a3 _ (fun _ => Finite.inf_word) _ _ _ _ h3,
    Finite.all_real a4 _ (fun _ => Finite.inf_word) _ _ _ _ h4,
    Finite.all_real a5 _ (fun _ => Finite.inf_word) _ _ _ _ h5,
    Finite.all_real a6 _ (fun _ => Finite.inf_word) _ _ _ _ h6,
    Finite.all_real a7 _ (fun _ => Finite.inf_word) _ _ _ _ h7,
    Finite.all_real a8 _ (fun _ => Finite.inf_word) _ _ _ _ h8⟩

section Claim

variable (m : (ℓ : Loc Cert.Kernel10Ideal.nD Cert.Kernel10Ideal.τ Cert.Kernel10Ideal.sig) → Buf (Elt Ideal) ℓ)
  (m' : (ℓ : Loc Cert.Reference10Ideal.nD Cert.Reference10Ideal.τ Cert.Reference10Ideal.sig) → Buf (Elt Ideal) ℓ)

/-- The two launches hold the same arrays, and these are real where it matters. -/
structure Same (c : Dev Cert.Kernel10Ideal.nD) : Prop where
  e0 : m' ((c : Thread Cert.Reference10Ideal.nD Cert.Reference10Ideal.τ).loc Cert.Reference10Ideal.main_arg0) = m ((c : Thread Cert.Kernel10Ideal.nD Cert.Kernel10Ideal.τ).loc Cert.Kernel10Ideal.main_arg0)
  e1 : m' ((c : Thread Cert.Reference10Ideal.nD Cert.Reference10Ideal.τ).loc Cert.Reference10Ideal.main_arg1) = m ((c : Thread Cert.Kernel10Ideal.nD Cert.Kernel10Ideal.τ).loc Cert.Kernel10Ideal.main_arg1)
  e2 : m' ((c : Thread Cert.Reference10Ideal.nD Cert.Reference10Ideal.τ).loc Cert.Reference10Ideal.main_arg2) = m ((c : Thread Cert.Kernel10Ideal.nD Cert.Kernel10Ideal.τ).loc Cert.Kernel10Ideal.main_arg2)
  e3 : m' ((c : Thread Cert.Reference10Ideal.nD Cert.Reference10Ideal.τ).loc Cert.Reference10Ideal.main_arg3) = m ((c : Thread Cert.Kernel10Ideal.nD Cert.Kernel10Ideal.τ).loc Cert.Kernel10Ideal.main_arg3)
  e4 : m' ((c : Thread Cert.Reference10Ideal.nD Cert.Reference10Ideal.τ).loc Cert.Reference10Ideal.main_arg4) = m ((c : Thread Cert.Kernel10Ideal.nD Cert.Kernel10Ideal.τ).loc Cert.Kernel10Ideal.main_arg4)
  e5 : m' ((c : Thread Cert.Reference10Ideal.nD Cert.Reference10Ideal.τ).loc Cert.Reference10Ideal.main_arg5) = m ((c : Thread Cert.Kernel10Ideal.nD Cert.Kernel10Ideal.τ).loc Cert.Kernel10Ideal.main_arg5)
  e6 : m' ((c : Thread Cert.Reference10Ideal.nD Cert.Reference10Ideal.τ).loc Cert.Reference10Ideal.main_arg6) = m ((c : Thread Cert.Kernel10Ideal.nD Cert.Kernel10Ideal.τ).loc Cert.Kernel10Ideal.main_arg6)
  e7 : m' ((c : Thread Cert.Reference10Ideal.nD Cert.Reference10Ideal.τ).loc Cert.Reference10Ideal.main_arg7) = m ((c : Thread Cert.Kernel10Ideal.nD Cert.Kernel10Ideal.τ).loc Cert.Kernel10Ideal.main_arg7)
  e8 : m' ((c : Thread Cert.Reference10Ideal.nD Cert.Reference10Ideal.τ).loc Cert.Reference10Ideal.main_arg8) = m ((c : Thread Cert.Kernel10Ideal.nD Cert.Kernel10Ideal.τ).loc Cert.Kernel10Ideal.main_arg8)
  r0 : Finite.AllReal (s := Cert.Kernel10Ideal.S4096x1024) (m ((c : Thread Cert.Kernel10Ideal.nD Cert.Kernel10Ideal.τ).loc Cert.Kernel10Ideal.main_arg0))
  r1 : Finite.AllReal (s := Cert.Kernel10Ideal.S1024) (m ((c : Thread Cert.Kernel10Ideal.nD Cert.Kernel10Ideal.τ).loc Cert.Kernel10Ideal.main_arg1))
  r2 : Finite.AllReal (s := Cert.Kernel10Ideal.S1024x2816) (m ((c : Thread Cert.Kernel10Ideal.nD Cert.Kernel10Ideal.τ).loc Cert.Kernel10Ideal.main_arg2))
  r3 : Finite.AllReal (s := Cert.Kernel10Ideal.S1024x2816) (m ((c : Thread Cert.Kernel10Ideal.nD Cert.Kernel10Ideal.τ).loc Cert.Kernel10Ideal.main_arg3))
  r4 : Finite.AllReal (s := Cert.Kernel10Ideal.S4096x2816) (m ((c : Thread Cert.Kernel10Ideal.nD Cert.Kernel10Ideal.τ).loc Cert.Kernel10Ideal.main_arg4))
  r5 : Finite.AllReal (s := Cert.Kernel10Ideal.S4096x2816) (m ((c : Thread Cert.Kernel10Ideal.nD Cert.Kernel10Ideal.τ).loc Cert.Kernel10Ideal.main_arg5))
  r6 : Finite.AllReal (s := Cert.Kernel10Ideal.S4096x1024) (m ((c : Thread Cert.Kernel10Ideal.nD Cert.Kernel10Ideal.τ).loc Cert.Kernel10Ideal.main_arg6))
  r7 : Finite.AllReal (s := Cert.Kernel10Ideal.S4096x1024) (m ((c : Thread Cert.Kernel10Ideal.nD Cert.Kernel10Ideal.τ).loc Cert.Kernel10Ideal.main_arg7))
  r8 : Finite.AllReal (s := Cert.Kernel10Ideal.S1024) (m ((c : Thread Cert.Kernel10Ideal.nD Cert.Kernel10Ideal.τ).loc Cert.Kernel10Ideal.main_arg8))

variable {m m'} {c : Dev Cert.Kernel10Ideal.nD} (S : Same m m' c)
include S

theorem B_real (n d) : ∃ r : ℝ, B m c n d = r :=
  Finite.real_add (Finite.real_sum _ _ fun _ => Finite.real_mul (S.r5 _) (S.r3 _)) (Finite.real_sum _ _ fun _ => Finite.real_mul (S.r4 _) (S.r2 _))

theorem Y_real (n d) : ∃ r : ℝ, Y m c n d = r := Finite.real_mul (B_real S n d) (S.r1 _)

theorem out_eq (n : Fin 4096) (d : Fin 1024) : Cert.Reference10Ideal.Value.res_main_v41 m' c (ix2 n d) = OUT m c n d := by
  rw [Ref.out0, S.e0, S.e1, S.e2, S.e3, S.e4, S.e5, S.e6]
  refine (Ref.addN_at _ _ _ _ n d).trans ?_
  simp only [Ref.backV_eq]
  exact congrArg (fun z : EReal => (fun (a b : EReal) => a + b) (m ((c : Thread Cert.Kernel10Ideal.nD Cert.Kernel10Ideal.τ).loc Cert.Kernel10Ideal.main_arg6) (ix2 n d)) z)
    (Norm.grad_eq (H m c n) (Y m c n) (fun _ => S.r0 _) (Y_real S n) d).1.symm

theorem out_real (n : Fin 4096) (d : Fin 1024) : ∃ r : ℝ, OUT m c n d = r :=
  Finite.real_add (S.r6 _) (Norm.grad_eq (H m c n) (Y m c n) (fun _ => S.r0 _) (Y_real S n) d).2

theorem mix_eq (n : Fin 4096) (d : Fin 1024) : Cert.Reference10Ideal.Value.res_main_v78 m' c (ix2 n d) = MIX m c n d := by
  rw [Ref.out1, S.e7, S.e8]
  refine (Ref.normV_at _ _ _ n d).trans ?_
  simp only [out_eq S]
  exact (Norm.grad_eq (X m c n) _ (fun _ => S.r7 _) (fun d => Finite.real_mul (out_real S n d) (S.r8 _)) d).1.symm

theorem msum_eq (k : Fin 1) (j : Fin 1024) : Cert.Reference10Ideal.Value.res_main_v80 m' c (ix2 k j) = msum m c j := by
  rw [Ref.out3, S.e7]
  refine (Ref.gainV_at _ _ k j).trans ?_
  simp only [out_eq S]
  rfl

theorem gsum_eq (k : Fin 1) (j : Fin 1024) :
    Ref.gainV (Ref.backV (m ((c : Thread Cert.Kernel10Ideal.nD Cert.Kernel10Ideal.τ).loc Cert.Kernel10Ideal.main_arg2)) (m ((c : Thread Cert.Kernel10Ideal.nD Cert.Kernel10Ideal.τ).loc Cert.Kernel10Ideal.main_arg3)) (m ((c : Thread Cert.Kernel10Ideal.nD Cert.Kernel10Ideal.τ).loc Cert.Kernel10Ideal.main_arg4)) (m ((c : Thread Cert.Kernel10Ideal.nD Cert.Kernel10Ideal.τ).loc Cert.Kernel10Ideal.main_arg5))) (m ((c : Thread Cert.Kernel10Ideal.nD Cert.Kernel10Ideal.τ).loc Cert.Kernel10Ideal.main_arg0)) (ix2 k j) = gsum m c j := by
  refine (Ref.gainV_at _ _ k j).trans ?_
  simp only [Ref.backV_eq]
  rfl

end Claim

set_option maxHeartbeats 4000000 in
theorem algebraic : Cert.algebraic_Kernel10Ideal_Reference10Ideal_pre_finite_dnt := by
  pair_intro
  · run_from Cert.Kernel10Ideal.Gen.run_main m g
  · have S : ∀ c, Same m m' c := fun c => by
      obtain ⟨h0, h1, h2, h3, h4, h5, h6, h7, h8⟩ := hagree c
      obtain ⟨r0, r1, r2, r3, r4, r5, r6, r7, r8⟩ := reals _ _ _ _ _ _ _ _ _ (hpre c)
      exact ⟨h0, h1, h2, h3, h4, h5, h6, h7, h8, r0, r1, r2, r3, r4, r5, r6, r7, r8⟩
    run_from Cert.Reference10Ideal.Value.run m' g'
    · rw [final9 m c]; funext j; idx_vars j
      exact out_eq (S c) _ _
    · rw [final10 m c]; funext j; idx_vars j
      exact mix_eq (S c) _ _
    · rw [final11 m c]; funext j; idx_vars j
      exact gsum_eq (S c) _ _
    · rw [final12 m c]; funext j; idx_vars j
      exact msum_eq (S c) _ _

end Cert.Dnt

end
-- ==== Proof.DwIn.lean ====
/- The gradients of the gate's and the up product's weights: two token halves added in a scratch are the whole contraction. -/
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwIn

section Kernel
open Cert.Kernel5Ideal Cert.Kernel5Ideal.Gen

variable (m : (ℓ : Loc nD τ sig) → Buf (Elt Ideal) ℓ)

theorem idx : ∀ t : Fin cfg0.N, win0_0.index t = ![t.val / 2, t.val % 2, 0]
    ∧ win0_1.index t = ![t.val / 2, t.val % 2, 0]
    ∧ win0_2.index t = ![t.val % 2, 0]
    ∧ win0_3.index t = ![t.val / 2, 0, 0]
    ∧ win0_4.index t = ![t.val / 2, 0, 0] :=
  (by decide +kernel : ∀ t : Fin grid0.N, _)

/-- The contraction over all tokens, cut in two halves. -/
theorem halves (f : Fin 4096 → EReal) :
    ∑ k : Fin 4096, f k = ∑ k : Fin 2048, f ⟨0 * 2048 + k, by omega⟩ + ∑ k : Fin 2048, f ⟨1 * 2048 + k, by omega⟩ := by
  rw [Fin.sum_univ_tiles 2 2048 rfl f, Fin.sum_univ_two]
  rfl

/-- The weight's gradient at row `f` of shard `s` and model column `d`. -/
def grad (a : FVec Ideal S4096x2816 .f32) (g : FVec Ideal S4096x1024 .f32) (s : Fin 4) (f : Fin 704) (d : Fin 1024) : EReal :=
  ∑ k : Fin 4096, a (ix2 k ⟨(s : ℕ) * 704 + f, by omega⟩) * g (ix2 k d)

/-- The weight's gradient over the launch's arguments. -/
abbrev GRAD (c : Dev nD) (A : FVec Ideal S4096x2816 .f32) (j : S4x704x1024.Idx) : EReal :=
  grad A (m ((c : Thread nD τ).loc main_arg0)) (j 0) (j 1) (j 2)

theorem final3 (c : Dev nD) : (dats m 0 c).arrAt 3 (cfgs 0).N = GRAD m c (m ((c : Thread nD τ).loc main_arg3)) := by
  refine (dats m 0 c).arrAt_eq_of_covers 3 _ (by decide +kernel) fun t hf y => ?_
  have ht : t.val % 2 = 1 := (flush0_3 t).mp hf
  have hp : t.val - 1 < cfg0.N := Nat.lt_of_le_of_lt (Nat.sub_le _ _) t.isLt
  have h0 : (t.val - 1) % 2 = 0 := by omega
  blk_simp
  rw [after0_3, outsAt0_B m c t (by omega) ht ht]
  rw [show outsAt0 m c (t.val - 1) _ = outsAt0 m c (⟨t.val - 1, hp⟩ : Fin cfg0.N).val hp from rfl,
    outsAt0_A m c ⟨t.val - 1, hp⟩ h0 (by simp; omega) (by simp; omega)]
  frame_out
  simp only [read_unread_whole]
  pointwise [k0_pay1, k0_pay2, k0_pay3, k0_pay4, k0_pay5, k0_pay6, k0_pay7, k0_pay8, GRAD, grad]
  rw [halves]
  blk_point [iblk, V, idx t, idx ⟨t.val - 1, hp⟩]

theorem final4 (c : Dev nD) : (dats m 0 c).arrAt 4 (cfgs 0).N = GRAD m c (m ((c : Thread nD τ).loc main_arg4)) := by
  refine (dats m 0 c).arrAt_eq_of_covers 4 _ (by decide +kernel) fun t hf y => ?_
  have ht : t.val % 2 = 1 := (flush0_4 t).mp hf
  have hp : t.val - 1 < cfg0.N := Nat.lt_of_le_of_lt (Nat.sub_le _ _) t.isLt
  have h0 : (t.val - 1) % 2 = 0 := by omega
  blk_simp
  rw [after0_4, outsAt0_B m c t (by omega) ht ht]
  rw [show outsAt0 m c (t.val - 1) _ = outsAt0 m c (⟨t.val - 1, hp⟩ : Fin cfg0.N).val hp from rfl,
    outsAt0_A m c ⟨t.val - 1, hp⟩ h0 (by simp; omega) (by simp; omega)]
  frame_out
  simp only [read_unread_whole]
  pointwise [k0_pay1, k0_pay2, k0_pay3, k0_pay4, k0_pay5, k0_pay6, k0_pay7, k0_pay8, GRAD, grad]
  rw [halves]
  blk_point [iblk, V, idx t, idx ⟨t.val - 1, hp⟩]

end Kernel

theorem algebraic : Cert.algebraic_Kernel5Ideal_Reference5Ideal := by
  pair_intro
  · run_from Cert.Kernel5Ideal.Gen.run_main m g
  · run_from Cert.Reference5Ideal.Value.run m' g'
    · rw [final3 m c]
      funext j
      idx_vars j
      pointwise [GRAD, grad]
    · rw [final4 m c]
      funext j
      idx_vars j
      pointwise [GRAD, grad]

end Cert.DwIn

end
-- ==== Proof.DwDown.lean ====
/- The gradient of the down product's weight: two token halves added in a scratch are the whole contraction. -/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwDown

section Kernel
open Cert.Kernel6Ideal Cert.Kernel6Ideal.Gen

variable (m : (ℓ : Loc nD τ sig) → Buf (Elt Ideal) ℓ)

theorem idx : ∀ t : Fin cfg0.N, win0_0.index t = ![t.val / 2, t.val % 2, 0]
    ∧ win0_1.index t = ![t.val % 2, 0]
    ∧ win0_2.index t = ![t.val / 2, 0, 0] :=
  (by decide +kernel : ∀ t : Fin grid0.N, _)

/-- The contraction over all tokens, cut in two halves. -/
theorem halves (f : Fin 4096 → EReal) :
    ∑ k : Fin 4096, f k = ∑ k : Fin 2048, f ⟨0 * 2048 + k, by omega⟩ + ∑ k : Fin 2048, f ⟨1 * 2048 + k, by omega⟩ := by
  rw [Fin.sum_univ_tiles 2 2048 rfl f, Fin.sum_univ_two]
  rfl

/-- The weight's gradient at row `f` of shard `s` and model column `d`. -/
def grad (a : FVec Ideal S4096x2816 .f32) (g : FVec Ideal S4096x1024 .f32) (s : Fin 4) (f : Fin 704) (d : Fin 1024) : EReal :=
  ∑ k : Fin 4096, a (ix2 k ⟨(s : ℕ) * 704 + f, by omega⟩) * g (ix2 k d)

/-- The weight's gradient over the launch's arguments. -/
abbrev GRAD (c : Dev nD) (j : S4x704x1024.Idx) : EReal :=
  grad (m ((c : Thread nD τ).loc main_arg0)) (m ((c : Thread nD τ).loc main_arg2)) (j 0) (j 1) (j 2)

theorem final (c : Dev nD) : (dats m 0 c).arrAt 2 (cfgs 0).N
    = GRAD m c := by
  refine (dats m 0 c).arrAt_eq_of_covers 2 _ (by decide +kernel) fun t hf y => ?_
  have ht : t.val % 2 = 1 := (flush0_2 t).mp hf
  have hp : t.val - 1 < cfg0.N := Nat.lt_of_le_of_lt (Nat.sub_le _ _) t.isLt
  have h0 : (t.val - 1) % 2 = 0 := by omega
  blk_simp
  rw [after0_2, outsAt0_B m c t (by omega) ht ht]
  rw [show outsAt0 m c (t.val - 1) _ = outsAt0 m c (⟨t.val - 1, hp⟩ : Fin cfg0.N).val hp from rfl,
    outsAt0_A m c ⟨t.val - 1, hp⟩ h0 (by simp; omega) (by simp; omega)]
  frame_out
  simp only [read_unread_whole]
  pointwise [k0_pay1, k0_pay2, k0_pay3, k0_pay4, GRAD, grad]
  rw [halves]
  blk_point [iblk, V, idx t, idx ⟨t.val - 1, hp⟩]
end Kernel

theorem algebraic : Cert.algebraic_Kernel6Ideal_Reference6Ideal := by
  pair_intro
  · run_from Cert.Kernel6Ideal.Gen.run_main m g
  · run_from Cert.Reference6Ideal.Value.run m' g'
    · rw [final m c]
      funext j
      idx_vars j
      pointwise [GRAD, grad]
      exact Fin.sum_fin_congr fun k => mul_comm _ _

end Cert.DwDown

end
-- ==== Proof.Up.lean ====
/- The feed-forward part's up call: the two hidden products and the gated activation, as functions of the arguments. -/
module

public import proofs.«01_k».proof.Defs
public import proofs.«01_k».proof.Proof.Words
public import proofs.«01_k».proof.Proof.Gen.Kernel7Ideal.Frame
public import proofs.«01_k».proof.Proof.Gen.Reference7Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Up

section Kernel
open Cert.Kernel7Ideal Cert.Kernel7Ideal.Gen

/-- The hidden product at token `t` and hidden column `f` of shard `s`. -/
def hid (n : FVec Ideal S4096x1024 .f32) (w : FVec Ideal S1024x2816 .f32) (s : Fin 4) (t : Fin 4096) (f : Fin 704) : EReal :=
  ∑ k : Fin 1024, n (ix2 t k) * w (ix2 k ⟨(s : ℕ) * 704 + f, by omega⟩)

variable (m : (ℓ : Loc nD τ sig) → Buf (Elt Ideal) ℓ)

theorem idx : ∀ t : Fin cfg0.N, win0_0.index t = ![t.val, 0]
    ∧ win0_1.index t = ![0, 0, 0]
    ∧ win0_2.index t = ![0, 0, 0]
    ∧ win0_3.index t = ![0, t.val, 0]
    ∧ win0_4.index t = ![0, t.val, 0]
    ∧ win0_5.index t = ![0, t.val, 0] :=
  (by decide +kernel : ∀ t : Fin grid0.N, _)

/-- The hidden product over the launch's arguments. -/
abbrev HID (c : Dev nD) (W : FVec Ideal S1024x2816 .f32) (j : S4x4096x704.Idx) : EReal :=
  hid (m ((c : Thread nD τ).loc main_arg0)) W (j 0) (j 1) (j 2)

set_option maxHeartbeats 1600000 in
theorem point3 (c : Dev nD) (t : Fin cfg0.N) (y) :
    out0_3 (iblk m c 0 t) (iblk m c 1 t) (iblk m c 2 t) y
      = HID m c (m ((c : Thread nD τ).loc main_arg1)) (((cfg0.win 3).blk t).view.emb y) := by
  canon_tiles x h
  all_goals
    open_payloads
    pointwise [HID, hid]
    blk_point [iblk, V, idx t]

set_option maxHeartbeats 1600000 in
theorem point4 (c : Dev nD) (t : Fin cfg0.N) (y) :
    out0_4 (iblk m c 0 t) (iblk m c 1 t) (iblk m c 2 t) y
      = HID m c (m ((c : Thread nD τ).loc main_arg2)) (((cfg0.win 4).blk t).view.emb y) := by
  canon_tiles x h
  all_goals
    open_payloads
    pointwise [HID, hid]
    blk_point [iblk, V, idx t]

set_option maxHeartbeats 1600000 in
theorem point5 (c : Dev nD) (t : Fin cfg0.N) (y) :
    out0_5 (iblk m c 0 t) (iblk m c 1 t) (iblk m c 2 t) y
      = HID m c (m ((c : Thread nD τ).loc main_arg1)) (((cfg0.win 5).blk t).view.emb y)
        * Ideal.logistic (HID m c (m ((c : Thread nD τ).loc main_arg1)) (((cfg0.win 5).blk t).view.emb y))
        * HID m c (m ((c : Thread nD τ).loc main_arg2)) (((cfg0.win 5).blk t).view.emb y) := by
  canon_tiles x h
  all_goals
    open_payloads
    pointwise [HID, hid]
    rw [Words.half, Words.logistic]
    blk_point [iblk, V, idx t]

theorem final3 (c : Dev nD) : (dats m 0 c).arrAt 3 (cfgs 0).N = HID m c (m ((c : Thread nD τ).loc main_arg1)) := by
  refine (dats m 0 c).arrAt_eq_of_covers 3 _ (by decide +kernel) fun t hf y => ?_
  blk_simp; rw [after0_3]
  exact point3 m c t y

theorem final4 (c : Dev nD) : (dats m 0 c).arrAt 4 (cfgs 0).N = HID m c (m ((c : Thread nD τ).loc main_arg2)) := by
  refine (dats m 0 c).arrAt_eq_of_covers 4 _ (by decide +kernel) fun t hf y => ?_
  blk_simp; rw [after0_4]
  exact point4 m c t y

theorem final5 (c : Dev nD) : (dats m 0 c).arrAt 5 (cfgs 0).N
    = fun j => HID m c (m ((c : Thread nD τ).loc main_arg1)) j * Ideal.logistic (HID m c (m ((c : Thread nD τ).loc main_arg1)) j)
        * HID m c (m ((c : Thread nD τ).loc main_arg2)) j := by
  refine (dats m 0 c).arrAt_eq_of_covers 5 _ (by decide +kernel) fun t hf y => ?_
  blk_simp; rw [after0_5]
  exact point5 m c t y
end Kernel

/-- The up call's three arrays are the reference's. -/
theorem algebraic : Cert.algebraic_Kernel7Ideal_Reference7Ideal := by
  pair_intro
  · run_from Cert.Kernel7Ideal.Gen.run_main m g
  · run_from Cert.Reference7Ideal.Value.run m' g'
    · rw [final3 m c]
      funext j
      idx_vars j
      pointwise [HID, hid]
    · rw [final4 m c]
      funext j
      idx_vars j
      pointwise [HID, hid]
    · rw [final5 m c]
      funext j
      idx_vars j
      pointwise [HID, hid]
      rfl

end Cert.Up

end
-- ==== Proof.Down.lean ====
/- The down product, its norm, the residual and the next norm. The four shards' products sum to the whole contraction. -/
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Down

section Kernel
open Cert.Kernel8Ideal Cert.Kernel8Ideal.Gen

variable (m : (ℓ : Loc nD τ sig) → Buf (Elt Ideal) ℓ)

theorem idx : ∀ t : Fin cfg0.N, win0_0.index t = ![0, t.val, 0]
    ∧ win0_1.index t = ![0, 0, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0] :=
  (by decide +kernel : ∀ t : Fin grid0.N, _)

/-- A contraction over the hidden columns is the sum of the four shards' contractions. -/
theorem shards (f : Fin 2816 → EReal) :
    ∑ k : Fin 2816, f k = ∑ k : Fin 704, f ⟨0 * 704 + k, by omega⟩ + ∑ k : Fin 704, f ⟨1 * 704 + k, by omega⟩
      + ∑ k : Fin 704, f ⟨2 * 704 + k, by omega⟩ + ∑ k : Fin 704, f ⟨3 * 704 + k, by omega⟩ := by
  rw [Fin.sum_univ_tiles 4 704 rfl f, Fin.sum_univ_four]
  rfl

/-- The down product at token `t` and model column `d`. -/
def prod (a : FVec Ideal S4096x2816 .f32) (w : FVec Ideal S2816x1024 .f32) (t : Fin 4096) (d : Fin 1024) : EReal :=
  ∑ k : Fin 2816, a (ix2 t k) * w (ix2 k d)

/-- The root mean square norm of a row. -/
def rms (x : Fin 1024 → EReal) (g : FVec Ideal S1024 .f32) (d : Fin 1024) : EReal :=
  x d * Ideal.rsqrt (Ideal.div (∑ k : Fin 1024, x k * x k) (Ideal.ofBits .f32 0x44800000#32) + Ideal.ofBits .f32 0x358637BD#32) * g (ix1 d)

/-- The residual stream after the block. -/
def res (a : FVec Ideal S4096x2816 .f32) (w : FVec Ideal S2816x1024 .f32) (h : FVec Ideal S4096x1024 .f32) (g : FVec Ideal S1024 .f32)
    (t : Fin 4096) (d : Fin 1024) : EReal :=
  h (ix2 t d) + Ideal.ofBits .f32 0x3F000000#32 * rms (prod a w t) g d

/-- The product over the launch's arguments. -/
abbrev PROD (c : Dev nD) : Fin 4096 → Fin 1024 → EReal :=
  prod (m ((c : Thread nD τ).loc main_arg0)) (m ((c : Thread nD τ).loc main_arg1))

/-- The residual stream over the launch's arguments. -/
abbrev RES (c : Dev nD) : Fin 4096 → Fin 1024 → EReal :=
  res (m ((c : Thread nD τ).loc main_arg0)) (m ((c : Thread nD τ).loc main_arg1)) (m ((c : Thread nD τ).loc main_arg2))
    (m ((c : Thread nD τ).loc main_arg3))

theorem inside (t : Fin cfg0.N) (r : Fin 512) : t.val * 512 + r.val < 4096 := by
  have := lt_of_lt_of_eq t.isLt (show cfg0.N = 8 from N_0)
  omega

set_option maxHeartbeats 1600000 in
/-- What a point's four products add up to. -/
theorem point (c : Dev nD) (t : Fin cfg0.N) (r : Fin 512) (d : Fin 1024) :
    k0_pay4 (iblk m c 0 t) (iblk m c 1 t) (iblk m c 2 t) (iblk m c 3 t) (iblk m c 4 t) (ix2 r d)
      = PROD m c ⟨t.val * 512 + r, inside t r⟩ d := by
  pointwise [k0_pay3, k0_pay4, PROD, prod]
  rw [shards]
  blk_point [iblk, V, idx t]

set_option maxHeartbeats 1600000 in
/-- A point's block of the residual stream. -/
theorem point_res (c : Dev nD) (t : Fin cfg0.N) (r : Fin 512) (d : Fin 1024) :
    k0_pay1 (k0_pay4 (iblk m c 0 t) (iblk m c 1 t) (iblk m c 2 t) (iblk m c 3 t) (iblk m c 4 t)) (iblk m c 2 t) (iblk m c 3 t) (ix2 r d)
      = RES m c ⟨t.val * 512 + r, inside t r⟩ d := by
  pointwise [k0_pay1, RES, res, rms]
  simp only [point m c t]
  blk_point [iblk, V, idx t]

theorem final5 (c : Dev nD) : (dats m 0 c).arrAt 5 (cfgs 0).N = fun j => PROD m c (j 0) (j 1) := by
  refine (dats m 0 c).arrAt_eq_of_covers 5 _ (by decide +kernel) fun t hf y => ?_
  blk_simp; rw [after0_5]
  frame_out
  idx_vars y
  rw [point m c t]
  refine congrArg₂ (PROD m c) (Fin.ext ?_) (Fin.ext ?_) <;> blk_point [idx t]

theorem final6 (c : Dev nD) : (dats m 0 c).arrAt 6 (cfgs 0).N = fun j => RES m c (j 0) (j 1) := by
  refine (dats m 0 c).arrAt_eq_of_covers 6 _ (by decide +kernel) fun t hf y => ?_
  blk_simp; rw [after0_6]
  frame_out
  idx_vars y
  rw [point_res m c t]
  refine congrArg₂ (RES m c) (Fin.ext ?_) (Fin.ext ?_) <;> blk_point [idx t]

theorem final7 (c : Dev nD) : (dats m 0 c).arrAt 7 (cfgs 0).N
    = fun j => rms (RES m c (j 0)) (m ((c : Thread nD τ).loc main_arg4)) (j 1) := by
  refine (dats m 0 c).arrAt_eq_of_covers 7 _ (by decide +kernel) fun t hf y => ?_
  blk_simp; rw [after0_7]
  frame_out
  idx_vars y
  pointwise [k0_pay2, rms]
  simp only [point_res m c t]
  have e0 : ((View.whole main_v7_2).slice (win0_7.rect t)).emb (ix2 y0 y1) 0 = (⟨t.val * 512 + y0, inside t y0⟩ : Fin 4096) :=
    Fin.ext (by blk_point [idx t])
  have e1 : ((View.whole main_v7_2).slice (win0_7.rect t)).emb (ix2 y0 y1) 1 = y1 := Fin.ext (by blk_point [idx t])
  have e4 : iblk m c 4 t (ix2 0 y1) = m ((c : Thread nD τ).loc main_arg4) (ix1 y1) := by blk_point [iblk, V, idx t]
  rw [e0, e1, e4]
end Kernel

theorem algebraic : Cert.algebraic_Kernel8Ideal_Reference8Ideal := by
  pair_intro
  · run_from Cert.Kernel8Ideal.Gen.run_main m g
  · run_from Cert.Reference8Ideal.Value.run m' g'
    · rw [final5 m c]
      funext j
      idx_vars j
      pointwise [PROD, prod]
    · rw [final6 m c]
      funext j
      idx_vars j
      pointwise [RES, res, rms, PROD, prod]
    · rw [final7 m c]
      funext j
      idx_vars j
      obtain ⟨h0, h1, h2, h3, h4⟩ := hagree c
      pointwise [Reference8Ideal.Value.res_main_v30, RES, res, rms, PROD, prod]
      simp only [h0, h1, h2, h3, h4]

end Cert.Down

end
-- ==== Proof.Down2.lean ====
/- The down product of the call that hands on two norms of the residual: one gain for the keys and values, one for the next block. -/
module

public import proofs.«01_k».proof.Defs
public import proofs.«01_k».proof.Proof.Gen.Kernel11Ideal.Frame
public import proofs.«01_k».proof.Proof.Gen.Reference11Ideal.Run
public import proofs.«01_k».proof.Proof.Down
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Down2

section Kernel
open Cert.Kernel11Ideal Cert.Kernel11Ideal.Gen

variable (m : (ℓ : Loc nD τ sig) → Buf (Elt Ideal) ℓ)

theorem idx : ∀ t : Fin cfg0.N, win0_0.index t = ![0, t.val, 0]
    ∧ win0_1.index t = ![0, 0, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The product over the launch's arguments. -/
abbrev PROD (c : Dev nD) : Fin 4096 → Fin 1024 → EReal :=
  Down.prod (m ((c : Thread nD τ).loc main_arg0)) (m ((c : Thread nD τ).loc main_arg1))

/-- The residual stream over the launch's arguments. -/
abbrev RES (c : Dev nD) : Fin 4096 → Fin 1024 → EReal :=
  Down.res (m ((c : Thread nD τ).loc main_arg0)) (m ((c : Thread nD τ).loc main_arg1)) (m ((c : Thread nD τ).loc main_arg2))
    (m ((c : Thread nD τ).loc main_arg3))

theorem inside (t : Fin cfg0.N) (r : Fin 512) : t.val * 512 + r.val < 4096 := by
  have := lt_of_lt_of_eq t.isLt (show cfg0.N = 8 from N_0)
  omega

set_option maxHeartbeats 1600000 in
/-- What a point's four products add up to. -/
theorem point (c : Dev nD) (t : Fin cfg0.N) (r : Fin 512) (d : Fin 1024) :
    k0_pay8 (iblk m c 0 t) (iblk m c 1 t) (iblk m c 2 t) (iblk m c 3 t) (iblk m c 4 t) (ix2 r d)
      = PROD m c ⟨t.val * 512 + r, inside t r⟩ d := by
  pointwise [k0_pay3, k0_pay8, PROD, Down.prod]
  rw [Down.shards]
  blk_point [iblk, V, idx t]

set_option maxHeartbeats 1600000 in
/-- A point's block of the residual stream. -/
theorem point_res (c : Dev nD) (t : Fin cfg0.N) (r : Fin 512) (d : Fin 1024) :
    k0_pay5 (k0_pay8 (iblk m c 0 t) (iblk m c 1 t) (iblk m c 2 t) (iblk m c 3 t) (iblk m c 4 t)) (iblk m c 2 t) (iblk m c 3 t) (ix2 r d)
      = RES m c ⟨t.val * 512 + r, inside t r⟩ d := by
  pointwise [k0_pay5, RES, Down.res, Down.rms]
  simp only [point m c t]
  blk_point [iblk, V, idx t]

/-- The first row of the stacked gains is the gain of the keys and values. -/
theorem gain0 (c : Dev nD) (t : Fin cfg0.N) (d : Fin 1024) :
    (iblk m c 4 t : FVec Ideal S2x1024 .f32) (ix2 0 d) = m ((c : Thread nD τ).loc main_arg4) (ix1 d) := by
  blk_simp [iblk]
  entry_read
  pointwise
  have e : ((win0_4.rect t).emb (ix2 0 d) 0 : ℕ) = 0 := by
    blk_simp [idx t]
    rfl
  refine (dif_pos (lt_of_eq_of_lt e Nat.one_pos)).trans ?_
  exact congrArg (m ((c : Thread nD τ).loc main_arg4)) (congrArg (ix1 (n0 := 1024)) (Fin.ext (by blk_point [idx t])))

/-- The second row is the next block's gain. -/
theorem gain1 (c : Dev nD) (t : Fin cfg0.N) (d : Fin 1024) :
    (iblk m c 4 t : FVec Ideal S2x1024 .f32) (ix2 1 d) = m ((c : Thread nD τ).loc main_arg5) (ix1 d) := by
  blk_simp [iblk]
  entry_read
  pointwise
  have e : ((win0_4.rect t).emb (ix2 1 d) 0 : ℕ) = 1 := by
    blk_simp [idx t]
    rfl
  refine (dif_neg (not_lt_of_ge (ge_of_eq e))).trans ?_
  exact congrArg (m ((c : Thread nD τ).loc main_arg5)) (congrArg (ix1 (n0 := 1024)) (Fin.ext (by blk_point [idx t])))

theorem final5 (c : Dev nD) : (dats m 0 c).arrAt 5 (cfgs 0).N = fun j => PROD m c (j 0) (j 1) := by
  refine (dats m 0 c).arrAt_eq_of_covers 5 _ (by decide +kernel) fun t hf y => ?_
  blk_simp; rw [after0_5]
  frame_out
  idx_vars y
  rw [point m c t]
  refine congrArg₂ (PROD m c) (Fin.ext ?_) (Fin.ext ?_) <;> blk_point [idx t]

theorem final6 (c : Dev nD) : (dats m 0 c).arrAt 6 (cfgs 0).N = fun j => RES m c (j 0) (j 1) := by
  refine (dats m 0 c).arrAt_eq_of_covers 6 _ (by decide +kernel) fun t hf y => ?_
  blk_simp; rw [after0_6]
  frame_out
  idx_vars y
  rw [point_res m c t]
  refine congrArg₂ (RES m c) (Fin.ext ?_) (Fin.ext ?_) <;> blk_point [idx t]

theorem final7 (c : Dev nD) : (dats m 0 c).arrAt 7 (cfgs 0).N
    = fun j => Down.rms (RES m c (j 0)) (m ((c : Thread nD τ).loc main_arg4)) (j 1) := by
  refine (dats m 0 c).arrAt_eq_of_covers 7 _ (by decide +kernel) fun t hf y => ?_
  blk_simp; rw [after0_7]
  frame_out
  idx_vars y
  pointwise [k0_pay1, k0_pay4, k0_pay6, Down.rms]
  simp only [point_res m c t]
  have e0 : ((View.whole main_v9_2).slice (win0_7.rect t)).emb (ix2 y0 y1) 0 = (⟨t.val * 512 + y0, inside t y0⟩ : Fin 4096) :=
    Fin.ext (by blk_point [idx t])
  have e1 : ((View.whole main_v9_2).slice (win0_7.rect t)).emb (ix2 y0 y1) 1 = y1 := Fin.ext (by blk_point [idx t])
  rw [e0, e1, gain0 m c t]

theorem final8 (c : Dev nD) : (dats m 0 c).arrAt 8 (cfgs 0).N
    = fun j => Down.rms (RES m c (j 0)) (m ((c : Thread nD τ).loc main_arg5)) (j 1) := by
  refine (dats m 0 c).arrAt_eq_of_covers 8 _ (by decide +kernel) fun t hf y => ?_
  blk_simp; rw [after0_8]
  frame_out
  idx_vars y
  pointwise [k0_pay2, k0_pay4, k0_pay7, Down.rms]
  simp only [point_res m c t]
  have e0 : ((View.whole main_v9_3).slice (win0_8.rect t)).emb (ix2 y0 y1) 0 = (⟨t.val * 512 + y0, inside t y0⟩ : Fin 4096) :=
    Fin.ext (by blk_point [idx t])
  have e1 : ((View.whole main_v9_3).slice (win0_8.rect t)).emb (ix2 y0 y1) 1 = y1 := Fin.ext (by blk_point [idx t])
  rw [e0, e1, gain1 m c t]
end Kernel

set_option maxHeartbeats 4000000 in
theorem algebraic : Cert.algebraic_Kernel11Ideal_Reference11Ideal := by
  pair_intro
  · run_from Cert.Kernel11Ideal.Gen.run_main m g
  · run_from Cert.Reference11Ideal.Value.run m' g'
    · rw [final5 m c]
      funext j
      idx_vars j
      pointwise [PROD, Down.prod]
    · rw [final6 m c]
      funext j
      idx_vars j
      pointwise [RES, Down.res, Down.rms, PROD, Down.prod]
    · rw [final7 m c]
      funext j
      idx_vars j
      obtain ⟨h0, h1, h2, h3, h4, h5⟩ := hagree c
      pointwise [Reference11Ideal.Value.res_main_v30, RES, Down.res, Down.rms, PROD, Down.prod]
      simp only [h0, h1, h2, h3, h4]
    · rw [final8 m c]
      funext j
      idx_vars j
      obtain ⟨h0, h1, h2, h3, h4, h5⟩ := hagree c
      pointwise [Reference11Ideal.Value.res_main_v44, RES, Down.res, Down.rms, PROD, Down.prod]
      simp only [h0, h1, h2, h3, h5]

end Cert.Down2

end
-- ==== Proof.DownLoss.lean ====
/- The last down product: with the residual, the squared loss against the target and its gradient.
   The kernel scales every tile's sum of squares by 1/2048; the reference takes means of rows and halves their sum. -/
module

public import proofs.«01_k».proof.Defs
public import proofs.«01_k».proof.Proof.Gen.Kernel12Ideal.Frame
public import proofs.«01_k».proof.Proof.Gen.Reference12Ideal.Run
public import proofs.«01_k».proof.Proof.Down
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownLoss

section Kernel
open Cert.Kernel12Ideal Cert.Kernel12Ideal.Gen

variable (m : (ℓ : Loc nD τ sig) → Buf (Elt Ideal) ℓ)

theorem idx : ∀ t : Fin cfg0.N, win0_0.index t = ![0, t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

/-- The product over the launch's arguments. -/
abbrev PROD (c : Dev nD) : Fin 4096 → Fin 1024 → EReal :=
  Down.prod (m ((c : Thread nD τ).loc main_arg0)) (m ((c : Thread nD τ).loc main_arg1))

/-- The residual stream over the launch's arguments. -/
abbrev RES (c : Dev nD) : Fin 4096 → Fin 1024 → EReal :=
  Down.res (m ((c : Thread nD τ).loc main_arg0)) (m ((c : Thread nD τ).loc main_arg1)) (m ((c : Thread nD τ).loc main_arg2))
    (m ((c : Thread nD τ).loc main_arg3))

theorem lt_t (t : Fin cfg0.N) : t.val < 8 := lt_of_lt_of_eq t.isLt (show cfg0.N = 8 from N_0)

theorem inside (t : Fin cfg0.N) (r : Fin 512) : t.val * 512 + r.val < 4096 := by
  have := lt_t t
  omega

/-- How far the residual stream is from the target. -/
def ERR (c : Dev nD) (n : Fin 4096) (d : Fin 1024) : EReal :=
  (fun (a b : EReal) => a - b) (RES m c n d) ((m ((c : Thread nD τ).loc main_arg4) : FVec Ideal S4096x1024 .f32) (ix2 n d))

/-- A point's four products. -/
def prods (c : Dev nD) (t : Fin cfg0.N) : FVec Ideal S512x1024 .f32 :=
  k0_pay2 (F := Ideal)
    (View.ld (Val := Elt Ideal) (e' := .bf16) (iblk m c 0 t) (Rect.unit (s := S4x512x704) ![0, 0, 0] ![1, 512, 704] inb_S4x512x704_S1x512x704_0_0_0))
    (View.ld (Val := Elt Ideal) (e' := .bf16) (iblk m c 1 t) (Rect.unit (s := S4x704x1024) ![0, 0, 0] ![1, 704, 1024] inb_S4x704x1024_S1x704x1024_0_0_0))
    (View.ld (Val := Elt Ideal) (e' := .bf16) (iblk m c 0 t) (Rect.unit (s := S4x512x704) ![1, 0, 0] ![1, 512, 704] inb_S4x512x704_S1x512x704_1_0_0))
    (View.ld (Val := Elt Ideal) (e' := .bf16) (iblk m c 1 t) (Rect.unit (s := S4x704x1024) ![1, 0, 0] ![1, 704, 1024] inb_S4x704x1024_S1x704x1024_1_0_0))
    (View.ld (Val := Elt Ideal) (e' := .bf16) (iblk m c 0 t) (Rect.unit (s := S4x512x704) ![2, 0, 0] ![1, 512, 704] inb_S4x512x704_S1x512x704_2_0_0))
    (View.ld (Val := Elt Ideal) (e' := .bf16) (iblk m c 1 t) (Rect.unit (s := S4x704x1024) ![2, 0, 0] ![1, 704, 1024] inb_S4x704x1024_S1x704x1024_2_0_0))
    (View.ld (Val := Elt Ideal) (e' := .bf16) (iblk m c 0 t) (Rect.unit (s := S4x512x704) ![3, 0, 0] ![1, 512, 704] inb_S4x512x704_S1x512x704_3_0_0))
    (View.ld (Val := Elt Ideal) (e' := .bf16) (iblk m c 1 t) (Rect.unit (s := S4x704x1024) ![3, 0, 0] ![1, 704, 1024] inb_S4x704x1024_S1x704x1024_3_0_0))

set_option maxHeartbeats 1600000 in
/-- What a point's four products add up to. -/
theorem point (c : Dev nD) (t : Fin cfg0.N) (r : Fin 512) (d : Fin 1024) :
    prods m c t (ix2 r d) = PROD m c ⟨t.val * 512 + r, inside t r⟩ d := by
  pointwise [prods, k0_pay2, PROD, Down.prod]
  rw [Down.shards]
  blk_point [iblk, V, idx t]

set_option maxHeartbeats 1600000 in
/-- A point's block of the residual stream. -/
theorem point_res (c : Dev nD) (t : Fin cfg0.N) (r : Fin 512) (d : Fin 1024) :
    k0_pay3 (prods m c t) (iblk m c 2 t) (iblk m c 3 t) (ix2 r d) = RES m c ⟨t.val * 512 + r, inside t r⟩ d := by
  pointwise [k0_pay3, RES, Down.res, Down.rms]
  simp only [point m c t]
  blk_point [iblk, V, idx t]

theorem read4 (c : Dev nD) (t : Fin cfg0.N) (r : Fin 512) (d : Fin 1024) :
    (iblk m c 4 t : FVec Ideal S512x1024 .f32) (ix2 r d) = m ((c : Thread nD τ).loc main_arg4) (ix2 ⟨t.val * 512 + r, inside t r⟩ d) := by
  blk_point [iblk, V, idx t]

/-- A point's block of the distances. -/
theorem point_err (c : Dev nD) (t : Fin cfg0.N) (r : Fin 512) (d : Fin 1024) :
    k0_pay4 (prods m c t) (iblk m c 2 t) (iblk m c 3 t) (iblk m c 4 t) (ix2 r d) = ERR m c ⟨t.val * 512 + r, inside t r⟩ d := by
  have e : k0_pay4 (prods m c t) (iblk m c 2 t) (iblk m c 3 t) (iblk m c 4 t) (ix2 r d)
      = (fun (a b : EReal) => a - b) (k0_pay3 (prods m c t) (iblk m c 2 t) (iblk m c 3 t) (ix2 r d)) ((iblk m c 4 t : FVec Ideal S512x1024 .f32) (ix2 r d)) := rfl
  rw [e, point_res, read4]
  rfl

/-- What the kernel hands back as the gradient. -/
def DY (c : Dev nD) (n : Fin 4096) (d : Fin 1024) : EReal := ERR m c n d * Ideal.ofBits .f32 0x3A800000#32

theorem point_dy (c : Dev nD) (t : Fin cfg0.N) (r : Fin 512) (d : Fin 1024) :
    k0_pay5 (prods m c t) (iblk m c 2 t) (iblk m c 3 t) (iblk m c 4 t) (ix2 r d) = DY m c ⟨t.val * 512 + r, inside t r⟩ d := by
  have e : k0_pay5 (prods m c t) (iblk m c 2 t) (iblk m c 3 t) (iblk m c 4 t) (ix2 r d)
      = (fun (a b : EReal) => a * b) (k0_pay4 (prods m c t) (iblk m c 2 t) (iblk m c 3 t) (iblk m c 4 t) (ix2 r d)) (Ideal.ofBits .f32 0x3A800000#32) := rfl
  rw [e, point_err]
  rfl

/-- A token's sum of squares. -/
def SQ (c : Dev nD) (n : Fin 4096) : EReal := ∑ d : Fin 1024, ERR m c n d * ERR m c n d

/-- A tile's share of the loss. -/
def tile (c : Dev nD) (t : Fin cfg0.N) : EReal :=
  (∑ r : Fin 512, SQ m c ⟨t.val * 512 + r, inside t r⟩) * Ideal.ofBits .f32 0x3A000000#32

/-- The squares of a block, summed and scaled. -/
def sumsq (E : FVec Ideal S512x1024 .f32) : FVec Ideal S1x128 .f32 :=
  broadcastTo S1x128 (shapeCast S1x1 (mulf (F := Ideal) (shapeCast S1x1 (multiReduction (F := Ideal) .add [0] S1 (shapeCast S512x1 (multiReduction (F := Ideal) .add [1] S512 (mulf (F := Ideal) E E) 0x00000000#32 reduces_S512x1024_S512 (.inl rfl) rfl) shapeCasts_S512_S512x1) 0x00000000#32 reduces_S512x1_S1 (.inl rfl) rfl) shapeCasts_S1_S1x1) (broadcast S1x1 (Scalar.ofBits .f32 0x3A000000#32))) shapeCasts_S1x1_S1x1) broadcasts_S1x1_S1x128

theorem sumsq_at (E : FVec Ideal S512x1024 .f32) (i : Fin 1) (j : Fin 128) :
    sumsq E (ix2 i j) = (∑ r : Fin 512, ∑ d : Fin 1024, E (ix2 r d) * E (ix2 r d)) * Ideal.ofBits .f32 0x3A000000#32 := by
  unfold sumsq
  pointwise []

theorem point_tile (c : Dev nD) (t : Fin cfg0.N) (i : Fin 1) (j : Fin 128) :
    k0_pay6 (prods m c t) (iblk m c 2 t) (iblk m c 3 t) (iblk m c 4 t) (ix2 i j) = tile m c t := by
  have e : k0_pay6 (prods m c t) (iblk m c 2 t) (iblk m c 3 t) (iblk m c 4 t)
      = sumsq (k0_pay4 (prods m c t) (iblk m c 2 t) (iblk m c 3 t) (iblk m c 4 t)) := rfl
  rw [e, sumsq_at]
  simp only [point_err]
  rfl

theorem step (P a : FVec Ideal S1x128 .f32) (i : Fin 1) (j : Fin 128) :
    k0_pay1 (F := Ideal) P a (ix2 i j) = (fun (a b : EReal) => a + b) (a (ix2 i j)) (P (ix2 i j)) := by
  unfold k0_pay1
  pointwise []

theorem emb5 (c : Dev nD) (t : Fin cfg0.N) (y : S512x1024.Idx) :
    PROD m c ⟨t.val * 512 + (y 0 : Fin 512), inside t (y 0)⟩ (y 1)
      = (fun j : S4096x1024.Idx => PROD m c (j 0) (j 1)) (((View.whole main_v6_0).slice (win0_5.rect t)).emb y) := by
  idx_vars y
  refine congrArg₂ (PROD m c) (Fin.ext ?_) (Fin.ext ?_) <;> blk_point [idx t]

theorem final5 (c : Dev nD) : (dats m 0 c).arrAt 5 (cfgs 0).N = fun j : S4096x1024.Idx => PROD m c (j 0) (j 1) := by
  refine (dats m 0 c).arrAt_eq_of_covers 5 _ (by decide +kernel) fun t hf y => ?_
  blk_simp; rw [after0_5]
  have ht : t.val < 8 := lt_t t
  have e : ∀ y : S512x1024.Idx, _ := fun y => (point m c t (y 0) (y 1)).trans (emb5 m c t y)
  by_cases h : t.val % 8 = 0
  · rw [outsAt0_A m c t h (by omega)]
    frame_out
    idx_vars y
    exact e (ix2 y0 y1)
  · rw [outsAt0_B m c t h (by omega)]
    frame_out
    idx_vars y
    exact e (ix2 y0 y1)

theorem emb6 (c : Dev nD) (t : Fin cfg0.N) (y : S512x1024.Idx) :
    RES m c ⟨t.val * 512 + (y 0 : Fin 512), inside t (y 0)⟩ (y 1)
      = (fun j : S4096x1024.Idx => RES m c (j 0) (j 1)) (((View.whole main_v6_1).slice (win0_6.rect t)).emb y) := by
  idx_vars y
  refine congrArg₂ (RES m c) (Fin.ext ?_) (Fin.ext ?_) <;> blk_point [idx t]

theorem final6 (c : Dev nD) : (dats m 0 c).arrAt 6 (cfgs 0).N = fun j : S4096x1024.Idx => RES m c (j 0) (j 1) := by
  refine (dats m 0 c).arrAt_eq_of_covers 6 _ (by decide +kernel) fun t hf y => ?_
  blk_simp; rw [after0_6]
  have ht : t.val < 8 := lt_t t
  have e : ∀ y : S512x1024.Idx, _ := fun y => (point_res m c t (y 0) (y 1)).trans (emb6 m c t y)
  by_cases h : t.val % 8 = 0
  · rw [outsAt0_A m c t h (by omega)]
    frame_out
    idx_vars y
    exact e (ix2 y0 y1)
  · rw [outsAt0_B m c t h (by omega)]
    frame_out
    idx_vars y
    exact e (ix2 y0 y1)

theorem emb7 (c : Dev nD) (t : Fin cfg0.N) (y : S512x1024.Idx) :
    DY m c ⟨t.val * 512 + (y 0 : Fin 512), inside t (y 0)⟩ (y 1)
      = (fun j : S4096x1024.Idx => DY m c (j 0) (j 1)) (((View.whole main_v6_2).slice (win0_7.rect t)).emb y) := by
  idx_vars y
  refine congrArg₂ (DY m c) (Fin.ext ?_) (Fin.ext ?_) <;> blk_point [idx t]

theorem final7 (c : Dev nD) : (dats m 0 c).arrAt 7 (cfgs 0).N = fun j : S4096x1024.Idx => DY m c (j 0) (j 1) := by
  refine (dats m 0 c).arrAt_eq_of_covers 7 _ (by decide +kernel) fun t hf y => ?_
  blk_simp; rw [after0_7]
  have ht : t.val < 8 := lt_t t
  have e : ∀ y : S512x1024.Idx, _ := fun y => (point_dy m c t (y 0) (y 1)).trans (emb7 m c t y)
  by_cases h : t.val % 8 = 0
  · rw [outsAt0_A m c t h (by omega)]
    frame_out
    idx_vars y
    exact e (ix2 y0 y1)
  · rw [outsAt0_B m c t h (by omega)]
    frame_out
    idx_vars y
    exact e (ix2 y0 y1)

/-- The loss the kernel leaves. -/
def LOSS (c : Dev nD) : EReal := ∑ t : Fin 8, tile m c ⟨t.val, lt_of_lt_of_eq t.isLt (show 8 = cfg0.N from N_0.symm)⟩

theorem final8 (c : Dev nD) : (dats m 0 c).arrAt 8 (cfgs 0).N = fun j : S1x128.Idx => LOSS m c := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => (0 : EReal))
    (fun t (j : S1x128.Idx) => tile m c t)
    (fun t h j => by
      have ht := lt_t t
      rw [outsAt0_A m c t h (by omega)]; frame_out; idx_vars j; rw [zero_add]; exact point_tile m c t _ _)
    (fun t h j => by
      have ht := lt_t t
      rw [outsAt0_B m c t h (by omega)]; frame_out; idx_vars j
      refine (step _ _ _ _).trans ?_
      exact congrArg _ (point_tile m c t _ _))
    (le_of_eq N_0) t0_7 rfl j, zero_add]
  rfl

end Kernel

section Words

/-- The words of two, of one, and of the kernel's two scales. -/
theorem two : Ideal.ofBits .f32 0x40000000#32 = ((2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem scale : Ideal.ofBits .f32 0x3A800000#32 = ((1 / 1024 : ℝ) : EReal) := by
  simp [Ideal.ofBits, Ideal.ieee, -EReal.coe_mul]; norm_num

theorem half_scale : Ideal.ofBits .f32 0x3A000000#32 = ((1 / 2048 : ℝ) : EReal) := by
  simp [Ideal.ofBits, Ideal.ieee, -EReal.coe_mul]; norm_num

/-- A positive real scale goes through a sum of numbers that may be infinite. -/
theorem scale_sum {ι : Type} (s : Finset ι) (f : ι → EReal) (r : ℝ) (h : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast h) (EReal.coe_ne_top r) _ _

/-- The gradient of the reference, at one distance. -/
theorem dy_eq (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [Words.half, one, two, scale, Words.w1024, Ideal.div_coe (by norm_num), ← EReal.coe_mul, ← EReal.coe_mul, ← mul_assoc, ← EReal.coe_mul, mul_comm]
  norm_num

/-- The loss of the reference, over the tokens' sums of squares. -/
theorem loss_eq (q : Fin 4096 → EReal) :
    Ideal.ofBits .f32 0x3F000000#32 * ∑ n, Ideal.div (q n) (Ideal.ofBits .f32 0x44800000#32)
      = ∑ t : Fin 8, (∑ r : Fin 512, q ⟨t.val * 512 + r, by omega⟩) * Ideal.ofBits .f32 0x3A000000#32 := by
  rw [Words.half, half_scale, Words.w1024, mul_comm, scale_sum _ _ _ (by norm_num), Fin.sum_univ_tiles 8 512 rfl]
  refine Finset.sum_congr rfl fun t _ => ?_
  rw [scale_sum _ _ _ (by norm_num)]
  refine Finset.sum_congr rfl fun r _ => ?_
  rw [Ideal.div_coe (by norm_num), mul_assoc, ← EReal.coe_mul]
  norm_num

end Words

section Reference
open Cert.Reference12Ideal Cert.Reference12Ideal.Gen

/-- The reference's residual stream. -/
def resR (a : FVec Ideal S4096x2816 .f32) (w : FVec Ideal S2816x1024 .f32) (h : FVec Ideal S4096x1024 .f32) (g : FVec Ideal S1024 .f32) :
    FVec Ideal S4096x1024 .f32 :=
  addf (F := Ideal) h (mulf (F := Ideal) (broadcastInDim S4096x1024 ![] bcast_S_S4096x1024 (constant S_ .f32 0x3F000000#32)) (mulf (F := Ideal) (mulf (F := Ideal) (Host.dotGeneral (F := Ideal) (φ₁ := .f32) (φ₂ := .f32) dot_S4096x2816_S2816x1024_S4096x1024_1_0_0_1_n_n none a w) (broadcastInDim S4096x1024 ![0, 1] bcast_S4096x1_S4096x1024_0_1 (Host.rsqrt (F := Ideal) (addf (F := Ideal) (Host.divf (F := Ideal) (broadcastInDim S4096x1 ![0] bcast_S4096_S4096x1_0 (Host.reduceAdd (F := Ideal) (mulf (F := Ideal) (Host.dotGeneral (F := Ideal) (φ₁ := .f32) (φ₂ := .f32) dot_S4096x2816_S2816x1024_S4096x1024_1_0_0_1_n_n none a w) (Host.dotGeneral (F := Ideal) (φ₁ := .f32) (φ₂ := .f32) dot_S4096x2816_S2816x1024_S4096x1024_1_0_0_1_n_n none a w)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))))

theorem resR_at (a : FVec Ideal S4096x2816 .f32) (w : FVec Ideal S2816x1024 .f32) (h : FVec Ideal S4096x1024 .f32) (g : FVec Ideal S1024 .f32)
    (n : Fin 4096) (d : Fin 1024) : resR a w h g (ix2 n d) = Down.res a w h g n d := by
  unfold resR
  pointwise [Down.res, Down.rms, Down.prod]

/-- Its gradient of the loss over the residual stream `R`. -/
def dyR (R T : FVec Ideal S4096x1024 .f32) : FVec Ideal S4096x1024 .f32 :=
  mulf (F := Ideal) (broadcastInDim S4096x1024 ![0] bcast_S4096_S4096x1024_0 (Host.divf (F := Ideal) (broadcastInDim S4096 ![] bcast_S_S4096 (mulf (F := Ideal) (constant S_ .f32 0x3F000000#32) (constant S_ .f32 0x3F800000#32))) (broadcastInDim S4096 ![] bcast_S_S4096 (constant S_ .f32 0x44800000#32)))) (mulf (F := Ideal) (broadcastInDim S4096x1024 ![] bcast_S_S4096x1024 (constant S_ .f32 0x40000000#32)) (subf (F := Ideal) R T))

theorem dyR_at (R T : FVec Ideal S4096x1024 .f32) (n : Fin 4096) (d : Fin 1024) :
    dyR R T (ix2 n d) = (fun (a b : EReal) => a - b) (R (ix2 n d)) (T (ix2 n d)) * Ideal.ofBits .f32 0x3A800000#32 := by
  refine Eq.trans ?_ (dy_eq _)
  unfold dyR
  pointwise []

/-- Its loss. -/
def lossR (R T : FVec Ideal S4096x1024 .f32) : FVec Ideal S1x128 .f32 :=
  broadcastInDim S1x128 ![] bcast_S_S1x128 (mulf (F := Ideal) (constant S_ .f32 0x3F000000#32) (Host.reduceAdd (F := Ideal) (Host.divf (F := Ideal) (Host.reduceAdd (F := Ideal) (mulf (F := Ideal) (subf (F := Ideal) R T) (subf (F := Ideal) R T)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem lossR_at (R T : FVec Ideal S4096x1024 .f32) (i : Fin 1) (j : Fin 128) :
    lossR R T (ix2 i j) = ∑ t : Fin 8, (∑ r : Fin 512, (fun n : Fin 4096 => ∑ d : Fin 1024,
      (fun (a b : EReal) => a - b) (R (ix2 n d)) (T (ix2 n d)) * (fun (a b : EReal) => a - b) (R (ix2 n d)) (T (ix2 n d)))
        ⟨t.val * 512 + r, by omega⟩) * Ideal.ofBits .f32 0x3A000000#32 := by
  refine Eq.trans ?_ (loss_eq fun n : Fin 4096 => ∑ d : Fin 1024,
    (fun (a b : EReal) => a - b) (R (ix2 n d)) (T (ix2 n d)) * (fun (a b : EReal) => a - b) (R (ix2 n d)) (T (ix2 n d)))
  unfold lossR
  pointwise []

end Reference

set_option maxHeartbeats 4000000 in
theorem algebraic : Cert.algebraic_Kernel12Ideal_Reference12Ideal := by
  pair_intro
  · run_from Cert.Kernel12Ideal.Gen.run_main m g
  · run_from Cert.Reference12Ideal.Value.run m' g'
    · rw [final5 m c]
      funext j
      idx_vars j
      pointwise [PROD, Down.prod]
    · rw [final6 m c]
      funext j
      idx_vars j
      exact resR_at _ _ _ _ _ _
    · rw [final7 m c]
      funext j
      idx_vars j
      refine (dyR_at (resR _ _ _ _) _ _ _).trans ?_
      rw [resR_at]
      rfl
    · rw [final8 m c]
      funext j
      idx_vars j
      refine (lossR_at (resR _ _ _ _) _ _ _).trans ?_
      simp only [resR_at]
      rfl

end Cert.DownLoss

end
-- ==== Proof.OutDx.lean ====
/- The gradient of the gated unit's output product with respect to its input. -/
module

public import proofs.«01_k».proof.Defs
public import proofs.«01_k».proof.Proof.Gen.Kernel13Ideal.Frame
public import proofs.«01_k».proof.Proof.Gen.Reference13Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutDx

section Kernel
open Cert.Kernel13Ideal Cert.Kernel13Ideal.Gen

variable (m : (ℓ : Loc nD τ sig) → Buf (Elt Ideal) ℓ)

theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- The input's gradient at token `t` and column `f`. -/
def grad (w : FVec Ideal S2048x1024 .f32) (g : FVec Ideal S4096x1024 .f32) (t : Fin 4096) (f : Fin 2048) : EReal :=
  ∑ k : Fin 1024, g (ix2 t k) * w (ix2 f k)

/-- The input's gradient over the launch's arguments. -/
abbrev GRAD (c : Dev nD) (j : S4096x2048.Idx) : EReal :=
  grad (m ((c : Thread nD τ).loc main_arg1)) (m ((c : Thread nD τ).loc main_arg2)) (j 0) (j 1)

theorem final (c : Dev nD) : (dats m 0 c).arrAt 2 (cfgs 0).N = GRAD m c := by
  refine (dats m 0 c).arrAt_eq_of_covers 2 _ (by decide +kernel) fun t hf y => ?_
  blk_simp
  rw [after0_2]
  frame_out
  pointwise [k0_pay1, GRAD, grad]
  blk_point [iblk, V, idx t]
end Kernel

theorem algebraic : Cert.algebraic_Kernel13Ideal_Reference13Ideal := by
  pair_intro
  · run_from Cert.Kernel13Ideal.Gen.run_main m g
  · run_from Cert.Reference13Ideal.Value.run m' g'
    · rw [final m c]
      funext j
      idx_vars j
      pointwise [GRAD, grad]

end Cert.OutDx

end
-- ==== Proof.OutDw.lean ====
/- The gradient of the gated unit's output weight: two token halves added in a scratch are the whole contraction. -/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutDw

section Kernel
open Cert.Kernel14Ideal Cert.Kernel14Ideal.Gen

variable (m : (ℓ : Loc nD τ sig) → Buf (Elt Ideal) ℓ)

theorem idx : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The contraction over all tokens, cut in two halves. -/
theorem halves (f : Fin 4096 → EReal) :
    ∑ k : Fin 4096, f k = ∑ k : Fin 2048, f ⟨0 * 2048 + k, by omega⟩ + ∑ k : Fin 2048, f ⟨1 * 2048 + k, by omega⟩ := by
  rw [Fin.sum_univ_tiles 2 2048 rfl f, Fin.sum_univ_two]
  rfl

/-- The weight's gradient at row `f` and column `d`. -/
def grad (a : FVec Ideal S4096x2048 .f32) (g : FVec Ideal S4096x1024 .f32) (f : Fin 2048) (d : Fin 1024) : EReal :=
  ∑ k : Fin 4096, a (ix2 k f) * g (ix2 k d)

/-- The weight's gradient over the launch's arguments. -/
abbrev GRAD (c : Dev nD) (j : S2048x1024.Idx) : EReal :=
  grad (m ((c : Thread nD τ).loc main_arg0)) (m ((c : Thread nD τ).loc main_arg2)) (j 0) (j 1)

theorem final (c : Dev nD) : (dats m 0 c).arrAt 2 (cfgs 0).N = GRAD m c := by
  refine (dats m 0 c).arrAt_eq_of_covers 2 _ (by decide +kernel) fun t hf y => ?_
  have ht : t.val % 2 = 1 := (flush0_2 t).mp hf
  have hp : t.val - 1 < cfg0.N := Nat.lt_of_le_of_lt (Nat.sub_le _ _) t.isLt
  have h0 : (t.val - 1) % 2 = 0 := by omega
  blk_simp
  rw [after0_2, outsAt0_B m c t (by omega) ht ht]
  rw [show outsAt0 m c (t.val - 1) _ = outsAt0 m c (⟨t.val - 1, hp⟩ : Fin cfg0.N).val hp from rfl,
    outsAt0_A m c ⟨t.val - 1, hp⟩ h0 (by simp; omega) (by simp; omega)]
  frame_out
  simp only [read_unread_whole]
  pointwise [k0_pay1, k0_pay2, k0_pay3, k0_pay4, GRAD, grad]
  rw [halves]
  blk_point [iblk, V, idx t, idx ⟨t.val - 1, hp⟩]
end Kernel

theorem algebraic : Cert.algebraic_Kernel14Ideal_Reference14Ideal := by
  pair_intro
  · run_from Cert.Kernel14Ideal.Gen.run_main m g
  · run_from Cert.Reference14Ideal.Value.run m' g'
    · rw [final m c]
      funext j
      idx_vars j
      pointwise [GRAD, grad]
      exact Fin.sum_fin_congr fun k => mul_comm _ _

end Cert.OutDw

end
-- ==== Proof.GmlpInDw.lean ====
/- The gradient of the gated unit's input weight: two token halves added in a scratch are the whole contraction. -/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpInDw

section Kernel
open Cert.Kernel15Ideal Cert.Kernel15Ideal.Gen

variable (m : (ℓ : Loc nD τ sig) → Buf (Elt Ideal) ℓ)

theorem idx : ∀ t : Fin cfg0.N, win0_0.index t = ![t.val % 2, t.val / 8]
    ∧ win0_1.index t = ![t.val % 2, t.val / 2 % 4]
    ∧ win0_2.index t = ![t.val / 2 % 4, t.val / 8, 0] :=
  (by decide +kernel : ∀ t : Fin grid0.N, _)

/-- The contraction over all tokens, cut in two halves. -/
theorem halves (f : Fin 4096 → EReal) :
    ∑ k : Fin 4096, f k = ∑ k : Fin 2048, f ⟨0 * 2048 + k, by omega⟩ + ∑ k : Fin 2048, f ⟨1 * 2048 + k, by omega⟩ := by
  rw [Fin.sum_univ_tiles 2 2048 rfl f, Fin.sum_univ_two]
  rfl

/-- The weight's gradient at model row `d` and column `f` of shard `s`. -/
def grad (a : FVec Ideal S4096x1024 .f32) (g : FVec Ideal S4096x4096 .f32) (s : Fin 4) (d : Fin 1024) (f : Fin 1024) : EReal :=
  ∑ k : Fin 4096, a (ix2 k d) * g (ix2 k ⟨(s : ℕ) * 1024 + f, by omega⟩)

/-- The weight's gradient over the launch's arguments. -/
abbrev GRAD (c : Dev nD) (j : S4x1024x1024.Idx) : EReal :=
  grad (m ((c : Thread nD τ).loc main_arg0)) (m ((c : Thread nD τ).loc main_arg2)) (j 0) (j 1) (j 2)

theorem final (c : Dev nD) : (dats m 0 c).arrAt 2 (cfgs 0).N = GRAD m c := by
  refine (dats m 0 c).arrAt_eq_of_covers 2 _ (by decide +kernel) fun t hf y => ?_
  have ht : t.val % 2 = 1 := (flush0_2 t).mp hf
  have hp : t.val - 1 < cfg0.N := Nat.lt_of_le_of_lt (Nat.sub_le _ _) t.isLt
  have h0 : (t.val - 1) % 2 = 0 := by omega
  blk_simp
  rw [after0_2, outsAt0_B m c t (by omega) ht ht]
  rw [show outsAt0 m c (t.val - 1) _ = outsAt0 m c (⟨t.val - 1, hp⟩ : Fin cfg0.N).val hp from rfl,
    outsAt0_A m c ⟨t.val - 1, hp⟩ h0 (by simp; omega) (by simp; omega)]
  frame_out
  simp only [read_unread_whole]
  pointwise [k0_pay1, k0_pay2, k0_pay3, k0_pay4, GRAD, grad]
  rw [halves]
  blk_point [iblk, V, idx t, idx ⟨t.val - 1, hp⟩]
end Kernel

theorem algebraic : Cert.algebraic_Kernel15Ideal_Reference15Ideal := by
  pair_intro
  · run_from Cert.Kernel15Ideal.Gen.run_main m g
  · run_from Cert.Reference15Ideal.Value.run m' g'
    · rw [final m c]
      funext j
      idx_vars j
      pointwise [GRAD, grad]
      exact Fin.sum_fin_congr fun k => mul_comm _ _

end Cert.GmlpInDw

end
-- ==== Proof.AttnOutDx.lean ====
/- The gradient of the attention's output product with respect to its input. -/
module

public import proofs.«01_k».proof.Defs
public import proofs.«01_k».proof.Proof.Gen.Kernel16Ideal.Frame
public import proofs.«01_k».proof.Proof.Gen.Reference16Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnOutDx

section Kernel
open Cert.Kernel16Ideal Cert.Kernel16Ideal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0] :=
  (by decide +kernel : ∀ t : Fin grid0.N, _)

/-- The input's gradient at token `t` and column `f`. -/
def grad (w : FVec Ideal S1024x1024 .f32) (g : FVec Ideal S4096x1024 .f32) (t : Fin 4096) (f : Fin 1024) : EReal :=
  ∑ k : Fin 1024, g (ix2 t k) * w (ix2 f k)

/-- The input's gradient over the launch's arguments. -/
abbrev GRAD (c : Dev nD) (j : S4096x1024.Idx) : EReal :=
  grad (m ((c : Thread nD τ).loc main_arg1)) (m ((c : Thread nD τ).loc main_arg2)) (j 0) (j 1)

theorem final (c : Dev nD) : (dats m 0 c).arrAt 2 (cfgs 0).N = GRAD m c := by
  refine (dats m 0 c).arrAt_eq_of_covers 2 _ (by decide +kernel) fun t hf y => ?_
  blk_simp
  rw [after0_2]
  frame_out
  pointwise [k0_pay1, GRAD, grad]
  blk_point [iblk, V, idx t]
end Kernel

theorem algebraic : Cert.algebraic_Kernel16Ideal_Reference16Ideal := by
  pair_intro
  · run_from Cert.Kernel16Ideal.Gen.run_main m g
  · run_from Cert.Reference16Ideal.Value.run m' g'
    · rw [final m c]
      funext j
      idx_vars j
      pointwise [GRAD, grad]

end Cert.AttnOutDx

end
-- ==== Proof.AttnOutDw.lean ====
/- The gradient of the attention's output weight: two token halves added in a scratch are the whole contraction. -/
module

public import proofs.«01_k».proof.Defs
public import proofs.«01_k».proof.Proof.Gen.Kernel17Ideal.Frame
public import proofs.«01_k».proof.Proof.Gen.Reference17Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnOutDw

section Kernel
open Cert.Kernel17Ideal Cert.Kernel17Ideal.Gen

variable (m : (ℓ : Loc nD τ sig) → Buf (Elt Ideal) ℓ)

theorem idx : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The contraction over all tokens, cut in two halves. -/
theorem halves (f : Fin 4096 → EReal) :
    ∑ k : Fin 4096, f k = ∑ k : Fin 2048, f ⟨0 * 2048 + k, by omega⟩ + ∑ k : Fin 2048, f ⟨1 * 2048 + k, by omega⟩ := by
  rw [Fin.sum_univ_tiles 2 2048 rfl f, Fin.sum_univ_two]
  rfl

/-- The weight's gradient at row `f` and column `d`. -/
def grad (a : FVec Ideal S4096x1024 .f32) (g : FVec Ideal S4096x1024 .f32) (f : Fin 1024) (d : Fin 1024) : EReal :=
  ∑ k : Fin 4096, a (ix2 k f) * g (ix2 k d)

/-- The weight's gradient over the launch's arguments. -/
abbrev GRAD (c : Dev nD) (j : S1024x1024.Idx) : EReal :=
  grad (m ((c : Thread nD τ).loc main_arg0)) (m ((c : Thread nD τ).loc main_arg2)) (j 0) (j 1)

theorem final (c : Dev nD) : (dats m 0 c).arrAt 2 (cfgs 0).N = GRAD m c := by
  refine (dats m 0 c).arrAt_eq_of_covers 2 _ (by decide +kernel) fun t hf y => ?_
  have ht : t.val % 2 = 1 := (flush0_2 t).mp hf
  have hp : t.val - 1 < cfg0.N := Nat.lt_of_le_of_lt (Nat.sub_le _ _) t.isLt
  have h0 : (t.val - 1) % 2 = 0 := by omega
  blk_simp
  rw [after0_2, outsAt0_B m c t (by omega) ht ht]
  rw [show outsAt0 m c (t.val - 1) _ = outsAt0 m c (⟨t.val - 1, hp⟩ : Fin cfg0.N).val hp from rfl,
    outsAt0_A m c ⟨t.val - 1, hp⟩ h0 (by simp; omega) (by simp; omega)]
  frame_out
  simp only [read_unread_whole]
  pointwise [k0_pay1, k0_pay2, k0_pay3, k0_pay4, GRAD, grad]
  rw [halves]
  blk_point [iblk, V, idx t, idx ⟨t.val - 1, hp⟩]
end Kernel

theorem algebraic : Cert.algebraic_Kernel17Ideal_Reference17Ideal := by
  pair_intro
  · run_from Cert.Kernel17Ideal.Gen.run_main m g
  · run_from Cert.Reference17Ideal.Value.run m' g'
    · rw [final m c]
      funext j
      idx_vars j
      pointwise [GRAD, grad]
      exact Fin.sum_fin_congr fun k => mul_comm _ _

end Cert.AttnOutDw

end
-- ==== Proof.GmlpOut.lean ====
/- The gated unit's output product, its norm, the residual and the next norm. Four steps of the contraction are added in a scratch. -/
module

public import proofs.«01_k».proof.Defs
public import proofs.«01_k».proof.Proof.Gen.Kernel18Ideal.Frame
public import proofs.«01_k».proof.Proof.Gen.Reference18Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpOut

section Kernel
open Cert.Kernel18Ideal Cert.Kernel18Ideal.Gen

variable (m : (ℓ : Loc nD τ sig) → Buf (Elt Ideal) ℓ)

theorem idx : ∀ t : Fin cfg0.N, win0_0.index t = ![t.val / 4, t.val % 4]
    ∧ win0_1.index t = ![t.val % 4, 0]
    ∧ win0_2.index t = ![t.val / 4, 0]
    ∧ win0_3.index t = ![0, 0]
    ∧ win0_4.index t = ![0, 0]
    ∧ win0_5.index t = ![t.val / 4, 0]
    ∧ win0_6.index t = ![t.val / 4, 0]
    ∧ win0_7.index t = ![t.val / 4, 0] :=
  (by decide +kernel : ∀ t : Fin grid0.N, _)

/-- The product at token `t` and model column `d`. -/
def prod (a : FVec Ideal S4096x2048 .f32) (w : FVec Ideal S2048x1024 .f32) (t : Fin 4096) (d : Fin 1024) : EReal :=
  ∑ k : Fin 2048, a (ix2 t k) * w (ix2 k d)

/-- The root mean square norm of a row. -/
def rms (x : Fin 1024 → EReal) (g : FVec Ideal S1024 .f32) (d : Fin 1024) : EReal :=
  x d * Ideal.rsqrt (Ideal.div (∑ k : Fin 1024, x k * x k) (Ideal.ofBits .f32 0x44800000#32) + Ideal.ofBits .f32 0x358637BD#32) * g (ix1 d)

/-- The residual stream after the product's norm. -/
def res (a : FVec Ideal S4096x2048 .f32) (w : FVec Ideal S2048x1024 .f32) (h : FVec Ideal S4096x1024 .f32) (g : FVec Ideal S1024 .f32)
    (t : Fin 4096) (d : Fin 1024) : EReal :=
  h (ix2 t d) + rms (prod a w t) g d

/-- The product over the launch's arguments. -/
abbrev PROD (c : Dev nD) : Fin 4096 → Fin 1024 → EReal :=
  prod (m ((c : Thread nD τ).loc main_arg0)) (m ((c : Thread nD τ).loc main_arg1))

/-- The residual stream over the launch's arguments. -/
abbrev RES (c : Dev nD) : Fin 4096 → Fin 1024 → EReal :=
  res (m ((c : Thread nD τ).loc main_arg0)) (m ((c : Thread nD τ).loc main_arg1)) (m ((c : Thread nD τ).loc main_arg2))
    (m ((c : Thread nD τ).loc main_arg3))

theorem lt_t (t : Fin cfg0.N) : t.val < 32 := lt_of_lt_of_eq t.isLt (show cfg0.N = 32 from N_0)

theorem inside (t : Fin cfg0.N) (r : Fin 512) : t.val / 4 * 512 + r.val < 4096 := by
  have := lt_t t
  omega

/-- What step `q` of the contraction adds at token `n` and column `d`. -/
def piece (a : FVec Ideal S4096x2048 .f32) (w : FVec Ideal S2048x1024 .f32) (q : ℕ) (hq : q < 4) (n : Fin 4096) (d : Fin 1024) : EReal :=
  ∑ k : Fin 512, a (ix2 n ⟨q * 512 + k, by omega⟩) * w (ix2 ⟨q * 512 + k, by omega⟩ d)

/-- A step over the launch's arguments. -/
abbrev part (c : Dev nD) (q : ℕ) (hq : q < 4) : Fin 4096 → Fin 1024 → EReal :=
  piece (m ((c : Thread nD τ).loc main_arg0)) (m ((c : Thread nD τ).loc main_arg1)) q hq

/-- The contraction is the sum of its steps. -/
theorem parts (c : Dev nD) (n : Fin 4096) (d : Fin 1024) :
    PROD m c n d = part m c 0 (by omega) n d + part m c 1 (by omega) n d + part m c 2 (by omega) n d + part m c 3 (by omega) n d := by
  unfold PROD prod part piece
  rw [Fin.sum_univ_tiles 4 512 rfl, Fin.sum_univ_four]
  rfl

/-- A point's product of its two blocks. -/
theorem step (c : Dev nD) (t : Fin cfg0.N) (q : ℕ) (hq : q < 4) (ht : t.val % 4 = q) (r : Fin 512) (d : Fin 1024) :
    k0_pay1 (F := Ideal) (iblk m c 0 t) (iblk m c 1 t) (ix2 r d) = part m c q hq ⟨t.val / 4 * 512 + r, inside t r⟩ d := by
  subst ht
  pointwise [k0_pay1, part, piece]
  blk_point [iblk, V, idx t]

theorem scratch_first (c : Dev nD) (t : Fin cfg0.N) (h : t.val % 4 = 0) (r : Fin 512) (d : Fin 1024) :
    (outsAt0 m c t.val t.isLt).2.2.2 (ix2 r d) = part m c 0 (by omega) ⟨t.val / 4 * 512 + r, inside t r⟩ d := by
  rw [outsAt0_A m c t h (by omega) (by omega)]
  frame_out
  pointwise [k0_pay2]
  exact step m c t 0 _ h r d

theorem scratch_next (c : Dev nD) (t : Fin cfg0.N) (q : ℕ) (hq : q < 4) (h : t.val % 4 = q) (h0 : q ≠ 0) (h3 : q ≠ 3)
    (r : Fin 512) (d : Fin 1024) :
    (outsAt0 m c t.val t.isLt).2.2.2 (ix2 r d)
      = (outsAt0 m c (t.val - 1) (Nat.lt_of_le_of_lt (Nat.sub_le _ _) t.isLt)).2.2.2 (ix2 r d)
        + part m c q hq ⟨t.val / 4 * 512 + r, inside t r⟩ d := by
  rw [outsAt0_B m c t (by omega) (by omega) (by omega)]
  frame_out
  simp only [read_unread_whole]
  pointwise [k0_pay3]
  rw [step m c t q hq h r d]

/-- What the scratch holds with a tile's last step. -/
theorem point (c : Dev nD) (t : Fin cfg0.N) (ht : t.val % 4 = 3) (r : Fin 512) (d : Fin 1024) :
    k0_pay3 (F := Ideal) (iblk m c 0 t) (iblk m c 1 t) (outsAt0 m c (t.val - 1) (Nat.lt_of_le_of_lt (Nat.sub_le _ _) t.isLt)).2.2.2 (ix2 r d)
      = PROD m c ⟨t.val / 4 * 512 + r, inside t r⟩ d := by
  have hN := t.isLt
  have l1 : t.val - 1 < cfg0.N := by omega
  have l2 : t.val - 2 < cfg0.N := by omega
  have l3 : t.val - 3 < cfg0.N := by omega
  pointwise [k0_pay3]
  rw [step m c t 3 (by omega) ht r d, parts]
  have e1 : (⟨(t.val - 1) / 4 * 512 + r, inside ⟨t.val - 1, l1⟩ r⟩ : Fin 4096) = ⟨t.val / 4 * 512 + r, inside t r⟩ :=
    Fin.ext (by dsimp only; omega)
  have e2 : (⟨(t.val - 2) / 4 * 512 + r, inside ⟨t.val - 2, l2⟩ r⟩ : Fin 4096) = ⟨t.val / 4 * 512 + r, inside t r⟩ :=
    Fin.ext (by dsimp only; omega)
  have e3 : (⟨(t.val - 3) / 4 * 512 + r, inside ⟨t.val - 3, l3⟩ r⟩ : Fin 4096) = ⟨t.val / 4 * 512 + r, inside t r⟩ :=
    Fin.ext (by dsimp only; omega)
  have s1 := scratch_next m c ⟨t.val - 1, l1⟩ 2 (by omega) (by dsimp only; omega) (by omega) (by omega) r d
  have s2 := scratch_next m c ⟨t.val - 2, l2⟩ 1 (by omega) (by dsimp only; omega) (by omega) (by omega) r d
  have s3 := scratch_first m c ⟨t.val - 3, l3⟩ (by dsimp only; omega) r d
  rw [e3] at s3
  rw [e2] at s2
  have s2' : (outsAt0 m c (t.val - 2) l2).2.2.2 (ix2 r d) = (outsAt0 m c (t.val - 3) l3).2.2.2 (ix2 r d) + part m c 1 (by omega) ⟨t.val / 4 * 512 + r, inside t r⟩ d := s2
  rw [e1] at s1
  have s1' : (outsAt0 m c (t.val - 1) l1).2.2.2 (ix2 r d) = (outsAt0 m c (t.val - 2) l2).2.2.2 (ix2 r d) + part m c 2 (by omega) ⟨t.val / 4 * 512 + r, inside t r⟩ d := s1
  have s3' : (outsAt0 m c (t.val - 3) l3).2.2.2 (ix2 r d) = part m c 0 (by omega) ⟨t.val / 4 * 512 + r, inside t r⟩ d := s3
  refine congrArg (· + _) ?_
  exact s1'.trans (congrArg (· + _) (s2'.trans (congrArg (· + _) s3')))

/-- A tile of the residual stream. -/
theorem point_res (c : Dev nD) (t : Fin cfg0.N) (f : FVec Ideal S512x1024 .f32)
    (hf : ∀ r d, f (ix2 r d) = PROD m c ⟨t.val / 4 * 512 + r, inside t r⟩ d) (r : Fin 512) (d : Fin 1024) :
    k0_pay4 f (iblk m c 2 t) (iblk m c 3 t) (ix2 r d) = RES m c ⟨t.val / 4 * 512 + r, inside t r⟩ d := by
  pointwise [k0_pay4, RES, res, rms]
  simp only [hf]
  blk_point [iblk, V, idx t]

theorem final5 (c : Dev nD) : (dats m 0 c).arrAt 5 (cfgs 0).N = fun j => PROD m c (j 0) (j 1) := by
  refine (dats m 0 c).arrAt_eq_of_covers 5 _ (by decide +kernel) fun t hf y => ?_
  have ht : t.val % 4 = 3 := (flush0_5 t).mp hf
  blk_simp; rw [after0_5, outsAt0_C m c t (by omega) (by omega) ht]
  frame_out
  simp only [read_unread_whole]
  idx_vars y
  rw [point m c t ht]
  refine congrArg₂ (PROD m c) (Fin.ext ?_) (Fin.ext ?_) <;> blk_point [idx t]

theorem final6 (c : Dev nD) : (dats m 0 c).arrAt 6 (cfgs 0).N = fun j => RES m c (j 0) (j 1) := by
  refine (dats m 0 c).arrAt_eq_of_covers 6 _ (by decide +kernel) fun t hf y => ?_
  have ht : t.val % 4 = 3 := (flush0_6 t).mp hf
  blk_simp; rw [after0_6, outsAt0_C m c t (by omega) (by omega) ht]
  frame_out
  simp only [read_unread_whole]
  idx_vars y
  rw [point_res m c t _ (point m c t ht)]
  refine congrArg₂ (RES m c) (Fin.ext ?_) (Fin.ext ?_) <;> blk_point [idx t]

theorem final7 (c : Dev nD) : (dats m 0 c).arrAt 7 (cfgs 0).N
    = fun j => rms (RES m c (j 0)) (m ((c : Thread nD τ).loc main_arg4)) (j 1) := by
  refine (dats m 0 c).arrAt_eq_of_covers 7 _ (by decide +kernel) fun t hf y => ?_
  have ht : t.val % 4 = 3 := (flush0_7 t).mp hf
  blk_simp; rw [after0_7, outsAt0_C m c t (by omega) (by omega) ht]
  frame_out
  simp only [read_unread_whole]
  idx_vars y
  pointwise [k0_pay5, rms]
  simp only [point_res m c t _ (point m c t ht)]
  have e0 : ((View.whole main_v4_2).slice (win0_7.rect t)).emb (ix2 y0 y1) 0 = (⟨t.val / 4 * 512 + y0, inside t y0⟩ : Fin 4096) :=
    Fin.ext (by blk_point [idx t])
  have e1 : ((View.whole main_v4_2).slice (win0_7.rect t)).emb (ix2 y0 y1) 1 = y1 := Fin.ext (by blk_point [idx t])
  have e4 : iblk m c 4 t (ix2 0 y1) = m ((c : Thread nD τ).loc main_arg4) (ix1 y1) := by blk_point [iblk, V, idx t]
  rw [e0, e1, e4]
end Kernel

theorem algebraic : Cert.algebraic_Kernel18Ideal_Reference18Ideal := by
  pair_intro
  · run_from Cert.Kernel18Ideal.Gen.run_main m g
  · run_from Cert.Reference18Ideal.Value.run m' g'
    · rw [final5 m c]
      funext j
      idx_vars j
      pointwise [PROD, prod]
    · rw [final6 m c]
      funext j
      idx_vars j
      pointwise [RES, res, rms, PROD, prod]
    · rw [final7 m c]
      funext j
      idx_vars j
      pointwise [RES, res, rms, PROD, prod]

end Cert.GmlpOut

end
-- ==== Proof.AttnOut.lean ====
/- The attention's output product, its norm, the residual and the next norm. Two steps of the contraction are added in a scratch. -/
module

public import proofs.«01_k».proof.Defs
public import proofs.«01_k».proof.Proof.Gen.Kernel19Ideal.Frame
public import proofs.«01_k».proof.Proof.Gen.Reference19Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnOut

section Kernel
open Cert.Kernel19Ideal Cert.Kernel19Ideal.Gen

variable (m : (ℓ : Loc nD τ sig) → Buf (Elt Ideal) ℓ)

theorem idx : ∀ t : Fin cfg0.N, win0_0.index t = ![t.val / 2, t.val % 2]
    ∧ win0_1.index t = ![t.val % 2, 0]
    ∧ win0_2.index t = ![t.val / 2, 0]
    ∧ win0_3.index t = ![0, 0]
    ∧ win0_4.index t = ![0, 0]
    ∧ win0_5.index t = ![t.val / 2, 0]
    ∧ win0_6.index t = ![t.val / 2, 0]
    ∧ win0_7.index t = ![t.val / 2, 0] :=
  (by decide +kernel : ∀ t : Fin grid0.N, _)

/-- The product at token `t` and model column `d`. -/
def prod (a : FVec Ideal S4096x1024 .f32) (w : FVec Ideal S1024x1024 .f32) (t : Fin 4096) (d : Fin 1024) : EReal :=
  ∑ k : Fin 1024, a (ix2 t k) * w (ix2 k d)

/-- The root mean square norm of a row. -/
def rms (x : Fin 1024 → EReal) (g : FVec Ideal S1024 .f32) (d : Fin 1024) : EReal :=
  x d * Ideal.rsqrt (Ideal.div (∑ k : Fin 1024, x k * x k) (Ideal.ofBits .f32 0x44800000#32) + Ideal.ofBits .f32 0x358637BD#32) * g (ix1 d)

/-- The residual stream after the product's norm. -/
def res (a : FVec Ideal S4096x1024 .f32) (w : FVec Ideal S1024x1024 .f32) (h : FVec Ideal S4096x1024 .f32) (g : FVec Ideal S1024 .f32)
    (t : Fin 4096) (d : Fin 1024) : EReal :=
  h (ix2 t d) + rms (prod a w t) g d

/-- The product over the launch's arguments. -/
abbrev PROD (c : Dev nD) : Fin 4096 → Fin 1024 → EReal :=
  prod (m ((c : Thread nD τ).loc main_arg0)) (m ((c : Thread nD τ).loc main_arg1))

/-- The residual stream over the launch's arguments. -/
abbrev RES (c : Dev nD) : Fin 4096 → Fin 1024 → EReal :=
  res (m ((c : Thread nD τ).loc main_arg0)) (m ((c : Thread nD τ).loc main_arg1)) (m ((c : Thread nD τ).loc main_arg2))
    (m ((c : Thread nD τ).loc main_arg3))

theorem lt_t (t : Fin cfg0.N) : t.val < 16 := lt_of_lt_of_eq t.isLt (show cfg0.N = 16 from N_0)

theorem inside (t : Fin cfg0.N) (r : Fin 512) : t.val / 2 * 512 + r.val < 4096 := by
  have := lt_t t
  omega

/-- What step `q` of the contraction adds at token `n` and column `d`. -/
def piece (a : FVec Ideal S4096x1024 .f32) (w : FVec Ideal S1024x1024 .f32) (q : ℕ) (hq : q < 2) (n : Fin 4096) (d : Fin 1024) : EReal :=
  ∑ k : Fin 512, a (ix2 n ⟨q * 512 + k, by omega⟩) * w (ix2 ⟨q * 512 + k, by omega⟩ d)

/-- A step over the launch's arguments. -/
abbrev part (c : Dev nD) (q : ℕ) (hq : q < 2) : Fin 4096 → Fin 1024 → EReal :=
  piece (m ((c : Thread nD τ).loc main_arg0)) (m ((c : Thread nD τ).loc main_arg1)) q hq

/-- The contraction is the sum of its steps. -/
theorem parts (c : Dev nD) (n : Fin 4096) (d : Fin 1024) :
    PROD m c n d = part m c 0 (by omega) n d + part m c 1 (by omega) n d := by
  unfold PROD prod part piece
  rw [Fin.sum_univ_tiles 2 512 rfl, Fin.sum_univ_two]
  rfl

/-- A point's product of its two blocks. -/
theorem step (c : Dev nD) (t : Fin cfg0.N) (q : ℕ) (hq : q < 2) (ht : t.val % 2 = q) (r : Fin 512) (d : Fin 1024) :
    k0_pay1 (F := Ideal) (iblk m c 0 t) (iblk m c 1 t) (ix2 r d) = part m c q hq ⟨t.val / 2 * 512 + r, inside t r⟩ d := by
  subst ht
  pointwise [k0_pay1, part, piece]
  blk_point [iblk, V, idx t]

theorem scratch_first (c : Dev nD) (t : Fin cfg0.N) (h : t.val % 2 = 0) (r : Fin 512) (d : Fin 1024) :
    (outsAt0 m c t.val t.isLt).2.2.2 (ix2 r d) = part m c 0 (by omega) ⟨t.val / 2 * 512 + r, inside t r⟩ d := by
  rw [outsAt0_A m c t h (by omega) (by omega)]
  frame_out
  pointwise [k0_pay2]
  exact step m c t 0 _ h r d

/-- What the scratch holds with a tile's last step. -/
theorem point (c : Dev nD) (t : Fin cfg0.N) (ht : t.val % 2 = 1) (r : Fin 512) (d : Fin 1024) :
    k0_pay3 (F := Ideal) (iblk m c 0 t) (iblk m c 1 t) (outsAt0 m c (t.val - 1) (Nat.lt_of_le_of_lt (Nat.sub_le _ _) t.isLt)).2.2.2 (ix2 r d)
      = PROD m c ⟨t.val / 2 * 512 + r, inside t r⟩ d := by
  have hN := t.isLt
  have l1 : t.val - 1 < cfg0.N := by omega
  pointwise [k0_pay3]
  rw [step m c t 1 (by omega) ht r d, parts]
  have e1 : (⟨(t.val - 1) / 2 * 512 + r, inside ⟨t.val - 1, l1⟩ r⟩ : Fin 4096) = ⟨t.val / 2 * 512 + r, inside t r⟩ :=
    Fin.ext (by dsimp only; omega)
  have s1 := scratch_first m c ⟨t.val - 1, l1⟩ (by dsimp only; omega) r d
  rw [e1] at s1
  have s1' : (outsAt0 m c (t.val - 1) l1).2.2.2 (ix2 r d) = part m c 0 (by omega) ⟨t.val / 2 * 512 + r, inside t r⟩ d := s1
  refine congrArg (· + _) ?_
  exact s1'

/-- A tile of the residual stream. -/
theorem point_res (c : Dev nD) (t : Fin cfg0.N) (f : FVec Ideal S512x1024 .f32)
    (hf : ∀ r d, f (ix2 r d) = PROD m c ⟨t.val / 2 * 512 + r, inside t r⟩ d) (r : Fin 512) (d : Fin 1024) :
    k0_pay4 f (iblk m c 2 t) (iblk m c 3 t) (ix2 r d) = RES m c ⟨t.val / 2 * 512 + r, inside t r⟩ d := by
  pointwise [k0_pay4, RES, res, rms]
  simp only [hf]
  blk_point [iblk, V, idx t]

theorem final5 (c : Dev nD) : (dats m 0 c).arrAt 5 (cfgs 0).N = fun j => PROD m c (j 0) (j 1) := by
  refine (dats m 0 c).arrAt_eq_of_covers 5 _ (by decide +kernel) fun t hf y => ?_
  have ht : t.val % 2 = 1 := (flush0_5 t).mp hf
  blk_simp; rw [after0_5, outsAt0_B m c t (by omega) ht ht]
  frame_out
  simp only [read_unread_whole]
  idx_vars y
  rw [point m c t ht]
  refine congrArg₂ (PROD m c) (Fin.ext ?_) (Fin.ext ?_) <;> blk_point [idx t]

theorem final6 (c : Dev nD) : (dats m 0 c).arrAt 6 (cfgs 0).N = fun j => RES m c (j 0) (j 1) := by
  refine (dats m 0 c).arrAt_eq_of_covers 6 _ (by decide +kernel) fun t hf y => ?_
  have ht : t.val % 2 = 1 := (flush0_6 t).mp hf
  blk_simp; rw [after0_6, outsAt0_B m c t (by omega) ht ht]
  frame_out
  simp only [read_unread_whole]
  idx_vars y
  rw [point_res m c t _ (point m c t ht)]
  refine congrArg₂ (RES m c) (Fin.ext ?_) (Fin.ext ?_) <;> blk_point [idx t]

theorem final7 (c : Dev nD) : (dats m 0 c).arrAt 7 (cfgs 0).N
    = fun j => rms (RES m c (j 0)) (m ((c : Thread nD τ).loc main_arg4)) (j 1) := by
  refine (dats m 0 c).arrAt_eq_of_covers 7 _ (by decide +kernel) fun t hf y => ?_
  have ht : t.val % 2 = 1 := (flush0_7 t).mp hf
  blk_simp; rw [after0_7, outsAt0_B m c t (by omega) ht ht]
  frame_out
  simp only [read_unread_whole]
  idx_vars y
  pointwise [k0_pay5, rms]
  simp only [point_res m c t _ (point m c t ht)]
  have e0 : ((View.whole main_v4_2).slice (win0_7.rect t)).emb (ix2 y0 y1) 0 = (⟨t.val / 2 * 512 + y0, inside t y0⟩ : Fin 4096) :=
    Fin.ext (by blk_point [idx t])
  have e1 : ((View.whole main_v4_2).slice (win0_7.rect t)).emb (ix2 y0 y1) 1 = y1 := Fin.ext (by blk_point [idx t])
  have e4 : iblk m c 4 t (ix2 0 y1) = m ((c : Thread nD τ).loc main_arg4) (ix1 y1) := by blk_point [iblk, V, idx t]
  rw [e0, e1, e4]
end Kernel

theorem algebraic : Cert.algebraic_Kernel19Ideal_Reference19Ideal := by
  pair_intro
  · run_from Cert.Kernel19Ideal.Gen.run_main m g
  · run_from Cert.Reference19Ideal.Value.run m' g'
    · rw [final5 m c]
      funext j
      idx_vars j
      pointwise [PROD, prod]
    · rw [final6 m c]
      funext j
      idx_vars j
      pointwise [RES, res, rms, PROD, prod]
    · rw [final7 m c]
      funext j
      idx_vars j
      pointwise [RES, res, rms, PROD, prod]

end Cert.AttnOut

end
-- ==== Proof.InDx.lean ====
/- The gradient through a mixer's input product and the norm before it. Two steps of the contraction are added in a scratch, and the gain's gradient over the tiles of tokens. -/
module

public import proofs.«01_k».proof.Defs
public import proofs.«01_k».proof.Proof.Gen.Kernel20Ideal.Frame
public import proofs.«01_k».proof.Proof.Gen.Reference20Ideal.Run
public import proofs.«01_k».proof.Proof.Gen.Pre_finite_mix
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InDx

/-- What a stretch of the contraction adds to the gradient that reaches the norm's output. -/
def piece (w : FVec Ideal Cert.Kernel20Ideal.S1024x4096 .f32) (dz : FVec Ideal Cert.Kernel20Ideal.S4096x4096 .f32) (q : ℕ) (hq : q < 2)
    (n : Fin 4096) (d : Fin 1024) : EReal :=
  ∑ k : Fin 2048, dz (ix2 n ⟨q * 2048 + k, by omega⟩) * w (ix2 d ⟨q * 2048 + k, by omega⟩)

/-- The gradient that reaches the norm's output. -/
def back (w : FVec Ideal Cert.Kernel20Ideal.S1024x4096 .f32) (dz : FVec Ideal Cert.Kernel20Ideal.S4096x4096 .f32)
    (n : Fin 4096) (d : Fin 1024) : EReal :=
  ∑ k : Fin 4096, dz (ix2 n k) * w (ix2 d k)

section Kernel
open Cert.Kernel20Ideal Cert.Kernel20Ideal.Gen

variable (m : (ℓ : Loc nD τ sig) → Buf (Elt Ideal) ℓ)

theorem idx : ∀ t : Fin cfg0.N, win0_0.index t = ![t.val / 2, t.val % 2]
    ∧ win0_1.index t = ![0, t.val % 2]
    ∧ win0_2.index t = ![t.val / 2, 0]
    ∧ win0_3.index t = ![t.val / 2, 0]
    ∧ win0_4.index t = ![0, 0]
    ∧ win0_5.index t = ![t.val / 2, 0]
    ∧ win0_6.index t = ![0, 0] :=
  (by decide +kernel : ∀ t : Fin grid0.N, _)

theorem lt_t (t : Fin cfg0.N) : t.val < 16 := lt_of_lt_of_eq t.isLt (show cfg0.N = 16 from N_0)

theorem inside (t : Fin cfg0.N) (r : Fin 512) : t.val / 2 * 512 + r.val < 4096 := by
  have := lt_t t
  omega

/-- A token's activations before the norm. -/
abbrev H (c : Dev nD) (n : Fin 4096) : Fin 1024 → EReal := fun d => (m ((c : Thread nD τ).loc main_arg0) : FVec Ideal S4096x1024 .f32) (ix2 n d)

/-- The gradient that reaches the norm's output in the launch. -/
abbrev B (c : Dev nD) (n : Fin 4096) : Fin 1024 → EReal :=
  back (m ((c : Thread nD τ).loc main_arg2)) (m ((c : Thread nD τ).loc main_arg3)) n

/-- The same, times the norm's gain. -/
abbrev Y (c : Dev nD) (n : Fin 4096) : Fin 1024 → EReal := fun d => B m c n d * (m ((c : Thread nD τ).loc main_arg1) : FVec Ideal S1024 .f32) (ix1 d)

/-- A stretch of the contraction in the launch. -/
abbrev part (c : Dev nD) (q : ℕ) (hq : q < 2) : Fin 4096 → Fin 1024 → EReal :=
  piece (m ((c : Thread nD τ).loc main_arg2)) (m ((c : Thread nD τ).loc main_arg3)) q hq

theorem parts (c : Dev nD) (n : Fin 4096) (d : Fin 1024) :
    B m c n d = part m c 0 (by omega) n d + part m c 1 (by omega) n d := by
  unfold B back part piece
  rw [Fin.sum_univ_tiles 2 2048 rfl, Fin.sum_univ_two]
  rfl

/-- A point's product of its two blocks. -/
theorem step (c : Dev nD) (t : Fin cfg0.N) (q : ℕ) (hq : q < 2) (ht : t.val % 2 = q) (r : Fin 512) (d : Fin 1024) :
    k0_pay1 (F := Ideal) (iblk m c 0 t) (iblk m c 1 t) (ix2 r d) = part m c q hq ⟨t.val / 2 * 512 + r, inside t r⟩ d := by
  subst ht
  pointwise [k0_pay1, part, piece]
  blk_point [iblk, V, idx t]

theorem scratch_first (c : Dev nD) (t : Fin cfg0.N) (h : t.val % 2 = 0) (r : Fin 512) (d : Fin 1024) :
    (outsAt0 m c t.val t.isLt).2.2 (ix2 r d) = part m c 0 (by omega) ⟨t.val / 2 * 512 + r, inside t r⟩ d := by
  rw [outsAt0_A m c t h (by omega) (by omega)]
  frame_out
  pointwise [k0_pay2]
  exact step m c t 0 _ h r d

/-- What the scratch holds with a tile's last step. -/
abbrev acc (c : Dev nD) (t : Fin cfg0.N) : FVec Ideal S512x1024 .f32 :=
  k0_pay3 (F := Ideal) (iblk m c 0 t) (iblk m c 1 t) (outsAt0 m c (t.val - 1) (Nat.lt_of_le_of_lt (Nat.sub_le _ _) t.isLt)).2.2

theorem point (c : Dev nD) (t : Fin cfg0.N) (ht : t.val % 2 = 1) (r : Fin 512) (d : Fin 1024) :
    acc m c t (ix2 r d) = B m c ⟨t.val / 2 * 512 + r, inside t r⟩ d := by
  have hN := t.isLt
  have l1 : t.val - 1 < cfg0.N := by omega
  unfold acc
  pointwise [k0_pay3]
  rw [step m c t 1 (by omega) ht r d, parts]
  have e1 : (⟨(t.val - 1) / 2 * 512 + r, inside ⟨t.val - 1, l1⟩ r⟩ : Fin 4096) = ⟨t.val / 2 * 512 + r, inside t r⟩ :=
    Fin.ext (by dsimp only; omega)
  have s1 := scratch_first m c ⟨t.val - 1, l1⟩ (by dsimp only; omega) r d
  rw [e1] at s1
  exact congrArg (· + _) s1

theorem read2 (c : Dev nD) (t : Fin cfg0.N) (i : Fin 512) (j : Fin 1024) :
    iblk m c 2 t (ix2 i j) = m ((c : Thread nD τ).loc main_arg0) (ix2 ⟨t.val / 2 * 512 + i, inside t i⟩ j) := by
  blk_point [iblk, V, idx t]

theorem read3 (c : Dev nD) (t : Fin cfg0.N) (i : Fin 512) (j : Fin 1024) :
    iblk m c 3 t (ix2 i j) = m ((c : Thread nD τ).loc main_arg4) (ix2 ⟨t.val / 2 * 512 + i, inside t i⟩ j) := by
  blk_point [iblk, V, idx t]

theorem read4 (c : Dev nD) (t : Fin cfg0.N) (i : Fin 1) (j : Fin 1024) :
    iblk m c 4 t (ix2 i j) = m ((c : Thread nD τ).loc main_arg1) (ix1 j) := by
  have e : iblk m c 4 t (ix2 i j) = V m c main_v2 (ix2 i j) := by blk_point [iblk, idx t]
  rw [e]
  entry_read
  pointwise []

theorem tile (G h o : FVec Ideal S512x1024 .f32) (g : FVec Ideal S1x1024 .f32) (i : Fin 512) (j : Fin 1024) :
    k0_pay7 (F := Ideal) G h o g (ix2 i j)
      = (fun (a b : EReal) => a + b) (o (ix2 i j)) (Norm.gradK (fun d => h (ix2 i d)) (fun d => G (ix2 i d) * g (ix2 0 d)) j) := by
  pointwise [k0_pay7, k0_pay5]
  rfl

theorem gain (G h : FVec Ideal S512x1024 .f32) (i : Fin 1) (j : Fin 1024) :
    k0_pay6 (F := Ideal) G h (ix2 i j) = ∑ n : Fin 512, G (ix2 n j) * h (ix2 n j) * Norm.inv (fun d => h (ix2 n d)) := by
  pointwise [k0_pay6, k0_pay5]
  rfl

/-- The activations' gradient: what passed by, and the norm's. -/
def OUT (c : Dev nD) (n : Fin 4096) (d : Fin 1024) : EReal :=
  (fun (a b : EReal) => a + b) (m ((c : Thread nD τ).loc main_arg4) (ix2 n d)) (Norm.gradK (H m c n) (Y m c n) d)

theorem point5 (c : Dev nD) (t : Fin cfg0.N) (ht : t.val % 2 = 1) (y) :
    k0_pay7 (F := Ideal) (acc m c t) (iblk m c 2 t) (iblk m c 3 t) (iblk m c 4 t) y
      = (fun j : S4096x1024.Idx => OUT m c (j 0) (j 1)) (((cfg0.win 5).blk t).view.emb y) := by
  idx_vars y
  refine (tile _ _ _ _ y0 y1).trans ?_
  simp only [point m c t ht, read2, read3, read4]
  have e0 : ((View.whole main_v3_0).slice (win0_5.rect t)).emb (ix2 y0 y1) 0 = (⟨t.val / 2 * 512 + y0, inside t y0⟩ : Fin 4096) := Fin.ext (by blk_point [idx t])
  have e1 : ((View.whole main_v3_0).slice (win0_5.rect t)).emb (ix2 y0 y1) 1 = (y1 : Fin 1024) := Fin.ext (by blk_point [idx t])
  exact (congr (congrArg (fun n => OUT m c n) e0) e1).symm

theorem final5 (c : Dev nD) : (dats m 0 c).arrAt 5 (cfgs 0).N = fun j : S4096x1024.Idx => OUT m c (j 0) (j 1) := by
  refine (dats m 0 c).arrAt_eq_of_covers 5 _ (by decide +kernel) fun t hf y => ?_
  have ht : t.val % 2 = 1 := (flush0_5 t).mp hf
  blk_simp; rw [after0_5]
  by_cases h : t.val < 2
  · rw [outsAt0_B m c t (by omega) ht ht h (by omega)]
    frame_out
    simp only [read_unread_whole]
    exact point5 m c t ht y
  · rw [outsAt0_C m c t (by omega) ht ht h (by omega)]
    frame_out
    simp only [read_unread_whole]
    exact point5 m c t ht y

/-- One token's share of the gain's gradient. -/
def dgain (c : Dev nD) (n : Fin 4096) (d : Fin 1024) : EReal := B m c n d * H m c n d * Norm.inv (H m c n)

/-- A tile's sum of it. -/
def tsum (c : Dev nD) (q : Fin 8) (j : Fin 1024) : EReal := ∑ i : Fin 512, dgain m c ⟨(q : ℕ) * 512 + i, by omega⟩ j

/-- The whole sum. -/
def gsum (c : Dev nD) (j : Fin 1024) : EReal := ∑ n : Fin 4096, dgain m c n j

theorem last (n : ℕ) (h : n < 8) : 2 * n + 1 < cfg0.N := lt_of_lt_of_eq (show 2 * n + 1 < 16 by omega) (show 16 = cfg0.N from N_0.symm)

theorem gain_tile (c : Dev nD) (q : Fin 8) (t : Fin cfg0.N) (ht : t.val = 2 * q.val + 1) (i : Fin 1) (j : Fin 1024) :
    k0_pay6 (F := Ideal) (acc m c t) (iblk m c 2 t) (ix2 i j) = tsum m c q j := by
  refine (gain _ _ i j).trans ?_
  simp only [point m c t (by omega), read2]
  unfold tsum dgain
  refine Finset.sum_congr rfl fun n _ => ?_
  have e : (⟨t.val / 2 * 512 + n, inside t n⟩ : Fin 4096) = ⟨(q : ℕ) * 512 + n, by omega⟩ := Fin.ext (by dsimp only; omega)
  rw [e]

theorem add_gain (v a : FVec Ideal S1x1024 .f32) (i : Fin 1) (j : Fin 1024) :
    k0_pay4 (F := Ideal) v a (ix2 i j) = (fun (a b : EReal) => a + b) (a (ix2 i j)) (v (ix2 i j)) := by
  pointwise [k0_pay4]

/-- A tile's first step leaves the sum as it stood. -/
theorem keep (c : Dev nD) (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega) (by omega)]
  rfl

theorem first (c : Dev nD) (q : Fin 8) (h : q.val = 0) (t : Fin cfg0.N) (ht : t.val = 2 * q.val + 1) (j : S1x1024.Idx) :
    (outsAt0 m c t.val t.isLt).2.1 j = tsum m c q (j 1) := by
  rw [outsAt0_B m c t (by omega) (by omega) (by omega) (by omega) (by omega)]
  frame_out
  simp only [read_unread_whole]
  idx_vars j
  exact gain_tile m c q t ht _ _

theorem next (c : Dev nD) (q : Fin 8) (h : ¬q.val = 0) (t : Fin cfg0.N) (ht : t.val = 2 * q.val + 1) (j : S1x1024.Idx) :
    (outsAt0 m c t.val t.isLt).2.1 j
      = (fun (a b : EReal) => a + b) ((outsAt0 m c (2 * (q.val - 1) + 1) (last _ (by omega))).2.1 j) (tsum m c q (j 1)) := by
  have l1 : t.val - 1 < cfg0.N := Nat.lt_of_le_of_lt (Nat.sub_le _ _) t.isLt
  have k := keep m c ⟨t.val - 1, l1⟩ (by dsimp only; omega)
  have e : (⟨t.val - 1 - 1, Nat.lt_of_le_of_lt (Nat.sub_le _ _) l1⟩ : Fin cfg0.N) = ⟨2 * (q.val - 1) + 1, last _ (by omega)⟩ :=
    Fin.ext (by dsimp only; omega)
  have k2 : (outsAt0 m c (t.val - 1) l1).2.1 = (outsAt0 m c (2 * (q.val - 1) + 1) (last _ (by omega))).2.1 :=
    k.trans (congrArg (fun s : Fin cfg0.N => (outsAt0 m c s.val s.isLt).2.1) e)
  rw [outsAt0_C m c t (by omega) (by omega) (by omega) (by omega) (by omega)]
  frame_out
  simp only [read_unread_whole]
  idx_vars j
  refine (add_gain _ _ _ _).trans ?_
  rw [k2]
  exact congrArg _ (gain_tile m c q t ht _ _)

theorem final6 (c : Dev nD) : (dats m 0 c).arrAt 6 (cfgs 0).N = fun j : S1x1024.Idx => gsum m c (j 1) := by
  refine (dats m 0 c).arrAt_eq_of_after_last 6 t0_15 (by decide +kernel) _ fun j => ?_
  blk_simp
  rw [after0_6]
  have key := Pipeline.eq_sum_fin_of_reset_step_apply_last (N := 8) (fun n h => (outsAt0 m c (2 * n + 1) (last n h)).2.1) 8 (fun _ => (0 : EReal))
    (fun q (j : S1x1024.Idx) => tsum m c q (j 1))
    (fun q h j => by
      rw [zero_add]
      exact first m c q (by omega) ⟨2 * q.val + 1, last _ q.isLt⟩ rfl j)
    (fun q h j => next m c q (by omega) ⟨2 * q.val + 1, last _ q.isLt⟩ rfl j)
    (le_refl 8) 7 rfl j
  refine key.trans ?_
  rw [zero_add]
  idx_vars j
  unfold gsum tsum
  rw [Fin.sum_univ_tiles 8 512 rfl]

end Kernel

section Reference
open Cert.Reference20Ideal Cert.Reference20Ideal.Gen Cert.Reference20Ideal.Value

/-- The product's gradient as the reference's operation spells it. -/
def backV (w : FVec Ideal S1024x4096 .f32) (dz : FVec Ideal S4096x4096 .f32) : FVec Ideal S4096x1024 .f32 :=
  Host.dotGeneral (F := Ideal) (φ₁ := .f32) (φ₂ := .f32) dot_S4096x4096_S1024x4096_S4096x1024_1_1_0_0_n_n none dz w

theorem backV_eq (w : FVec Ideal S1024x4096 .f32) (dz : FVec Ideal S4096x4096 .f32) (n : Fin 4096) (d : Fin 1024) :
    backV w dz (ix2 n d) = back w dz n d := by
  unfold backV
  pointwise [back]

variable (m' : (ℓ : Loc nD τ sig) → Buf (Elt Ideal) ℓ)

/-- The differentiated norm, added to what passed by. -/
theorem ref0 (c : Dev nD) (n : Fin 4096) (d : Fin 1024) : res_main_v38 m' c (ix2 n d)
    = (fun (a b : EReal) => a + b) (m' ((c : Thread nD τ).loc main_arg4) (ix2 n d))
      (Norm.gradR (fun d => (m' ((c : Thread nD τ).loc main_arg0) : FVec Ideal S4096x1024 .f32) (ix2 n d))
        (fun d => back (m' ((c : Thread nD τ).loc main_arg2)) (m' ((c : Thread nD τ).loc main_arg3)) n d
          * (m' ((c : Thread nD τ).loc main_arg1) : FVec Ideal S1024 .f32) (ix1 d)) d) := by
  simp only [← backV_eq]
  unfold res_main_v38
  generalize hG : Host.dotGeneral (F := Ideal) (φ₁ := .f32) (φ₂ := .f32) dot_S4096x4096_S1024x4096_S4096x1024_1_1_0_0_n_n none _ _ = G
  have hr : backV (m' ((c : Thread nD τ).loc main_arg2)) (m' ((c : Thread nD τ).loc main_arg3)) = G := by
    rw [← hG]; rfl
  clear hG
  rw [hr]
  pointwise []
  simp only [Fin.sum_univ_one]
  rfl

/-- The gain's gradient over any incoming gradient. -/
theorem ref1 (G x : FVec Ideal S4096x1024 .f32) (j : Fin 1024) (k : Fin 1) :
    shapeCast S1x1024
      (Host.reduceAdd
        (shapeCast S1x1024
          (Host.reduceAdd
            (mulf
              (mulf x
                (broadcastInDim S4096x1024 ![0, 1] bcast_S4096x1_S4096x1024_0_1
                  (Host.rsqrt
                    (addf
                      (Host.divf
                        (broadcastInDim S4096x1 ![0] bcast_S4096_S4096x1_0
                          (Host.reduceAdd (mulf x x) (constant S_ .f32 0#32) reducesTo_S4096x1024_S4096_d1 h_S_))
                        (broadcastInDim S4096x1 ![] bcast_S_S4096x1 (constant S_ .f32 1149239296#32)))
                      (broadcastInDim S4096x1 ![] bcast_S_S4096x1 (constant S_ .f32 897988541#32))))))
              G)
            (constant S_ .f32 0#32) reducesTo_S4096x1024_S1024_d0 h_S_)
          shapeCasts_S1024_S1x1024)
        (constant S_ .f32 0#32) reducesTo_S1x1024_S1024_d0 h_S_)
      shapeCasts_S1024_S1x1024 (ix2 k j)
    = ∑ n : Fin 4096, x (ix2 n j) * Norm.inv (fun d => x (ix2 n d)) * G (ix2 n j) := by
  pointwise []
  simp only [Fin.sum_univ_one]
  rfl

end Reference

/-- The arrays the precondition speaks of are real. -/
theorem reals (a0 : FVec Ideal Cert.Kernel20Ideal.S4096x1024 .f32) (a1 : FVec Ideal Cert.Kernel20Ideal.S1024 .f32) (a2 : FVec Ideal Cert.Kernel20Ideal.S1024x4096 .f32) (a3 : FVec Ideal Cert.Kernel20Ideal.S4096x4096 .f32) (a4 : FVec Ideal Cert.Kernel20Ideal.S4096x1024 .f32)
    (h : (haveI := Cert.Pre_finite_mix.Gen.facts; Cert.Pre_finite_mix.fn (F := Ideal) a0 a1 a2 a3 a4) = fun _ => 1#1) :
    Finite.AllReal a0 ∧ Finite.AllReal a1 ∧ Finite.AllReal a2 ∧ Finite.AllReal a3 := by
  have h := congrFun h ix0
  simp only [Cert.Pre_finite_mix.fn, Cert.Pre_finite_mix.fn_part1] at h
  obtain ⟨h, h3⟩ := IntOp.andi_eq_one.1 h
  obtain ⟨h, h2⟩ := IntOp.andi_eq_one.1 h
  obtain ⟨h0, h1⟩ := IntOp.andi_eq_one.1 h
  exact ⟨Finite.all_real a0 _ (fun _ => Finite.inf_word) _ _ _ _ h0,
    Finite.all_real a1 _ (fun _ => Finite.inf_word) _ _ _ _ h1,
    Finite.all_real a2 _ (fun _ => Finite.inf_word) _ _ _ _ h2,
    Finite.all_real a3 _ (fun _ => Finite.inf_word) _ _ _ _ h3⟩

section Claim

variable (m : (ℓ : Loc Cert.Kernel20Ideal.nD Cert.Kernel20Ideal.τ Cert.Kernel20Ideal.sig) → Buf (Elt Ideal) ℓ)
  (m' : (ℓ : Loc Cert.Reference20Ideal.nD Cert.Reference20Ideal.τ Cert.Reference20Ideal.sig) → Buf (Elt Ideal) ℓ)

/-- The two launches hold the same arrays, and all but the passing gradient are real. -/
structure Same (c : Dev Cert.Kernel20Ideal.nD) : Prop where
  e0 : m' ((c : Thread Cert.Reference20Ideal.nD Cert.Reference20Ideal.τ).loc Cert.Reference20Ideal.main_arg0) = m ((c : Thread Cert.Kernel20Ideal.nD Cert.Kernel20Ideal.τ).loc Cert.Kernel20Ideal.main_arg0)
  e1 : m' ((c : Thread Cert.Reference20Ideal.nD Cert.Reference20Ideal.τ).loc Cert.Reference20Ideal.main_arg1) = m ((c : Thread Cert.Kernel20Ideal.nD Cert.Kernel20Ideal.τ).loc Cert.Kernel20Ideal.main_arg1)
  e2 : m' ((c : Thread Cert.Reference20Ideal.nD Cert.Reference20Ideal.τ).loc Cert.Reference20Ideal.main_arg2) = m ((c : Thread Cert.Kernel20Ideal.nD Cert.Kernel20Ideal.τ).loc Cert.Kernel20Ideal.main_arg2)
  e3 : m' ((c : Thread Cert.Reference20Ideal.nD Cert.Reference20Ideal.τ).loc Cert.Reference20Ideal.main_arg3) = m ((c : Thread Cert.Kernel20Ideal.nD Cert.Kernel20Ideal.τ).loc Cert.Kernel20Ideal.main_arg3)
  e4 : m' ((c : Thread Cert.Reference20Ideal.nD Cert.Reference20Ideal.τ).loc Cert.Reference20Ideal.main_arg4) = m ((c : Thread Cert.Kernel20Ideal.nD Cert.Kernel20Ideal.τ).loc Cert.Kernel20Ideal.main_arg4)
  r0 : Finite.AllReal (s := Cert.Kernel20Ideal.S4096x1024) (m ((c : Thread Cert.Kernel20Ideal.nD Cert.Kernel20Ideal.τ).loc Cert.Kernel20Ideal.main_arg0))
  r1 : Finite.AllReal (s := Cert.Kernel20Ideal.S1024) (m ((c : Thread Cert.Kernel20Ideal.nD Cert.Kernel20Ideal.τ).loc Cert.Kernel20Ideal.main_arg1))
  r2 : Finite.AllReal (s := Cert.Kernel20Ideal.S1024x4096) (m ((c : Thread Cert.Kernel20Ideal.nD Cert.Kernel20Ideal.τ).loc Cert.Kernel20Ideal.main_arg2))
  r3 : Finite.AllReal (s := Cert.Kernel20Ideal.S4096x4096) (m ((c : Thread Cert.Kernel20Ideal.nD Cert.Kernel20Ideal.τ).loc Cert.Kernel20Ideal.main_arg3))

variable {m m'} {c : Dev Cert.Kernel20Ideal.nD} (S : Same m m' c)
include S

theorem Y_real (n d) : ∃ r : ℝ, Y m c n d = r :=
  Finite.real_mul (Finite.real_sum _ _ fun _ => Finite.real_mul (S.r3 _) (S.r2 _)) (S.r1 _)

/-- The activations' gradient, both ways. -/
theorem out_eq (n : Fin 4096) (d : Fin 1024) : Cert.Reference20Ideal.Value.res_main_v38 m' c (ix2 n d) = OUT m c n d := by
  rw [ref0, S.e0, S.e1, S.e2, S.e3, S.e4]
  exact congrArg (fun z : EReal => (fun (a b : EReal) => a + b) (m ((c : Thread Cert.Kernel20Ideal.nD Cert.Kernel20Ideal.τ).loc Cert.Kernel20Ideal.main_arg4) (ix2 n d)) z)
    (Norm.grad_eq (H m c n) (Y m c n) (fun _ => S.r0 _) (Y_real S n) d).1.symm

end Claim

/-- The gain's gradient, in the reference's order of factors. -/
theorem gain_eq (m : (ℓ : Loc Cert.Kernel20Ideal.nD Cert.Kernel20Ideal.τ Cert.Kernel20Ideal.sig) → Buf (Elt Ideal) ℓ) (c : Dev Cert.Kernel20Ideal.nD)
    (x G : FVec Ideal Cert.Kernel20Ideal.S4096x1024 .f32) (hx : ∀ n d, x (ix2 n d) = H m c n d) (hG : ∀ n d, G (ix2 n d) = B m c n d) (j : Fin 1024) :
    (∑ n : Fin 4096, x (ix2 n j) * Norm.inv (fun d => x (ix2 n d)) * G (ix2 n j)) = gsum m c j := by
  refine Finset.sum_congr rfl fun n _ => ?_
  have key : ∀ x i g : EReal, x * i * g = g * x * i := fun x i g => by rw [mul_comm, ← mul_assoc]
  simp only [hx, hG]
  exact key _ _ _

set_option maxHeartbeats 4000000 in
theorem algebraic : Cert.algebraic_Kernel20Ideal_Reference20Ideal_pre_finite_mix := by
  pair_intro
  · run_from Cert.Kernel20Ideal.Gen.run_main m g
  · have S : ∀ c, Same m m' c := fun c => by
      obtain ⟨h0, h1, h2, h3, h4⟩ := hagree c
      obtain ⟨r0, r1, r2, r3⟩ := reals _ _ _ _ _ (hpre c)
      exact ⟨h0, h1, h2, h3, h4, r0, r1, r2, r3⟩
    run_from Cert.Reference20Ideal.Value.run m' g'
    · rw [final5 m c]; funext j; idx_vars j
      exact out_eq (S c) _ _
    · rw [final6 m c]; funext j; idx_vars j
      refine (ref1 (backV _ _) _ _ _).trans ?_
      exact gain_eq m c _ _ (fun _ _ => rfl) (fun _ _ => backV_eq _ _ _ _) _

end Cert.InDx

end
-- ==== Proof.lean ====
/- The proof of the claims: the programs' frames and the value claims, one module for each call. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Pre_finite_attn
public import proofs.«01_k».proof.Proof.Gen.Pre_finite_dact
public import proofs.«01_k».proof.Proof.Gen.Pre_finite_dn
public import proofs.«01_k».proof.Proof.Gen.Pre_finite_dnx
public import proofs.«01_k».proof.Proof.Gen.Pre_finite_dnt
public import proofs.«01_k».proof.Proof.Gen.Pre_finite_mix
public import proofs.«01_k».proof.Proof.Attn
public import proofs.«01_k».proof.Proof.Dact
public import proofs.«01_k».proof.Proof.Dn
public import proofs.«01_k».proof.Proof.Dnx
public import proofs.«01_k».proof.Proof.Dnt
public import proofs.«01_k».proof.Proof.DwIn
public import proofs.«01_k».proof.Proof.DwDown
public import proofs.«01_k».proof.Proof.Up
public import proofs.«01_k».proof.Proof.Down
public import proofs.«01_k».proof.Proof.Down2
public import proofs.«01_k».proof.Proof.DownLoss
public import proofs.«01_k».proof.Proof.OutDx
public import proofs.«01_k».proof.Proof.OutDw
public import proofs.«01_k».proof.Proof.GmlpInDw
public import proofs.«01_k».proof.Proof.AttnOutDx
public import proofs.«01_k».proof.Proof.AttnOutDw
public import proofs.«01_k».proof.Proof.GmlpOut
public import proofs.«01_k».proof.Proof.AttnOut
public import proofs.«01_k».proof.Proof.InDx
public import Idealize.ShloMosaic.Adequacy
public import Idealize.ShloMosaic.Init

@[expose] public section

noncomputable section

namespace Cert.Proof

open Idealize.ShloMosaic Idealize.SL.Sem

/-- `Reference2Ideal` runs and leaves its arguments as they were. -/
theorem frame_Reference2Ideal : Cert.quiescent_Reference2Ideal := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m ρ)

/-- `Reference3Ideal` runs and leaves its arguments as they were. -/
theorem frame_Reference3Ideal : Cert.quiescent_Reference3Ideal := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)

/-- `Reference4Ideal` runs and leaves its arguments as they were. -/
theorem frame_Reference4Ideal : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- `Reference9Ideal` runs and leaves its arguments as they were. -/
theorem frame_Reference9Ideal : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)

/-- `Reference10Ideal` runs and leaves its arguments as they were. -/
theorem frame_Reference10Ideal : Cert.quiescent_Reference10Ideal := fun m ρ _ =>
  (θ_run Cert.Reference10Ideal.defs _ _).mono (fun r h => ⟨fun c => (h c).2.2.2.2, Idealize.ShloMosaic.sem_eq_zero_of_no_sems (by decide) r.2⟩)
    (Cert.Reference10Ideal.Value.run (F := Ideal) m ρ)

/-- `Reference5Ideal` runs and leaves its arguments as they were. -/
theorem frame_Reference5Ideal : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

/-- `Reference6Ideal` runs and leaves its arguments as they were. -/
theorem frame_Reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- `Reference7Ideal` runs and leaves its arguments as they were. -/
theorem frame_Reference7Ideal : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

/-- `Reference8Ideal` runs and leaves its arguments as they were. -/
theorem frame_Reference8Ideal : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

/-- `Reference11Ideal` runs and leaves its arguments as they were. -/
theorem frame_Reference11Ideal : Cert.quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

/-- `Reference12Ideal` runs and leaves its arguments as they were. -/
theorem frame_Reference12Ideal : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

/-- `Reference13Ideal` runs and leaves its arguments as they were. -/
theorem frame_Reference13Ideal : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- `Reference14Ideal` runs and leaves its arguments as they were. -/
theorem frame_Reference14Ideal : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- `Reference15Ideal` runs and leaves its arguments as they were. -/
theorem frame_Reference15Ideal : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

/-- `Reference16Ideal` runs and leaves its arguments as they were. -/
theorem frame_Reference16Ideal : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

/-- `Reference17Ideal` runs and leaves its arguments as they were. -/
theorem frame_Reference17Ideal : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

/-- `Reference18Ideal` runs and leaves its arguments as they were. -/
theorem frame_Reference18Ideal : Cert.quiescent_Reference18Ideal := fun m ρ _ =>
  (θ_run Cert.Reference18Ideal.defs _ _).mono (fun r h => ⟨fun c => (h c).2.2.2, Idealize.ShloMosaic.sem_eq_zero_of_no_sems (by decide) r.2⟩)
    (Cert.Reference18Ideal.Value.run (F := Ideal) m ρ)

/-- `Reference19Ideal` runs and leaves its arguments as they were. -/
theorem frame_Reference19Ideal : Cert.quiescent_Reference19Ideal := fun m ρ _ =>
  (θ_run Cert.Reference19Ideal.defs _ _).mono (fun r h => ⟨fun c => (h c).2.2.2, Idealize.ShloMosaic.sem_eq_zero_of_no_sems (by decide) r.2⟩)
    (Cert.Reference19Ideal.Value.run (F := Ideal) m ρ)

/-- `Reference20Ideal` runs and leaves its arguments as they were. -/
theorem frame_Reference20Ideal : Cert.quiescent_Reference20Ideal := fun m ρ _ =>
  (θ_run Cert.Reference20Ideal.defs _ _).mono (fun r h => ⟨fun c => (h c).2.2, Idealize.ShloMosaic.sem_eq_zero_of_no_sems (by decide) r.2⟩)
    (Cert.Reference20Ideal.Value.run (F := Ideal) m ρ)

theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Pre_finite_attn.Gen.facts,
    Cert.Pre_finite_dact.Gen.facts,
    Cert.Pre_finite_dn.Gen.facts,
    Cert.Pre_finite_dnx.Gen.facts,
    Cert.Pre_finite_dnt.Gen.facts,
    Cert.Pre_finite_mix.Gen.facts,
    fun m ρ _ => Cert.Kernel2.Gen.frame m ρ,
    fun m ρ _ => Cert.Kernel2.Gen.frame m ρ,
    fun m ρ _ => Cert.Kernel2Ideal.Gen.frame m ρ,
    fun m ρ _ => Cert.Kernel2Ideal.Gen.frame m ρ,
    frame_Reference2Ideal,
    fun m ρ _ => frame_Reference2Ideal m ρ trivial,
    fun m ρ _ => Cert.Kernel3.Gen.frame m ρ,
    fun m ρ _ => Cert.Kernel3.Gen.frame m ρ,
    fun m ρ _ => Cert.Kernel3Ideal.Gen.frame m ρ,
    fun m ρ _ => Cert.Kernel3Ideal.Gen.frame m ρ,
    frame_Reference3Ideal,
    fun m ρ _ => frame_Reference3Ideal m ρ trivial,
    fun m ρ _ => Cert.Kernel4.Gen.frame m ρ,
    fun m ρ _ => Cert.Kernel4.Gen.frame m ρ,
    fun m ρ _ => Cert.Kernel4Ideal.Gen.frame m ρ,
    fun m ρ _ => Cert.Kernel4Ideal.Gen.frame m ρ,
    frame_Reference4Ideal,
    fun m ρ _ => frame_Reference4Ideal m ρ trivial,
    fun m ρ _ => Cert.Kernel9.Gen.frame m ρ,
    fun m ρ _ => Cert.Kernel9.Gen.frame m ρ,
    fun m ρ _ => Cert.Kernel9Ideal.Gen.frame m ρ,
    fun m ρ _ => Cert.Kernel9Ideal.Gen.frame m ρ,
    frame_Reference9Ideal,
    fun m ρ _ => frame_Reference9Ideal m ρ trivial,
    fun m ρ _ => Cert.Kernel10.Gen.frame m ρ,
    fun m ρ _ => Cert.Kernel10.Gen.frame m ρ,
    fun m ρ _ => Cert.Kernel10Ideal.Gen.frame m ρ,
    fun m ρ _ => Cert.Kernel10Ideal.Gen.frame m ρ,
    frame_Reference10Ideal,
    fun m ρ _ => frame_Reference10Ideal m ρ trivial,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    frame_Reference6Ideal,
    fun m ρ _ => Cert.Kernel7.Gen.frame m ρ,
    fun m ρ _ => Cert.Kernel7Ideal.Gen.frame m ρ,
    frame_Reference7Ideal,
    fun m ρ _ => Cert.Kernel8.Gen.frame m ρ,
    fun m ρ _ => Cert.Kernel8Ideal.Gen.frame m ρ,
    frame_Reference8Ideal,
    fun m ρ _ => Cert.Kernel11.Gen.frame m ρ,
    fun m ρ _ => Cert.Kernel11Ideal.Gen.frame m ρ,
    frame_Reference11Ideal,
    fun m ρ _ => Cert.Kernel12.Gen.frame m ρ,
    fun m ρ _ => Cert.Kernel12Ideal.Gen.frame m ρ,
    frame_Reference12Ideal,
    fun m ρ _ => Cert.Kernel13.Gen.frame m ρ,
    fun m ρ _ => Cert.Kernel13Ideal.Gen.frame m ρ,
    frame_Reference13Ideal,
    fun m ρ _ => Cert.Kernel14.Gen.frame m ρ,
    fun m ρ _ => Cert.Kernel14Ideal.Gen.frame m ρ,
    frame_Reference14Ideal,
    fun m ρ _ => Cert.Kernel15.Gen.frame m ρ,
    fun m ρ _ => Cert.Kernel15Ideal.Gen.frame m ρ,
    frame_Reference15Ideal,
    fun m ρ _ => Cert.Kernel16.Gen.frame m ρ,
    fun m ρ _ => Cert.Kernel16Ideal.Gen.frame m ρ,
    frame_Reference16Ideal,
    fun m ρ _ => Cert.Kernel17.Gen.frame m ρ,
    fun m ρ _ => Cert.Kernel17Ideal.Gen.frame m ρ,
    frame_Reference17Ideal,
    fun m ρ _ => Cert.Kernel18.Gen.frame m ρ,
    fun m ρ _ => Cert.Kernel18Ideal.Gen.frame m ρ,
    frame_Reference18Ideal,
    fun m ρ _ => Cert.Kernel19.Gen.frame m ρ,
    fun m ρ _ => Cert.Kernel19Ideal.Gen.frame m ρ,
    frame_Reference19Ideal,
    fun m ρ _ => Cert.Kernel20.Gen.frame m ρ,
    fun m ρ _ => Cert.Kernel20.Gen.frame m ρ,
    fun m ρ _ => Cert.Kernel20Ideal.Gen.frame m ρ,
    fun m ρ _ => Cert.Kernel20Ideal.Gen.frame m ρ,
    frame_Reference20Ideal,
    fun m ρ _ => frame_Reference20Ideal m ρ trivial,
    IdealRules.named_const.statement Cert.Kernel2Ideal.κ "mask" .f32 0xF149F2CA#32 ⊥ rfl,
    Cert.Attn.algebraic,
    trivial,
    Cert.Dact.algebraic,
    trivial,
    Cert.Dn.algebraic,
    trivial,
    Cert.Dnx.algebraic,
    trivial,
    Cert.Dnt.algebraic,
    trivial,
    Cert.DwIn.algebraic,
    trivial,
    Cert.DwDown.algebraic,
    trivial,
    Cert.Up.algebraic,
    trivial,
    Cert.Down.algebraic,
    trivial,
    Cert.Down2.algebraic,
    trivial,
    Cert.DownLoss.algebraic,
    trivial,
    Cert.OutDx.algebraic,
    trivial,
    Cert.OutDw.algebraic,
    trivial,
    Cert.GmlpInDw.algebraic,
    trivial,
    Cert.AttnOutDx.algebraic,
    trivial,
    Cert.AttnOutDw.algebraic,
    trivial,
    Cert.GmlpOut.algebraic,
    trivial,
    Cert.AttnOut.algebraic,
    trivial,
    Cert.InDx.algebraic⟩

end Cert.Proof

end
